-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v20)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v20) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v53_0)) (v1 : (c : Dev Cert.InProjIdeal.nD) → Buf (Elt Ideal) ((c.tc : Thread Cert.InProjIdeal.nD Cert.InProjIdeal.τ).loc Cert.InProjIdeal.main_v53_1)) (v2 : (c : Dev Cert.InProjIdeal.nD) → Buf (Elt Ideal) ((c.tc : Thread Cert.InProjIdeal.nD Cert.InProjIdeal.τ).loc Cert.InProjIdeal.main_v53_2)) (v3 : (c : Dev Cert.InProjIdeal.nD) → Buf (Elt Ideal) ((c.tc : Thread Cert.InProjIdeal.nD Cert.InProjIdeal.τ).loc Cert.InProjIdeal.main_v53_3)) (v4 : (c : Dev Cert.InProjIdeal.nD) → Buf (Elt Ideal) ((c.tc : Thread Cert.InProjIdeal.nD Cert.InProjIdeal.τ).loc Cert.InProjIdeal.main_v53_4)) (v5 : (c : Dev Cert.InProjIdeal.nD) → Buf (Elt Ideal) ((c.tc : Thread Cert.InProjIdeal.nD Cert.InProjIdeal.τ).loc Cert.InProjIdeal.main_v53_5)) (v6 : (c : Dev Cert.InProjIdeal.nD) → Buf (Elt Ideal) ((c.tc : Thread Cert.InProjIdeal.nD Cert.InProjIdeal.τ).loc Cert.InProjIdeal.main_v53_6)) (v7 : (c : Dev Cert.InProjIdeal.nD) → Buf (Elt Ideal) ((c.tc : Thread Cert.InProjIdeal.nD Cert.InProjIdeal.τ).loc Cert.InProjIdeal.main_v53_7)) (v8 : (c : Dev Cert.InProjIdeal.nD) → Buf (Elt Ideal) ((c.tc : Thread Cert.InProjIdeal.nD Cert.InProjIdeal.τ).loc Cert.InProjIdeal.main_v53_8)) (v9 : (c : Dev Cert.InProjIdeal.nD) → Buf (Elt Ideal) ((c.tc : Thread Cert.InProjIdeal.nD Cert.InProjIdeal.τ).loc Cert.InProjIdeal.main_v53_9)) (v10 : (c : Dev Cert.InProjIdeal.nD) → Buf (Elt Ideal) ((c.tc : Thread Cert.InProjIdeal.nD Cert.InProjIdeal.τ).loc Cert.InProjIdeal.main_v53_10)) (v11 : (c : Dev Cert.InProjIdeal.nD) → Buf (Elt Ideal) ((c.tc : Thread Cert.InProjIdeal.nD Cert.InProjIdeal.τ).loc Cert.InProjIdeal.main_v53_11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v53_0) = v0 c
          ∧ r.2.mem ((c.tc : Thread Cert.InProjIdeal.nD Cert.InProjIdeal.τ).loc Cert.InProjIdeal.main_v53_1) = v1 c
          ∧ r.2.mem ((c.tc : Thread Cert.InProjIdeal.nD Cert.InProjIdeal.τ).loc Cert.InProjIdeal.main_v53_2) = v2 c
          ∧ r.2.mem ((c.tc : Thread Cert.InProjIdeal.nD Cert.InProjIdeal.τ).loc Cert.InProjIdeal.main_v53_3) = v3 c
          ∧ r.2.mem ((c.tc : Thread Cert.InProjIdeal.nD Cert.InProjIdeal.τ).loc Cert.InProjIdeal.main_v53_4) = v4 c
          ∧ r.2.mem ((c.tc : Thread Cert.InProjIdeal.nD Cert.InProjIdeal.τ).loc Cert.InProjIdeal.main_v53_5) = v5 c
          ∧ r.2.mem ((c.tc : Thread Cert.InProjIdeal.nD Cert.InProjIdeal.τ).loc Cert.InProjIdeal.main_v53_6) = v6 c
          ∧ r.2.mem ((c.tc : Thread Cert.InProjIdeal.nD Cert.InProjIdeal.τ).loc Cert.InProjIdeal.main_v53_7) = v7 c
          ∧ r.2.mem ((c.tc : Thread Cert.InProjIdeal.nD Cert.InProjIdeal.τ).loc Cert.InProjIdeal.main_v53_8) = v8 c
          ∧ r.2.mem ((c.tc : Thread Cert.InProjIdeal.nD Cert.InProjIdeal.τ).loc Cert.InProjIdeal.main_v53_9) = v9 c
          ∧ r.2.mem ((c.tc : Thread Cert.InProjIdeal.nD Cert.InProjIdeal.τ).loc Cert.InProjIdeal.main_v53_10) = v10 c
          ∧ r.2.mem ((c.tc : Thread Cert.InProjIdeal.nD Cert.InProjIdeal.τ).loc Cert.InProjIdeal.main_v53_11) = v11 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v67) = v0 c
          ∧ r.2.mem ((c.tc : Thread Cert.InProjRefIdeal.nD Cert.InProjRefIdeal.τ).loc Cert.InProjRefIdeal.main_v83) = v1 c
          ∧ r.2.mem ((c.tc : Thread Cert.InProjRefIdeal.nD Cert.InProjRefIdeal.τ).loc Cert.InProjRefIdeal.main_v84) = v2 c
          ∧ r.2.mem ((c.tc : Thread Cert.InProjRefIdeal.nD Cert.InProjRefIdeal.τ).loc Cert.InProjRefIdeal.main_v102) = v3 c
          ∧ r.2.mem ((c.tc : Thread Cert.InProjRefIdeal.nD Cert.InProjRefIdeal.τ).loc Cert.InProjRefIdeal.main_v105) = v4 c
          ∧ r.2.mem ((c.tc : Thread Cert.InProjRefIdeal.nD Cert.InProjRefIdeal.τ).loc Cert.InProjRefIdeal.main_v41) = v5 c
          ∧ r.2.mem ((c.tc : Thread Cert.InProjRefIdeal.nD Cert.InProjRefIdeal.τ).loc Cert.InProjRefIdeal.main_v42) = v6 c
          ∧ r.2.mem ((c.tc : Thread Cert.InProjRefIdeal.nD Cert.InProjRefIdeal.τ).loc Cert.InProjRefIdeal.main_v142) = v7 c
          ∧ r.2.mem ((c.tc : Thread Cert.InProjRefIdeal.nD Cert.InProjRefIdeal.τ).loc Cert.InProjRefIdeal.main_v149) = v8 c
          ∧ r.2.mem ((c.tc : Thread Cert.InProjRefIdeal.nD Cert.InProjRefIdeal.τ).loc Cert.InProjRefIdeal.main_v156) = v9 c
          ∧ r.2.mem ((c.tc : Thread Cert.InProjRefIdeal.nD Cert.InProjRefIdeal.τ).loc Cert.InProjRefIdeal.main_v162) = v10 c
          ∧ r.2.mem ((c.tc : Thread Cert.InProjRefIdeal.nD Cert.InProjRefIdeal.τ).loc Cert.InProjRefIdeal.main_v168) = v11 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v7)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v7) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v70) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hCompress : Cert.Compress.Facts) (hCompressIdeal : Cert.CompressIdeal.Facts) (hCompressRefIdeal : Cert.CompressRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Compress (hCompress := hCompress)
    ∧ quiescent_CompressIdeal (hCompressIdeal := hCompressIdeal)
    ∧ quiescent_CompressRefIdeal (hCompressRefIdeal := hCompressRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Compress_CompressIdeal
    ∧ algebraic_CompressIdeal_CompressRefIdeal (hCompressIdeal := hCompressIdeal) (hCompressRefIdeal := hCompressRefIdeal)
-- ==== Pre_finite.lean ====
abbrev S32x2048x1024 : Shape := ⟨3, ![32, 2048, 1024]⟩
abbrev S1x4x64 : Shape := ⟨3, ![1, 4, 64]⟩
abbrev S1x8x128 : Shape := ⟨3, ![1, 8, 128]⟩
abbrev S_ : Shape := ⟨0, ![]⟩

class Facts : Prop where
  bcast_S_S32x2048x1024 : S_.BroadcastsInDim S32x2048x1024 (![] : Fin 0 → Fin S32x2048x1024.rank)
  bcast_S_S1x4x64 : S_.BroadcastsInDim S1x4x64 (![] : Fin 0 → Fin S1x4x64.rank)

variable [Facts]

def fn {F : FTy → Type} [FloatOps F] (main_arg0 : FVec F S32x2048x1024 .f32) (main_arg1 : FVec F S32x2048x1024 .f32) (main_arg2 : FVec F S32x2048x1024 .f32) (main_arg3 : FVec F S1x4x64 .f32) (main_arg4 : FVec F S1x8x128 .f32) : IVec S32x2048x1024 1 × IVec S32x2048x1024 1 × IVec S32x2048x1024 1 × IVec S1x4x64 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S32x2048x1024 .f32 := Host.absf main_arg1
  let main_cst_0 : FVec F S_ .f32 := constant S_ .f32 0x7F800000#32
  let main_v4 : FVec F S32x2048x1024 .f32 := broadcastInDim S32x2048x1024 ![] bcast_S_S32x2048x1024 main_cst_0
  let main_v5 : IVec S32x2048x1024 1 := cmpf .olt main_v3 main_v4
  let main_v6 : FVec F S32x2048x1024 .f32 := Host.absf main_arg2
  let main_cst_1 : FVec F S_ .f32 := constant S_ .f32 0x7F800000#32
  let main_v7 : FVec F S32x2048x1024 .f32 := broadcastInDim S32x2048x1024 ![] bcast_S_S32x2048x1024 main_cst_1
  let main_v8 : IVec S32x2048x1024 1 := cmpf .olt main_v6 main_v7
  let main_v9 : FVec F S1x4x64 .f32 := Host.absf main_arg3
  let main_cst_2 : FVec F S_ .f32 := constant S_ .f32 0x7F800000#32
  let main_v10 : FVec F S1x4x64 .f32 := broadcastInDim S1x4x64 ![] bcast_S_S1x4x64 main_cst_2
  let main_v11 : IVec S1x4x64 1 := cmpf .olt main_v9 main_v10
  (main_v2, main_v5, main_v8, main_v11)
-- ==== Kernel.lean ====
abbrev S32x2048x1024 : Shape := ⟨3, ![32, 2048, 1024]⟩
abbrev S1x4x64 : Shape := ⟨3, ![1, 4, 64]⟩
abbrev S1x8x128 : Shape := ⟨3, ![1, 8, 128]⟩
abbrev S4x64 : Shape := ⟨2, ![4, 64]⟩
abbrev S8x128 : Shape := ⟨2, ![8, 128]⟩
abbrev S8x1x128 : Shape := ⟨3, ![8, 1, 128]⟩
abbrev S1x1x128 : Shape := ⟨3, ![1, 1, 128]⟩
abbrev S1x2048x128 : Shape := ⟨3, ![1, 2048, 128]⟩
abbrev S2048x256 : Shape := ⟨2, ![2048, 256]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S1x128 : Shape := ⟨2, ![1, 128]⟩
abbrev S256x128 : Shape := ⟨2, ![256, 128]⟩
abbrev S256x256 : Shape := ⟨2, ![256, 256]⟩
abbrev S1x256x128 : Shape := ⟨3, ![1, 256, 128]⟩
abbrev S512x128 : Shape := ⟨2, ![512, 128]⟩
abbrev S512x2048 : Shape := ⟨2, ![512, 2048]⟩
abbrev S2x256x2048 : Shape := ⟨3, ![2, 256, 2048]⟩
abbrev S1x1792x128 : Shape := ⟨3, ![1, 1792, 128]⟩
abbrev S1792x128 : Shape := ⟨2, ![1792, 128]⟩
abbrev S512x1792 : Shape := ⟨2, ![512, 1792]⟩
abbrev S2x256x1792 : Shape := ⟨3, ![2, 256, 1792]⟩
abbrev S1x1536x128 : Shape := ⟨3, ![1, 1536, 128]⟩
abbrev S1536x128 : Shape := ⟨2, ![1536, 128]⟩
abbrev S512x1536 : Shape := ⟨2, ![512, 1536]⟩
abbrev S2x256x1536 : Shape := ⟨3, ![2, 256, 1536]⟩
abbrev S2x256x256 : Shape := ⟨3, ![2, 256, 256]⟩
abbrev S1x256x256 : Shape := ⟨3, ![1, 256, 256]⟩
abbrev S2x256 : Shape := ⟨2, ![2, 256]⟩
abbrev S2x256x1 : Shape := ⟨3, ![2, 256, 1]⟩
abbrev S512x256 : Shape := ⟨2, ![512, 256]⟩
abbrev S256 : Shape := ⟨1, ![256]⟩
abbrev S256x1 : Shape := ⟨2, ![256, 1]⟩
abbrev S1x1280x128 : Shape := ⟨3, ![1, 1280, 128]⟩
abbrev S1280x128 : Shape := ⟨2, ![1280, 128]⟩
abbrev S512x1280 : Shape := ⟨2, ![512, 1280]⟩
abbrev S2x256x1280 : Shape := ⟨3, ![2, 256, 1280]⟩
abbrev S1792x256 : Shape := ⟨2, ![1792, 256]⟩
abbrev S1x1024x128 : Shape := ⟨3, ![1, 1024, 128]⟩
abbrev S1024x128 : Shape := ⟨2, ![1024, 128]⟩
abbrev S512x1024 : Shape := ⟨2, ![512, 1024]⟩
abbrev S2x256x1024 : Shape := ⟨3, ![2, 256, 1024]⟩
abbrev S1536x256 : Shape := ⟨2, ![1536, 256]⟩
abbrev S1x768x128 : Shape := ⟨3, ![1, 768, 128]⟩
abbrev S768x128 : Shape := ⟨2, ![768, 128]⟩
abbrev S512x768 : Shape := ⟨2, ![512, 768]⟩
abbrev S2x256x768 : Shape := ⟨3, ![2, 256, 768]⟩
abbrev S1280x256 : Shape := ⟨2, ![1280, 256]⟩
abbrev S1x512x128 : Shape := ⟨3, ![1, 512, 128]⟩
abbrev S512x512 : Shape := ⟨2, ![512, 512]⟩
abbrev S2x256x512 : Shape := ⟨3, ![2, 256, 512]⟩
abbrev S1024x256 : Shape := ⟨2, ![1024, 256]⟩
abbrev S768x256 : Shape := ⟨2, ![768, 256]⟩

abbrev nBuf : Space → Nat
  | .hbm => 11
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S1x4x64, .f32⟩
  | .hbm, ⟨4, _⟩ => ⟨S1x8x128, .f32⟩
  | .hbm, ⟨5, _⟩ => ⟨S32x2048x1024, .bf16⟩
  | .hbm, ⟨6, _⟩ => ⟨S32x2048x1024, .bf16⟩
  | .hbm, ⟨7, _⟩ => ⟨S4x64, .f32⟩
  | .hbm, ⟨8, _⟩ => ⟨S8x128, .f32⟩
  | .hbm, ⟨9, _⟩ => ⟨S8x1x128, .f32⟩
  | .hbm, ⟨10, _⟩ => ⟨S32x2048x1024, .bf16⟩
  | .local _ .vmem, ⟨0, _⟩ => ⟨S4x64, .f32⟩
  | .local _ .vmem, ⟨1, _⟩ => ⟨S1x1x128, .f32⟩
  | .local _ .vmem, ⟨2, _⟩ => ⟨S1x1x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S2048x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "qscale" => some (((1 / 8) * (Real.log 2)⁻¹ : ℝ) : EReal)
  | _ => none
-- ==== ReferenceIdeal.lean ====
abbrev S32x2048x1024 : Shape := ⟨3, ![32, 2048, 1024]⟩
abbrev S1x4x64 : Shape := ⟨3, ![1, 4, 64]⟩
abbrev S1x8x128 : Shape := ⟨3, ![1, 8, 128]⟩
abbrev S32x2048x8x2x64 : Shape := ⟨5, ![32, 2048, 8, 2, 64]⟩
abbrev S32x2048x8x128 : Shape := ⟨4, ![32, 2048, 8, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2048 : Shape := ⟨1, ![2048]⟩
abbrev S32x8x2x2048x2048 : Shape := ⟨5, ![32, 8, 2, 2048, 2048]⟩
abbrev S1x2048 : Shape := ⟨2, ![1, 2048]⟩
abbrev S2048x1 : Shape := ⟨2, ![2048, 1]⟩
abbrev S2048x2048 : Shape := ⟨2, ![2048, 2048]⟩
abbrev S32x8x2x2048 : Shape := ⟨4, ![32, 8, 2, 2048]⟩
abbrev S32x8x2x2048x1 : Shape := ⟨5, ![32, 8, 2, 2048, 1]⟩
abbrev S32x8x1x2048x2048 : Shape := ⟨5, ![32, 8, 1, 2048, 2048]⟩
abbrev S32x8x2048x2048 : Shape := ⟨4, ![32, 8, 2048, 2048]⟩
abbrev S32x8x128x2048 : Shape := ⟨4, ![32, 8, 128, 2048]⟩
abbrev S32x2048x8 : Shape := ⟨3, ![32, 2048, 8]⟩
abbrev S32x2048x8x1 : Shape := ⟨4, ![32, 2048, 8, 1]⟩
abbrev S8x128 : Shape := ⟨2, ![8, 128]⟩
abbrev S1x1x8x128 : Shape := ⟨4, ![1, 1, 8, 128]⟩

abbrev nBuf : Space → Nat
  | .hbm => 88
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S1x4x64, .f32⟩
  | .hbm, ⟨4, _⟩ => ⟨S1x8x128, .f32⟩
  | .hbm, ⟨5, _⟩ => ⟨S32x2048x8x2x64, .f32⟩
  | .hbm, ⟨6, _⟩ => ⟨S32x2048x8x2x64, .f32⟩
  | .hbm, ⟨7, _⟩ => ⟨S32x2048x8x128, .f32⟩
  | .hbm, ⟨8, _⟩ => ⟨S4x64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048, .i32⟩
  | .hbm, ⟨29, _⟩ => ⟨S32x8x2x2048x2048, .f32⟩
  | .hbm, ⟨30, _⟩ => ⟨S_, .f32⟩
  | .hbm, ⟨31, _⟩ => ⟨S32x8x2x2048x2048, .f32⟩
  | .hbm, ⟨32, _⟩ => ⟨S32x8x2x2048x2048, .f32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S32x8x2x2048x2048, .i1⟩
  | .hbm, ⟨41, _⟩ => ⟨S32x8x2x2048x2048, .f32⟩
  | .hbm, ⟨42, _⟩ => ⟨S32x8x2x2048x2048, .f32⟩
  | .hbm, ⟨43, _⟩ => ⟨S_, .f32⟩
  | .hbm, ⟨44, _⟩ => ⟨S32x8x2x2048, .f32⟩
  | .hbm, ⟨45, _⟩ => ⟨S_, .f32⟩
  | .hbm, ⟨46, _⟩ => ⟨S32x8x2x2048, .f32⟩
  | .hbm, ⟨47, _⟩ => ⟨S32x8x2x2048, .f32⟩
  | .hbm, ⟨48, _⟩ => ⟨S32x8x2x2048x1, .f32⟩
  | .hbm, ⟨49, _⟩ => ⟨S32x8x2x2048x2048, .f32⟩
  | .hbm, ⟨50, _⟩ => ⟨S32x8x2x2048x2048, .f32⟩
  | .hbm, ⟨51, _⟩ => ⟨S32x8x2x2048x2048, .f32⟩
  | .hbm, ⟨52, _⟩ => ⟨S_, .f32⟩
  | .hbm, ⟨53, _⟩ => ⟨S32x8x2x2048, .f32⟩
  | .hbm, ⟨54, _⟩ => ⟨S32x8x2x2048x1, .f32⟩
  | .hbm, ⟨55, _⟩ => ⟨S32x8x2x2048x2048, .f32⟩
  | .hbm, ⟨56, _⟩ => ⟨S32x8x2x2048x2048, .f32⟩
  | .hbm, ⟨57, _⟩ => ⟨S32x8x1x2048x2048, .f32⟩
  | .hbm, ⟨58, _⟩ => ⟨S32x8x2048x2048, .f32⟩
  | .hbm, ⟨59, _⟩ => ⟨S32x8x1x2048x2048, .f32⟩
  | .hbm, ⟨60, _⟩ => ⟨S32x8x2048x2048, .f32⟩
  | .hbm, ⟨61, _⟩ => ⟨S32x8x2048x2048, .f32⟩
  | .hbm, ⟨62, _⟩ => ⟨S32x8x2048x2048, .f32⟩
  | .hbm, ⟨63, _⟩ => ⟨S32x8x2048x2048, .f32⟩
  | .hbm, ⟨64, _⟩ => ⟨S32x8x128x2048, .f32⟩
  | .hbm, ⟨65, _⟩ => ⟨S32x2048x8x128, .f32⟩
  | .hbm, ⟨66, _⟩ => ⟨S32x2048x8x128, .f32⟩
  | .hbm, ⟨67, _⟩ => ⟨S_, .f32⟩
  | .hbm, ⟨68, _⟩ => ⟨S32x2048x8, .f32⟩
  | .hbm, ⟨69, _⟩ => ⟨S32x2048x8x1, .f32⟩
  | .hbm, ⟨70, _⟩ => ⟨S_, .f32⟩
  | .hbm, ⟨71, _⟩ => ⟨S32x2048x8x1, .f32⟩
  | .hbm, ⟨72, _⟩ => ⟨S32x2048x8x1, .f32⟩
  | .hbm, ⟨73, _⟩ => ⟨S_, .f32⟩
  | .hbm, ⟨74, _⟩ => ⟨S32x2048x8x1, .f32⟩
  | .hbm, ⟨75, _⟩ => ⟨S32x2048x8x1, .f32⟩
  | .hbm, ⟨76, _⟩ => ⟨S32x2048x8x1, .f32⟩
  | .hbm, ⟨77, _⟩ => ⟨S32x2048x8x128, .f32⟩
  | .hbm, ⟨78, _⟩ => ⟨S32x2048x8x128, .f32⟩
  | .hbm, ⟨79, _⟩ => ⟨S8x128, .f32⟩
  | .hbm, ⟨80, _⟩ => ⟨S1x1x8x128, .f32⟩
  | .hbm, ⟨81, _⟩ => ⟨S32x2048x8x128, .f32⟩
  | .hbm, ⟨82, _⟩ => ⟨S32x2048x8x128, .f32⟩
  | .hbm, ⟨83, _⟩ => ⟨S_, .f32⟩
  | .hbm, ⟨84, _⟩ => ⟨S32x2048x8x128, .f32⟩
  | .hbm, ⟨85, _⟩ => ⟨S32x2048x8x128, .f32⟩
  | .hbm, ⟨86, _⟩ => ⟨S32x2048x1024, .f32⟩
  | .hbm, ⟨87, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Ffn.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 15
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S65536x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S1024x2816 : Shape := ⟨2, ![1024, 2816]⟩
abbrev S32x2048x2816 : Shape := ⟨3, ![32, 2048, 2816]⟩
abbrev S2816x1024 : Shape := ⟨2, ![2816, 1024]⟩
abbrev S65536x1024 : Shape := ⟨2, ![65536, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S1024x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S_, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S1024x2816, .f32⟩
  | .hbm, ⟨34, _⟩ => ⟨S32x2048x2816, .f32⟩
  | .hbm, ⟨35, _⟩ => ⟨S32x2048x2816, .f32⟩
  | .hbm, ⟨36, _⟩ => ⟨S2816x1024, .f32⟩
  | .hbm, ⟨37, _⟩ => ⟨S32x2048x1024, .f32⟩
  | .hbm, ⟨38, _⟩ => ⟨S_, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Merge.lean ====
abbrev S32x2048x1024 : Shape := ⟨3, ![32, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S65536x1024 : Shape := ⟨2, ![65536, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 34
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x2048x1024, .bf16⟩
  | .hbm, ⟨3, _⟩ => ⟨S32x2048x1024, .f32⟩
  | .hbm, ⟨4, _⟩ => ⟨S32x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S65536x1024, .f32⟩
  | .hbm, ⟨14, _⟩ => ⟨S65536x1024, .bf16⟩
  | .hbm, ⟨15, _⟩ => ⟨S65536x1024, .bf16⟩
  | .hbm, ⟨16, _⟩ => ⟨S65536x1024, .f32⟩
  | .hbm, ⟨17, _⟩ => ⟨S65536x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S1024x2816, .bf16⟩
  | .hbm, ⟨30, _⟩ => ⟨S1024x2816, .bf16⟩
  | .hbm, ⟨31, _⟩ => ⟨S2816x1024, .bf16⟩
  | .hbm, ⟨32, _⟩ => ⟨S1x1024, .f32⟩
  | .hbm, ⟨33, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S32x2048x1024 : Shape := ⟨3, ![32, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S32x2048x2816 : Shape := ⟨3, ![32, 2048, 2816]⟩
abbrev S2816x1024 : Shape := ⟨2, ![2816, 1024]⟩
abbrev S65536x1024 : Shape := ⟨2, ![65536, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x2048x1024, .bf16⟩
  | .hbm, ⟨3, _⟩ => ⟨S32x2048x1024, .f32⟩
  | .hbm, ⟨4, _⟩ => ⟨S32x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S32x2048x1024, .f32⟩
  | .hbm, ⟨14, _⟩ => ⟨S1024x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S1024x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S1024x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S32x2048x1, .f32⟩
  | .hbm, ⟨36, _⟩ => ⟨S32x2048x1024, .f32⟩
  | .hbm, ⟨37, _⟩ => ⟨S32x2048x1024, .f32⟩
  | .hbm, ⟨38, _⟩ => ⟨S1024, .f32⟩
  | .hbm, ⟨39, _⟩ => ⟨S1x1x1024, .f32⟩
  | .hbm, ⟨40, _⟩ => ⟨S32x2048x1024, .f32⟩
  | .hbm, ⟨41, _⟩ => ⟨S32x2048x1024, .f32⟩
  | .hbm, ⟨42, _⟩ => ⟨S1024x2816, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S_, .f32⟩
  | .hbm, ⟨47, _⟩ => ⟨S32x2048x2816, .f32⟩
  | .hbm, ⟨48, _⟩ => ⟨S32x2048x2816, .f32⟩
  | .hbm, ⟨49, _⟩ => ⟨S_, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S1024x2816, .f32⟩
  | .hbm, ⟨54, _⟩ => ⟨S32x2048x2816, .f32⟩
  | .hbm, ⟨55, _⟩ => ⟨S32x2048x2816, .f32⟩
  | .hbm, ⟨56, _⟩ => ⟨S2816x1024, .f32⟩
  | .hbm, ⟨57, _⟩ => ⟨S32x2048x1024, .f32⟩
  | .hbm, ⟨58, _⟩ => ⟨S_, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S_, .f32⟩
  | .hbm, ⟨64, _⟩ => ⟨S32x2048, .f32⟩
  | .hbm, ⟨65, _⟩ => ⟨S32x2048x1, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S_, .f32⟩
  | .hbm, ⟨70, _⟩ => ⟨S32x2048x1, .f32⟩
  | .hbm, ⟨71, _⟩ => ⟨S32x2048x1, .f32⟩
  | .hbm, ⟨72, _⟩ => ⟨S32x2048x1, .f32⟩
  | .hbm, ⟨73, _⟩ => ⟨S32x2048x1024, .f32⟩
  | .hbm, ⟨74, _⟩ => ⟨S32x2048x1024, .f32⟩
  | .hbm, ⟨75, _⟩ => ⟨S1x1x1024, .f32⟩
  | .hbm, ⟨76, _⟩ => ⟨S32x2048x1024, .f32⟩
  | .hbm, ⟨77, _⟩ => ⟨S32x2048x1024, .f32⟩
  | .hbm, ⟨78, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== InProj.lean ====
abbrev S32x2048x1024 : Shape := ⟨3, ![32, 2048, 1024]⟩
abbrev S1x1024 : Shape := ⟨2, ![1, 1024]⟩
abbrev S1x1024x6960 : Shape := ⟨3, ![1, 1024, 6960]⟩
abbrev S1024 : Shape := ⟨1, ![1024]⟩
abbrev S1024x6960 : Shape := ⟨2, ![1024, 6960]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1024x48 : Shape := ⟨2, ![1024, 48]⟩
abbrev S1024x128 : Shape := ⟨2, ![1024, 128]⟩
abbrev S1024x64 : Shape := ⟨2, ![1024, 64]⟩
abbrev S1024x256 : Shape := ⟨2, ![1024, 256]⟩
abbrev S1024x640 : Shape := ⟨2, ![1024, 640]⟩
abbrev S1024x4352 : Shape := ⟨2, ![1024, 4352]⟩
abbrev S1024x2048 : Shape := ⟨2, ![1024, 2048]⟩
abbrev S32x2048x128 : Shape := ⟨3, ![32, 2048, 128]⟩
abbrev S32x2048x256 : Shape := ⟨3, ![32, 2048, 256]⟩
abbrev S1x256x1024 : Shape := ⟨3, ![1, 256, 1024]⟩
abbrev S256x128 : Shape := ⟨2, ![256, 128]⟩
abbrev S1x256x128 : Shape := ⟨3, ![1, 256, 128]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩
abbrev S256x256 : Shape := ⟨2, ![256, 256]⟩

abbrev nBuf : Space → Nat
  | .hbm => 76
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6960, .f32⟩
  | .hbm, ⟨3, _⟩ => ⟨S1024, .f32⟩
  | .hbm, ⟨4, _⟩ => ⟨S1024x6960, .f32⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S_, .f32⟩
  | .hbm, ⟨30, _⟩ => ⟨S2048x32, .f32⟩
  | .hbm, ⟨31, _⟩ => ⟨S1x2048x1x32, .f32⟩
  | .hbm, ⟨32, _⟩ => ⟨S1x2048x4x32, .f32⟩
  | .hbm, ⟨33, _⟩ => ⟨S2048x128, .f32⟩
  | .hbm, ⟨34, _⟩ => ⟨S2048x32, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x1024, .f32⟩
  | .hbm, ⟨44, _⟩ => ⟨S1024x48, .f32⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S1024x64, .f32⟩
  | .hbm, ⟨49, _⟩ => ⟨S1024x64, .f32⟩
  | .hbm, ⟨50, _⟩ => ⟨S1024x64, .f32⟩
  | .hbm, ⟨51, _⟩ => ⟨S1024x64, .f32⟩
  | .hbm, ⟨52, _⟩ => ⟨S1024x256, .f32⟩
  | .hbm, ⟨53, _⟩ => ⟨S1024x64, .f32⟩
  | .hbm, ⟨54, _⟩ => ⟨S1024x64, .f32⟩
  | .hbm, ⟨55, _⟩ => ⟨S1024x64, .f32⟩
  | .hbm, ⟨56, _⟩ => ⟨S1024x64, .f32⟩
  | .hbm, ⟨57, _⟩ => ⟨S1024x256, .f32⟩
  | .hbm, ⟨58, _⟩ => ⟨S1024x640, .f32⟩
  | .hbm, ⟨59, _⟩ => ⟨S1024x4352, .f32⟩
  | .hbm, ⟨60, _⟩ => ⟨S1024x4352, .bf16⟩
  | .hbm, ⟨61, _⟩ => ⟨S1024x640, .bf16⟩
  | .hbm, ⟨62, _⟩ => ⟨S1024x2048, .f32⟩
  | .hbm, ⟨63, _⟩ => ⟨S1024x2048, .bf16⟩
  | .hbm, ⟨64, _⟩ => ⟨S32x2048x1024, .bf16⟩
  | .hbm, ⟨65, _⟩ => ⟨S32x2048x1024, .bf16⟩
  | .hbm, ⟨66, _⟩ => ⟨S32x2048x1024, .bf16⟩
  | .hbm, ⟨67, _⟩ => ⟨S32x2048x1024, .bf16⟩
  | .hbm, ⟨68, _⟩ => ⟨S32x2048x1024, .bf16⟩
  | .hbm, ⟨69, _⟩ => ⟨S32x2048x128, .f32⟩
  | .hbm, ⟨70, _⟩ => ⟨S32x2048x128, .f32⟩
  | .hbm, ⟨71, _⟩ => ⟨S32x2048x256, .bf16⟩
  | .hbm, ⟨72, _⟩ => ⟨S32x2048x256, .bf16⟩
  | .hbm, ⟨73, _⟩ => ⟨S32x2048x128, .f32⟩
  | .hbm, ⟨74, _⟩ => ⟨S32x2048x1024, .f32⟩
  | .hbm, ⟨75, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x4352, .bf16⟩
  | .local _ .vmem, ⟨4, _⟩ => ⟨S1024x640, .bf16⟩
  | .local _ .vmem, ⟨5, _⟩ => ⟨S1024x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x256, .bf16⟩
  | .local _ .vmem, ⟨27, _⟩ => ⟨S1x256x256, .bf16⟩
  | .local _ .vmem, ⟨28, _⟩ => ⟨S1x256x256, .bf16⟩
  | .local _ .vmem, ⟨29, _⟩ => ⟨S1x256x256, .bf16⟩
  | .local _ .vmem, ⟨30, _⟩ => ⟨S1x256x128, .f32⟩
  | .local _ .vmem, ⟨31, _⟩ => ⟨S1x256x128, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53_0 : Ref sig .tc := ⟨.hbm, 64, rfl⟩
abbrev main_v53_1 : Ref sig .tc := ⟨.hbm, 65, rfl⟩
abbrev main_v53_2 : Ref sig .tc := ⟨.hbm, 66, rfl⟩
abbrev main_v53_3 : Ref sig .tc := ⟨.hbm, 67, rfl⟩
abbrev main_v53_4 : Ref sig .tc := ⟨.hbm, 68, rfl⟩
abbrev main_v53_5 : Ref sig .tc := ⟨.hbm, 69, rfl⟩
abbrev main_v53_6 : Ref sig .tc := ⟨.hbm, 70, rfl⟩
abbrev main_v53_7 : Ref sig .tc := ⟨.hbm, 71, rfl⟩
abbrev main_v53_8 : Ref sig .tc := ⟨.hbm, 72, rfl⟩
abbrev main_v53_9 : Ref sig .tc := ⟨.hbm, 73, rfl⟩
abbrev main_v53_10 : Ref sig .tc := ⟨.hbm, 74, rfl⟩
abbrev main_v53_11 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== InProjRefIdeal.lean ====
abbrev S32x2048x1024 : Shape := ⟨3, ![32, 2048, 1024]⟩
abbrev S1x1024 : Shape := ⟨2, ![1, 1024]⟩
abbrev S1x1024x6960 : Shape := ⟨3, ![1, 1024, 6960]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S1024x6960 : Shape := ⟨2, ![1024, 6960]⟩
abbrev S32x2048x6960 : Shape := ⟨3, ![32, 2048, 6960]⟩
abbrev S32x2048x128 : Shape := ⟨3, ![32, 2048, 128]⟩
abbrev S32x2048x48 : Shape := ⟨3, ![32, 2048, 48]⟩
abbrev S32x2048x16x64 : Shape := ⟨4, ![32, 2048, 16, 64]⟩
abbrev S32x2048x16x32 : Shape := ⟨4, ![32, 2048, 16, 32]⟩
abbrev S32x2048x2x64 : Shape := ⟨4, ![32, 2048, 2, 64]⟩
abbrev S32x2048x2x32 : Shape := ⟨4, ![32, 2048, 2, 32]⟩
abbrev S32x2048x2x1x64 : Shape := ⟨5, ![32, 2048, 2, 1, 64]⟩
abbrev S32x2048x2x2x64 : Shape := ⟨5, ![32, 2048, 2, 2, 64]⟩
abbrev S32x2048x256 : Shape := ⟨3, ![32, 2048, 256]⟩

abbrev nBuf : Space → Nat
  | .hbm => 191
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x6960, .f32⟩
  | 3 => ⟨S2048, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x32, .f32⟩
  | 26 => ⟨S1x2048x1x32, .f32⟩
  | 27 => ⟨S2048x32, .f32⟩
  | 28 => ⟨S1x2048x1x32, .f32⟩
  | 29 => ⟨S32x2048x1024, .f32⟩
  | 30 => ⟨S_, .f32⟩
  | 31 => ⟨S32x2048, .f32⟩
  | 32 => ⟨S32x2048x1, .f32⟩
  | 33 => ⟨S_, .f32⟩
  | 34 => ⟨S32x2048x1, .f32⟩
  | 35 => ⟨S32x2048x1, .f32⟩
  | 36 => ⟨S_, .f32⟩
  | 37 => ⟨S32x2048x1, .f32⟩
  | 38 => ⟨S32x2048x1, .f32⟩
  | 39 => ⟨S32x2048x1, .f32⟩
  | 40 => ⟨S32x2048x1024, .f32⟩
  | 41 => ⟨S32x2048x1024, .f32⟩
  | 42 => ⟨S1024, .f32⟩
  | 43 => ⟨S1x1x1024, .f32⟩
  | 44 => ⟨S32x2048x1024, .f32⟩
  | 45 => ⟨S32x2048x1024, .f32⟩
  | 46 => ⟨S1024x6960, .f32⟩
  | 47 => ⟨S32x2048x6960, .f32⟩
  | 48 => ⟨S32x2048x1024, .f32⟩
  | 49 => ⟨S32x2048x1024, .f32⟩
  | 50 => ⟨S32x2048x1024, .f32⟩
  | 51 => ⟨S32x2048x1024, .f32⟩
  | 52 => ⟨S32x2048x128, .f32⟩
  | 53 => ⟨S32x2048x128, .f32⟩
  | 54 => ⟨S32x2048x128, .f32⟩
  | 55 => ⟨S32x2048x128, .f32⟩
  | 56 => ⟨S32x2048x128, .f32⟩
  | 57 => ⟨S32x2048x128, .f32⟩
  | 58 => ⟨S32x2048x48, .f32⟩
  | 59 => ⟨S32x2048x1024, .f32⟩
  | 60 => ⟨S32x2048x1024, .f32⟩
  | 61 => ⟨S32x2048x16x64, .f32⟩
  | 62 => ⟨S32x2048x16x32, .f32⟩
  | 63 => ⟨S32x2048x16x32, .f32⟩
  | 64 => ⟨S32x2048x16x32, .f32⟩
  | 65 => ⟨S32x2048x16x32, .f32⟩
  | 66 => ⟨S32x2048x16x32, .f32⟩
  | 67 => ⟨S32x2048x16x32, .f32⟩
  | 68 => ⟨S32x2048x16x32, .f32⟩
  | 69 => ⟨S32x2048x16x32, .f32⟩
  | 70 => ⟨S32x2048x16x32, .f32⟩
  | 71 => ⟨S32x2048x16x32, .f32⟩
  | 72 => ⟨S32x2048x16x32, .f32⟩
  | 73 => ⟨S32x2048x16x32, .f32⟩
  | 74 => ⟨S32x2048x16x64, .f32⟩
  | 75 => ⟨S32x2048x1024, .f32⟩
  | 76 => ⟨S_, .f32⟩
  | 77 => ⟨S32x2048x1024, .f32⟩
  | 78 => ⟨S32x2048x1024, .f32⟩
  | 79 => ⟨S32x2048x1024, .bf16⟩
  | 80 => ⟨S32x2048x16x64, .f32⟩
  | 81 => ⟨S32x2048x16x32, .f32⟩
  | 82 => ⟨S32x2048x16x32, .f32⟩
  | 83 => ⟨S32x2048x16x32, .f32⟩
  | 84 => ⟨S32x2048x16x32, .f32⟩
  | 85 => ⟨S32x2048x16x32, .f32⟩
  | 86 => ⟨S32x2048x16x32, .f32⟩
  | 87 => ⟨S32x2048x16x32, .f32⟩
  | 88 => ⟨S32x2048x16x32, .f32⟩
  | 89 => ⟨S32x2048x16x32, .f32⟩
  | 90 => ⟨S32x2048x16x32, .f32⟩
  | 91 => ⟨S32x2048x16x32, .f32⟩
  | 92 => ⟨S32x2048x16x32, .f32⟩
  | 93 => ⟨S32x2048x16x64, .f32⟩
  | 94 => ⟨S32x2048x1024, .f32⟩
  | 95 => ⟨S32x2048x1024, .bf16⟩
  | 96 => ⟨S32x2048x1024, .bf16⟩
  | 97 => ⟨S32x2048x16x64, .f32⟩
  | 98 => ⟨S32x2048x16x32, .f32⟩
  | 99 => ⟨S32x2048x16x32, .f32⟩
  | 100 => ⟨S32x2048x16x32, .f32⟩
  | 101 => ⟨S32x2048x16x32, .f32⟩
  | 102 => ⟨S32x2048x16x32, .f32⟩
  | 103 => ⟨S32x2048x16x32, .f32⟩
  | 104 => ⟨S32x2048x16x32, .f32⟩
  | 105 => ⟨S32x2048x16x32, .f32⟩
  | 106 => ⟨S32x2048x16x32, .f32⟩
  | 107 => ⟨S32x2048x16x32, .f32⟩
  | 108 => ⟨S32x2048x16x32, .f32⟩
  | 109 => ⟨S32x2048x16x32, .f32⟩
  | 110 => ⟨S32x2048x16x64, .f32⟩
  | 111 => ⟨S32x2048x1024, .f32⟩
  | 112 => ⟨S_, .f32⟩
  | 113 => ⟨S32x2048x1024, .f32⟩
  | 114 => ⟨S32x2048x1024, .f32⟩
  | 115 => ⟨S32x2048x1024, .bf16⟩
  | 116 => ⟨S_, .f32⟩
  | 117 => ⟨S32x2048x1024, .f32⟩
  | 118 => ⟨S32x2048x1024, .f32⟩
  | 119 => ⟨S32x2048x1024, .bf16⟩
  | 120 => ⟨S32x2048x2x64, .f32⟩
  | 121 => ⟨S32x2048x2x32, .f32⟩
  | 122 => ⟨S32x2048x2x32, .f32⟩
  | 123 => ⟨S32x2048x2x32, .f32⟩
  | 124 => ⟨S32x2048x2x32, .f32⟩
  | 125 => ⟨S32x2048x2x32, .f32⟩
  | 126 => ⟨S32x2048x2x32, .f32⟩
  | 127 => ⟨S32x2048x2x32, .f32⟩
  | _ => ⟨S32x2048x1024, .f32⟩

abbrev hbmTy0_1 (i : Nat) : BufTy := match i % 128 with
  | 0 => ⟨S32x2048x2x32, .f32⟩
  | 1 => ⟨S32x2048x2x32, .f32⟩
  | 2 => ⟨S32x2048x2x32, .f32⟩
  | 3 => ⟨S32x2048x2x32, .f32⟩
  | 4 => ⟨S32x2048x2x32, .f32⟩
  | 5 => ⟨S32x2048x2x64, .f32⟩
  | 6 => ⟨S32x2048x128, .f32⟩
  | 7 => ⟨S32x2048x2x64, .f32⟩
  | 8 => ⟨S32x2048x2x32, .f32⟩
  | 9 => ⟨S32x2048x2x32, .f32⟩
  | 10 => ⟨S32x2048x2x32, .f32⟩
  | 11 => ⟨S32x2048x2x32, .f32⟩
  | 12 => ⟨S32x2048x2x32, .f32⟩
  | 13 => ⟨S32x2048x2x32, .f32⟩
  | 14 => ⟨S32x2048x2x32, .f32⟩
  | 15 => ⟨S32x2048x2x32, .f32⟩
  | 16 => ⟨S32x2048x2x32, .f32⟩
  | 17 => ⟨S32x2048x2x32, .f32⟩
  | 18 => ⟨S32x2048x2x32, .f32⟩
  | 19 => ⟨S32x2048x2x32, .f32⟩
  | 20 => ⟨S32x2048x2x64, .f32⟩
  | 21 => ⟨S32x2048x128, .f32⟩
  | 22 => ⟨S32x2048x2x64, .f32⟩
  | 23 => ⟨S32x2048x2x64, .f32⟩
  | 24 => ⟨S32x2048x2x1x64, .f32⟩
  | 25 => ⟨S32x2048x2x1x64, .f32⟩
  | 26 => ⟨S32x2048x2x2x64, .f32⟩
  | 27 => ⟨S32x2048x256, .f32⟩
  | 28 => ⟨S32x2048x256, .bf16⟩
  | 29 => ⟨S32x2048x2x64, .f32⟩
  | 30 => ⟨S32x2048x2x64, .f32⟩
  | 31 => ⟨S32x2048x2x1x64, .f32⟩
  | 32 => ⟨S32x2048x2x1x64, .f32⟩
  | 33 => ⟨S32x2048x2x2x64, .f32⟩
  | 34 => ⟨S32x2048x256, .f32⟩
  | 35 => ⟨S32x2048x256, .bf16⟩
  | 36 => ⟨S_, .i32⟩
  | 37 => ⟨S_, .f32⟩
  | 38 => ⟨S32x2048x128, .f32⟩
  | 39 => ⟨S32x2048x128, .f32⟩
  | 40 => ⟨S32x2048x128, .f32⟩
  | 41 => ⟨S_, .f32⟩
  | 42 => ⟨S32x2048x128, .f32⟩
  | 43 => ⟨S32x2048x128, .f32⟩
  | 44 => ⟨S_, .f32⟩
  | 45 => ⟨S32x2048x128, .f32⟩
  | 46 => ⟨S32x2048x128, .f32⟩
  | 47 => ⟨S32x2048x1024, .f32⟩
  | 48 => ⟨S32x2048x1024, .f32⟩
  | 49 => ⟨S_, .f32⟩
  | 50 => ⟨S32x2048x1024, .f32⟩
  | 51 => ⟨S32x2048x1024, .f32⟩
  | 52 => ⟨S_, .f32⟩
  | 53 => ⟨S32x2048x1024, .f32⟩
  | 54 => ⟨S32x2048x1024, .f32⟩
  | 55 => ⟨S32x2048x1024, .f32⟩
  | 56 => ⟨S32x2048x1024, .f32⟩
  | 57 => ⟨S_, .f32⟩
  | 58 => ⟨S32x2048x1024, .f32⟩
  | 59 => ⟨S32x2048x1024, .f32⟩
  | 60 => ⟨S_, .f32⟩
  | 61 => ⟨S32x2048x1024, .f32⟩
  | 62 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_8 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_cst_9 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_c : Ref sig .tc := ⟨.hbm, 164, rfl⟩
abbrev main_call0_v0 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_cst_10 : Ref sig .tc := ⟨.hbm, 169, rfl⟩
abbrev main_v153 : Ref sig .tc := ⟨.hbm, 170, rfl⟩
abbrev main_v154 : Ref sig .tc := ⟨.hbm, 171, rfl⟩
abbrev main_cst_11 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_cst_12 : Ref sig .tc := ⟨.hbm, 177, rfl⟩
abbrev main_v159 : Ref sig .tc := ⟨.hbm, 178, rfl⟩
abbrev main_v160 : Ref sig .tc := ⟨.hbm, 179, rfl⟩
abbrev main_cst_13 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_cst_14 : Ref sig .tc := ⟨.hbm, 185, rfl⟩
abbrev main_v165 : Ref sig .tc := ⟨.hbm, 186, rfl⟩
abbrev main_v166 : Ref sig .tc := ⟨.hbm, 187, rfl⟩
abbrev main_cst_15 : Ref sig .tc := ⟨.hbm, 188, rfl⟩
abbrev main_v167 : Ref sig .tc := ⟨.hbm, 189, rfl⟩
abbrev main_v168 : Ref sig .tc := ⟨.hbm, 190, rfl⟩

abbrev nD : Nat := 1
abbrev τ : Topo := Topo.v7x

variable {F : FTy → Type} [FloatOps F]
-- ==== Compress.lean ====
abbrev S32x2048x128 : Shape := ⟨3, ![32, 2048, 128]⟩
abbrev S1x2x32x64 : Shape := ⟨4, ![1, 2, 32, 64]⟩
abbrev S1x2x2048x256 : Shape := ⟨4, ![1, 2, 2048, 256]⟩
abbrev S1x2x256x64 : Shape := ⟨4, ![1, 2, 256, 64]⟩
abbrev S2x32x64 : Shape := ⟨3, ![2, 32, 64]⟩
abbrev S2x2048x256 : Shape := ⟨3, ![2, 2048, 256]⟩
abbrev S2x256x64 : Shape := ⟨3, ![2, 256, 64]⟩
abbrev S2x256x128 : Shape := ⟨3, ![2, 256, 128]⟩
abbrev S2x1x2048 : Shape := ⟨3, ![2, 1, 2048]⟩
abbrev S32x4x128x128 : Shape := ⟨4, ![32, 4, 128, 128]⟩
abbrev S1x2048x128 : Shape := ⟨3, ![1, 2048, 128]⟩
abbrev S1x4x128x128 : Shape := ⟨4, ![1, 4, 128, 128]⟩
abbrev S128x128 : Shape := ⟨2, ![128, 128]⟩
abbrev S1x128x128 : Shape := ⟨3, ![1, 128, 128]⟩
abbrev S128x1024 : Shape := ⟨2, ![128, 1024]⟩
abbrev S1x1x2048 : Shape := ⟨3, ![1, 1, 2048]⟩
abbrev S1x2048 : Shape := ⟨2, ![1, 2048]⟩
abbrev S1x1024 : Shape := ⟨2, ![1, 1024]⟩
abbrev S1x1024x256 : Shape := ⟨3, ![1, 1024, 256]⟩
abbrev S1024x256 : Shape := ⟨2, ![1024, 256]⟩
abbrev S128x256 : Shape := ⟨2, ![128, 256]⟩
abbrev S1x256x128 : Shape := ⟨3, ![1, 256, 128]⟩
abbrev S256x128 : Shape := ⟨2, ![256, 128]⟩
abbrev S1x1x128x128 : Shape := ⟨4, ![1, 1, 128, 128]⟩

abbrev nBuf : Space → Nat
  | .hbm => 13
  | .vmem => 9
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S1x2x32x64, .f32⟩
  | .hbm, ⟨3, _⟩ => ⟨S1x2x2048x256, .f32⟩
  | .hbm, ⟨4, _⟩ => ⟨S1x2x256x64, .f32⟩
  | .hbm, ⟨5, _⟩ => ⟨S2x32x64, .f32⟩
  | .hbm, ⟨6, _⟩ => ⟨S2x2048x256, .f32⟩
  | .hbm, ⟨7, _⟩ => ⟨S2x256x64, .f32⟩
  | .hbm, ⟨8, _⟩ => ⟨S2x256x128, .f32⟩
  | .hbm, ⟨9, _⟩ => ⟨S2x256x128, .bf16⟩
  | .hbm, ⟨10, _⟩ => ⟨S2x1x2048, .f32⟩
  | .hbm, ⟨11, _⟩ => ⟨S2x2048x256, .bf16⟩
  | .hbm, ⟨12, _⟩ => ⟨S32x4x128x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2x1x2048, .f32⟩
  | .local _ .vmem, ⟨5, _⟩ => ⟨S2x2048x256, .bf16⟩
  | .local _ .vmem, ⟨6, _⟩ => ⟨S2x256x128, .bf16⟩
  | .local _ .vmem, ⟨7, _⟩ => ⟨S1x4x128x128, .bf16⟩
  | .local _ .vmem, ⟨8, _⟩ => ⟨S1x4x128x128, .bf16⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CompressRefIdeal.lean ====
abbrev S32x2048x128 : Shape := ⟨3, ![32, 2048, 128]⟩
abbrev S1x2x32x64 : Shape := ⟨4, ![1, 2, 32, 64]⟩
abbrev S1x2x2048x256 : Shape := ⟨4, ![1, 2, 2048, 256]⟩
abbrev S1x2x256x64 : Shape := ⟨4, ![1, 2, 256, 64]⟩
abbrev S1x1x32x64 : Shape := ⟨4, ![1, 1, 32, 64]⟩
abbrev S32x64 : Shape := ⟨2, ![32, 64]⟩
abbrev S1x1x2048x256 : Shape := ⟨4, ![1, 1, 2048, 256]⟩
abbrev S2048x256 : Shape := ⟨2, ![2048, 256]⟩
abbrev S1x1x256x64 : Shape := ⟨4, ![1, 1, 256, 64]⟩
abbrev S256x64 : Shape := ⟨2, ![256, 64]⟩
abbrev S32x16x128 : Shape := ⟨3, ![32, 16, 128]⟩
abbrev S32x2064x128 : Shape := ⟨3, ![32, 2064, 128]⟩
abbrev S32x129x16x2x64 : Shape := ⟨5, ![32, 129, 16, 2, 64]⟩
abbrev S32x128x16x2x64 : Shape := ⟨5, ![32, 128, 16, 2, 64]⟩
abbrev S32x128x32x2x64 : Shape := ⟨5, ![32, 128, 32, 2, 64]⟩
abbrev S32x1x64 : Shape := ⟨3, ![32, 1, 64]⟩
abbrev S1x1x32x1x64 : Shape := ⟨5, ![1, 1, 32, 1, 64]⟩
abbrev S32x128x2x32x64 : Shape := ⟨5, ![32, 128, 2, 32, 64]⟩
abbrev S32x128x2x2048 : Shape := ⟨4, ![32, 128, 2, 2048]⟩
abbrev S32x128x2x256 : Shape := ⟨4, ![32, 128, 2, 256]⟩
abbrev S_ : Shape := ⟨0, ![]⟩
abbrev S32x128x2x64 : Shape := ⟨4, ![32, 128, 2, 64]⟩
abbrev S32x2x128x64 : Shape := ⟨4, ![32, 2, 128, 64]⟩
abbrev S32x4x128x64 : Shape := ⟨4, ![32, 4, 128, 64]⟩
abbrev S32x4x128x128 : Shape := ⟨4, ![32, 4, 128, 128]⟩

abbrev nBuf : Space → Nat
  | .hbm => 84
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S1x2x32x64, .f32⟩
  | .hbm, ⟨3, _⟩ => ⟨S1x2x2048x256, .f32⟩
  | .hbm, ⟨4, _⟩ => ⟨S1x2x256x64, .f32⟩
  | .hbm, ⟨5, _⟩ => ⟨S1x1x32x64, .f32⟩
  | .hbm, ⟨6, _⟩ => ⟨S32x64, .f32⟩
  | .hbm, ⟨7, _⟩ => ⟨S1x1x2048x256, .f32⟩
  | .hbm, ⟨8, _⟩ => ⟨S2048x256, .f32⟩
  | .hbm, ⟨9, _⟩ => ⟨S1x1x256x64, .f32⟩
  | .hbm, ⟨10, _⟩ => ⟨S256x64, .f32⟩
  | .hbm, ⟨11, _⟩ => ⟨S32x16x128, .f32⟩
  | .hbm, ⟨12, _⟩ => ⟨S32x2064x128, .f32⟩
  | .hbm, ⟨13, _⟩ => ⟨S32x129x16x2x64, .f32⟩
  | .hbm, ⟨14, _⟩ => ⟨S32x128x16x2x64, .f32⟩
  | .hbm, ⟨15, _⟩ => ⟨S32x128x16x2x64, .f32⟩
  | .hbm, ⟨16, _⟩ => ⟨S32x128x32x2x64, .f32⟩
  | .hbm, ⟨17, _⟩ => ⟨S32x1x64, .f32⟩
  | .hbm, ⟨18, _⟩ => ⟨S1x1x32x1x64, .f32⟩
  | .hbm, ⟨19, _⟩ => ⟨S32x128x32x2x64, .f32⟩
  | .hbm, ⟨20, _⟩ => ⟨S32x128x32x2x64, .f32⟩
  | .hbm, ⟨21, _⟩ => ⟨S32x128x2x32x64, .f32⟩
  | .hbm, ⟨22, _⟩ => ⟨S32x128x2x2048, .f32⟩
  | .hbm, ⟨23, _⟩ => ⟨S32x128x2x256, .f32⟩
  | .hbm, ⟨24, _⟩ => ⟨S32x128x2x256, .f32⟩
  | .hbm, ⟨25, _⟩ => ⟨S32x128x2x256, .f32⟩
  | .hbm, ⟨26, _⟩ => ⟨S_, .f32⟩
  | .hbm, ⟨27, _⟩ => ⟨S32x128x2x256, .f32⟩
  | .hbm, ⟨28, _⟩ => ⟨S32x128x2x256, .f32⟩
  | .hbm, ⟨29, _⟩ => ⟨S32x128x2x256, .f32⟩
  | .hbm, ⟨30, _⟩ => ⟨S_, .f32⟩
  | .hbm, ⟨31, _⟩ => ⟨S32x128x2x256, .f32⟩
  | .hbm, ⟨32, _⟩ => ⟨S32x128x2x256, .f32⟩
  | .hbm, ⟨33, _⟩ => ⟨S32x128x2x256, .f32⟩
  | .hbm, ⟨34, _⟩ => ⟨S_, .f32⟩
  | .hbm, ⟨35, _⟩ => ⟨S32x128x2x256, .f32⟩
  | .hbm, ⟨36, _⟩ => ⟨S32x128x2x256, .f32⟩
  | .hbm, ⟨37, _⟩ => ⟨S_, .f32⟩
  | .hbm, ⟨38, _⟩ => ⟨S32x128x2x256, .f32⟩
  | .hbm, ⟨39, _⟩ => ⟨S32x128x2x256, .f32⟩
  | .hbm, ⟨40, _⟩ => ⟨S32x128x2x256, .f32⟩
  | .hbm, ⟨41, _⟩ => ⟨S32x128x2x64, .f32⟩
  | .hbm, ⟨42, _⟩ => ⟨S32x2x128x64, .f32⟩
  | .hbm, ⟨43, _⟩ => ⟨S1x1x32x64, .f32⟩
  | .hbm, ⟨44, _⟩ => ⟨S32x64, .f32⟩
  | .hbm, ⟨45, _⟩ => ⟨S1x1x2048x256, .f32⟩
  | .hbm, ⟨46, _⟩ => ⟨S2048x256, .f32⟩
  | .hbm, ⟨47, _⟩ => ⟨S1x1x256x64, .f32⟩
  | .hbm, ⟨48, _⟩ => ⟨S256x64, .f32⟩
  | .hbm, ⟨49, _⟩ => ⟨S32x16x128, .f32⟩
  | .hbm, ⟨50, _⟩ => ⟨S32x2064x128, .f32⟩
  | .hbm, ⟨51, _⟩ => ⟨S32x129x16x2x64, .f32⟩
  | .hbm, ⟨52, _⟩ => ⟨S32x128x16x2x64, .f32⟩
  | .hbm, ⟨53, _⟩ => ⟨S32x128x16x2x64, .f32⟩
  | .hbm, ⟨54, _⟩ => ⟨S32x128x32x2x64, .f32⟩
  | .hbm, ⟨55, _⟩ => ⟨S32x1x64, .f32⟩
  | .hbm, ⟨56, _⟩ => ⟨S1x1x32x1x64, .f32⟩
  | .hbm, ⟨57, _⟩ => ⟨S32x128x32x2x64, .f32⟩
  | .hbm, ⟨58, _⟩ => ⟨S32x128x32x2x64, .f32⟩
  | .hbm, ⟨59, _⟩ => ⟨S32x128x2x32x64, .f32⟩
  | .hbm, ⟨60, _⟩ => ⟨S32x128x2x2048, .f32⟩
  | .hbm, ⟨61, _⟩ => ⟨S32x128x2x256, .f32⟩
  | .hbm, ⟨62, _⟩ => ⟨S32x128x2x256, .f32⟩
  | .hbm, ⟨63, _⟩ => ⟨S32x128x2x256, .f32⟩
  | .hbm, ⟨64, _⟩ => ⟨S_, .f32⟩
  | .hbm, ⟨65, _⟩ => ⟨S32x128x2x256, .f32⟩
  | .hbm, ⟨66, _⟩ => ⟨S32x128x2x256, .f32⟩
  | .hbm, ⟨67, _⟩ => ⟨S32x128x2x256, .f32⟩
  | .hbm, ⟨68, _⟩ => ⟨S_, .f32⟩
  | .hbm, ⟨69, _⟩ => ⟨S32x128x2x256, .f32⟩
  | .hbm, ⟨70, _⟩ => ⟨S32x128x2x256, .f32⟩
  | .hbm, ⟨71, _⟩ => ⟨S32x128x2x256, .f32⟩
  | .hbm, ⟨72, _⟩ => ⟨S_, .f32⟩
  | .hbm, ⟨73, _⟩ => ⟨S32x128x2x256, .f32⟩
  | .hbm, ⟨74, _⟩ => ⟨S32x128x2x256, .f32⟩
  | .hbm, ⟨75, _⟩ => ⟨S_, .f32⟩
  | .hbm, ⟨76, _⟩ => ⟨S32x128x2x256, .f32⟩
  | .hbm, ⟨77, _⟩ => ⟨S32x128x2x256, .f32⟩
  | .hbm, ⟨78, _⟩ => ⟨S32x128x2x256, .f32⟩
  | .hbm, ⟨79, _⟩ => ⟨S32x128x2x64, .f32⟩
  | .hbm, ⟨80, _⟩ => ⟨S32x2x128x64, .f32⟩
  | .hbm, ⟨81, _⟩ => ⟨S32x4x128x64, .f32⟩
  | .hbm, ⟨82, _⟩ => ⟨S32x4x128x128, .f32⟩
  | .hbm, ⟨83, _⟩ => ⟨S32x4x128x128, .bf16⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Diff

/-- A running row maximum: the diagonal square's entries and the entries left of it. -/
def rowMax {n : ℕ} (S0 : Fin n → EReal) (S1 : Fin 256 → EReal) : EReal :=
  max (Finset.fold max (Ideal.ofBits .f32 0xFF800000#32) S1 Finset.univ) (Finset.fold max (Ideal.ofBits .f32 0xFF800000#32) S0 Finset.univ)

/-- One value column summed under the weights `2 ^ (score - maximum)`. -/
def weighted {n : ℕ} (S0 : Fin n → EReal) (S1 : Fin 256 → EReal) (v0 : Fin n → EReal) (v1 : Fin 256 → EReal) : EReal :=
  ∑ k, Ideal.exp2 (S0 k - rowMax S0 S1) * v0 k + ∑ k, Ideal.exp2 (S1 k - rowMax S0 S1) * v1 k

/-- The difference of the two maps' attention rows, at value lane `e`. -/
def rowDiff {n : ℕ} (S0 : Fin 2 → Fin n → EReal) (S1 : Fin 2 → Fin 256 → EReal)
    (v0 : Fin n → Fin 256 → EReal) (v1 : Fin 256 → Fin 256 → EReal) (lam : EReal) (e : Fin 128) : EReal :=
  Ideal.div (weighted (S0 0) (S1 0) (fun k => v0 k ⟨e, by omega⟩) (fun k => v1 k ⟨e, by omega⟩))
      (weighted (S0 0) (S1 0) (fun k => v0 k ⟨128 + e, by omega⟩) (fun k => v1 k ⟨128 + e, by omega⟩))
    - lam * Ideal.div (weighted (S0 1) (S1 1) (fun k => v0 k ⟨e, by omega⟩) (fun k => v1 k ⟨e, by omega⟩))
      (weighted (S0 1) (S1 1) (fun k => v0 k ⟨128 + e, by omega⟩) (fun k => v1 k ⟨128 + e, by omega⟩))

/-- A row scaled by the reciprocal root of its mean square and a gain. -/
def rmsRow (d : Fin 128 → EReal) (g : EReal) (e : Fin 128) : EReal :=
  d e * Ideal.rsqrt (Ideal.div (∑ l, d l * d l) (Ideal.ofBits .f32 0x43000000#32) + Ideal.ofBits .f32 0x358637BD#32) * g

/-- The pattern of minus infinity. -/
theorem ofBits_ninf : Ideal.ofBits .f32 0xFF800000#32 = ⊥ := by simp [Ideal.ofBits, Ideal.ieee]

/-- With no entries left of the diagonal square, only the square counts. -/
theorem weighted_nil (S0 : Fin 0 → EReal) (S1 : Fin 256 → EReal) (v0 : Fin 0 → EReal) (v1 : Fin 256 → EReal) :
    weighted S0 S1 v0 v1 = ∑ k, Ideal.exp2 (S1 k - Finset.fold max (Ideal.ofBits .f32 0xFF800000#32) S1 Finset.univ) * v1 k := by
  unfold weighted rowMax
  rw [Finset.univ_eq_empty, Finset.sum_empty, zero_add, Finset.fold_empty, ofBits_ninf, max_eq_left bot_le]

/-- Row numbers of the stacked maps: the first map's. -/
theorem half0 (r : Fin 256) (h) : (⟨(r : ℕ) / 256, h⟩ : Fin 2) = 0 := Fin.ext (Nat.div_eq_of_lt r.isLt)
/-- Row numbers of the stacked maps: the second map's. -/
theorem half1 (r : Fin 256) (h) : (⟨(256 + (r : ℕ)) / 256, h⟩ : Fin 2) = 1 := Fin.ext (by show (256 + (r : ℕ)) / 256 = 1; omega)
/-- A row number below 256 is its own remainder. -/
theorem rowMod (r : Fin 256) (h) : (⟨(r : ℕ) % 256, h⟩ : Fin 256) = r := Fin.ext (Nat.mod_eq_of_lt r.isLt)

end Cert.KernelIdeal.Diff

end
-- ==== Proof.Core.lean ====
module

public import proofs.«01_k».proof.Proof.Rows

@[expose] public section

set_option maxRecDepth 16384

noncomputable section

open Idealize.ShloMosaic Idealize.ShloMosaic.TcCoe Idealize.SL.Sem

namespace Cert.KernelIdeal.Diff

/-- Causal softmax attention of row `R` over the reals: the values averaged under the exponentials of the scores up to `R`. -/
def attn (s v : ℕ → ℝ) (R : ℕ) : ℝ :=
  (∑ k ∈ Finset.range (R + 1), Real.exp (s k) * v k) / ∑ k ∈ Finset.range (R + 1), Real.exp (s k)

/-- The softmax denominator is positive. -/
theorem expSum_pos (s : ℕ → ℝ) (R : ℕ) : 0 < ∑ k ∈ Finset.range (R + 1), Real.exp (s k) :=
  Finset.sum_pos (fun k _ => Real.exp_pos _) ⟨0, by simp⟩

/-- A finite sum of reals, read as extended reals. -/
theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A maximum over a family without `⊤` that has a real member is a real. -/
theorem foldMax_real {ι : Type} (t : Finset ι) (f : ι → EReal) (ht : ∀ i ∈ t, f i ≠ ⊤) (i : ι) (hi : i ∈ t) (hr : f i ≠ ⊥) :
    ∃ μ : ℝ, Finset.fold max ⊥ f t = μ := by
  have h1 : Finset.fold max ⊥ f t < ⊤ :=
    (Finset.fold_max_lt ⊤).2 ⟨bot_lt_top, fun x hx => lt_top_iff_ne_top.2 (ht x hx)⟩
  have h2 : f i ≤ Finset.fold max ⊥ f t := (Finset.le_fold_max _).2 (Or.inr ⟨i, hi, le_rfl⟩)
  have h3 : Finset.fold max ⊥ f t ≠ ⊥ := fun h => hr (le_bot_iff.1 (h ▸ h2))
  exact ⟨(Finset.fold max ⊥ f t).toReal, (EReal.coe_toReal h1.ne h3).symm⟩

/-- The row maximum is a real when the scores are reals or masked and the diagonal is unmasked. -/
theorem rowMax_real {n : ℕ} (S0 : Fin n → EReal) (S1 : Fin 256 → EReal) (h0 : ∀ k, S0 k ≠ ⊤) (h1 : ∀ k, S1 k ≠ ⊤)
    (r : Fin 256) (hr : S1 r ≠ ⊥) : ∃ μ : ℝ, rowMax S0 S1 = μ := by
  obtain ⟨a, ha⟩ := foldMax_real Finset.univ S1 (fun i _ => h1 i) r (Finset.mem_univ _) hr
  have h4 : Finset.fold max ⊥ S0 Finset.univ < ⊤ :=
    (Finset.fold_max_lt ⊤).2 ⟨bot_lt_top, fun x hx => lt_top_iff_ne_top.2 (h0 x)⟩
  refine ⟨(rowMax S0 S1).toReal, (EReal.coe_toReal ?_ ?_).symm⟩
  · unfold rowMax
    rw [ofBits_ninf, ha]
    exact (max_lt (EReal.coe_lt_top a) h4).ne
  · unfold rowMax
    rw [ofBits_ninf, ha]
    intro h
    have := le_max_left (a : EReal) (Finset.fold max ⊥ S0 Finset.univ)
    rw [h] at this
    exact EReal.coe_ne_bot a (le_bot_iff.1 this)

/-- `2` to a score over `log 2`, shifted: the exponential of the score times a constant factor. -/
theorem exp2_score (a μ : ℝ) :
    Ideal.exp2 (((a * (Real.log 2)⁻¹ : ℝ) : EReal) - (μ : EReal)) = ((Real.exp a * Real.exp (-(Real.log 2 * μ)) : ℝ) : EReal) := by
  have hl : Real.log 2 ≠ 0 := (Real.log_pos (by norm_num)).ne'
  rw [← EReal.coe_sub, Ideal.exp2_coe]
  refine congrArg _ ?_
  show (2 : ℝ) ^ (a * (Real.log 2)⁻¹ - μ) = _
  rw [Real.rpow_def_of_pos (by norm_num), ← Real.exp_add]
  congr 1
  field_simp
  ring

/-- A masked score has no weight. -/
theorem exp2_masked (μ : ℝ) : Ideal.exp2 ((⊥ : EReal) - (μ : EReal)) = 0 := by
  rw [EReal.bot_sub]; exact Ideal.exp2_bot

/-- A tile row's weighted sum, as a real: a common factor times the causal sum. -/
theorem weighted_real {n : ℕ} (s v : ℕ → ℝ) (r : Fin 256) (S0 : Fin n → EReal) (S1 : Fin 256 → EReal) (v0 : Fin n → EReal) (v1 : Fin 256 → EReal)
    (μ : ℝ) (hμ : rowMax S0 S1 = μ)
    (hS0 : ∀ k, S0 k = ((s k * (Real.log 2)⁻¹ : ℝ) : EReal))
    (hS1 : ∀ k, S1 k = if (k : ℕ) ≤ r then ((s (n + k) * (Real.log 2)⁻¹ : ℝ) : EReal) else ⊥)
    (hv0 : ∀ k, v0 k = (v k : EReal)) (hv1 : ∀ k, v1 k = (v (n + k) : EReal)) :
    weighted S0 S1 v0 v1 = ((Real.exp (-(Real.log 2 * μ)) * ∑ k ∈ Finset.range (n + r + 1), Real.exp (s k) * v k : ℝ) : EReal) := by
  set c := Real.exp (-(Real.log 2 * μ)) with hc
  have e0 : ∀ k, Ideal.exp2 (S0 k - rowMax S0 S1) * v0 k = ((c * (Real.exp (s k) * v k) : ℝ) : EReal) := fun k => by
    rw [hμ, hS0, exp2_score, hv0, ← EReal.coe_mul, ← hc]
    congr 1; ring
  have e1 : ∀ k : Fin 256, Ideal.exp2 (S1 k - rowMax S0 S1) * v1 k
      = ((if (k : ℕ) ≤ r then c * (Real.exp (s (n + k)) * v (n + k)) else 0 : ℝ) : EReal) := fun k => by
    rw [hμ, hS1, hv1]
    by_cases h : (k : ℕ) ≤ r
    · rw [if_pos h, if_pos h, exp2_score, ← EReal.coe_mul, ← hc]
      congr 1; ring
    · rw [if_neg h, if_neg h, exp2_masked, zero_mul, EReal.coe_zero]
  unfold weighted
  rw [Finset.sum_congr rfl fun k _ => e0 k, Finset.sum_congr rfl fun k _ => e1 k, sum_coe, sum_coe, ← EReal.coe_add]
  refine congrArg _ ?_
  rw [add_assoc n, Finset.sum_range_add, mul_add, Finset.mul_sum, Finset.mul_sum, Finset.sum_range]
  congr 1
  rw [← Finset.sum_range (fun k => if k ≤ (r : ℕ) then c * (Real.exp (s (n + k)) * v (n + k)) else 0)]
  rw [← Finset.sum_subset (s₁ := Finset.range (r + 1)) (fun x hx => by simp at hx ⊢; omega)
    (fun x _ hx => if_neg (by simp at hx; omega))]
  exact Finset.sum_congr rfl fun x hx => if_pos (by simp at hx; omega)

/-- A quotient of two reals with a common positive factor. -/
theorem div_common (c a z : ℝ) (hc : 0 < c) (hz : 0 < z) :
    Ideal.div ((c * a : ℝ) : EReal) ((c * z : ℝ) : EReal) = ((a / z : ℝ) : EReal) := by
  rw [Ideal.div_coe (mul_pos hc hz).ne', ← EReal.coe_mul]
  refine congrArg _ ?_
  field_simp

/-- A tile row's attention at a value lane is the causal softmax average. -/
theorem tileAttn {n : ℕ} (s v : ℕ → ℝ) (r : Fin 256) (S0 : Fin n → EReal) (S1 : Fin 256 → EReal)
    (v0 o0 : Fin n → EReal) (v1 o1 : Fin 256 → EReal)
    (hS0 : ∀ k, S0 k = ((s k * (Real.log 2)⁻¹ : ℝ) : EReal))
    (hS1 : ∀ k, S1 k = if (k : ℕ) ≤ r then ((s (n + k) * (Real.log 2)⁻¹ : ℝ) : EReal) else ⊥)
    (hv0 : ∀ k, v0 k = (v k : EReal)) (hv1 : ∀ k, v1 k = (v (n + k) : EReal)) (ho0 : ∀ k, o0 k = 1) (ho1 : ∀ k, o1 k = 1) :
    Ideal.div (weighted S0 S1 v0 v1) (weighted S0 S1 o0 o1) = ((attn s v (n + r) : ℝ) : EReal) := by
  obtain ⟨μ, hμ⟩ := rowMax_real S0 S1 (fun k => by rw [hS0]; exact EReal.coe_ne_top _)
    (fun k => by rw [hS1]; split; exacts [EReal.coe_ne_top _, bot_ne_top]) r (by rw [hS1, if_pos le_rfl]; exact EReal.coe_ne_bot _)
  rw [weighted_real s v r S0 S1 v0 v1 μ hμ hS0 hS1 hv0 hv1,
    weighted_real s (fun _ => 1) r S0 S1 o0 o1 μ hμ hS0 hS1 (fun k => by rw [ho0]; rfl) (fun k => by rw [ho1]; rfl)]
  simp only [mul_one]
  exact div_common _ _ _ (Real.exp_pos _) (expSum_pos s _)

/-- A tile row's difference of the two maps, as a real. -/
theorem rowDiff_real {n : ℕ} (s : ℕ → ℕ → ℝ) (v : ℕ → ℕ → ℝ) (lam : ℝ) (r : Fin 256) (S0 : Fin 2 → Fin n → EReal) (S1 : Fin 2 → Fin 256 → EReal)
    (v0 : Fin n → Fin 256 → EReal) (v1 : Fin 256 → Fin 256 → EReal) (e : Fin 128)
    (hS0 : ∀ c k, S0 c k = ((s c k * (Real.log 2)⁻¹ : ℝ) : EReal))
    (hS1 : ∀ c k, S1 c k = if (k : ℕ) ≤ r then ((s c (n + k) * (Real.log 2)⁻¹ : ℝ) : EReal) else ⊥)
    (hv0 : ∀ k (e : Fin 128) h, v0 k ⟨e, h⟩ = (v k e : EReal)) (hv1 : ∀ k (e : Fin 128) h, v1 k ⟨e, h⟩ = (v (n + k) e : EReal))
    (ho0 : ∀ k (e : Fin 128) h, v0 k ⟨128 + e, h⟩ = 1) (ho1 : ∀ k (e : Fin 128) h, v1 k ⟨128 + e, h⟩ = 1) :
    rowDiff S0 S1 v0 v1 (lam : EReal) e
      = ((attn (s 0) (fun k => v k e) (n + r) - lam * attn (s 1) (fun k => v k e) (n + r) : ℝ) : EReal) := by
  unfold rowDiff
  rw [tileAttn (s 0) (fun k => v k e) r _ _ _ _ _ _ (hS0 0) (hS1 0) (fun k => hv0 k e _) (fun k => hv1 k e _) (fun k => ho0 k e _) (fun k => ho1 k e _),
    tileAttn (s 1) (fun k => v k e) r _ _ _ _ _ _ (hS0 1) (hS1 1) (fun k => hv0 k e _) (fun k => hv1 k e _) (fun k => ho0 k e _) (fun k => ho1 k e _),
    ← EReal.coe_mul, ← EReal.coe_sub]

end Cert.KernelIdeal.Diff

end
-- ==== Proof.Scores.lean ====
module

public import proofs.«01_k».proof.Proof.Gen.KernelIdeal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

/-- One score of map `c`: the query and key lanes of that map (64 of the 128) contracted. -/
def scoreAt (q k : Fin 128 → EReal) (c : Fin 2) : EReal :=
  ∑ x : Fin 128, if (x : ℕ) / 64 = (c : ℕ) then q x * k x else 0

/-- The lane test of map 0, on a masked factor. -/
theorem sel_lt (x : Fin 128) (a : EReal) :
    Scalar.select (IntOp.cmpi CmpIPredicate.slt (BitVec.ofNat 32 ↑x) 64#32) a 0 = if (x : ℕ) / 64 = ((0 : Fin 2) : ℕ) then a else 0 := by
  rw [(by decide : ∀ x : Fin 128, IntOp.cmpi CmpIPredicate.slt (BitVec.ofNat 32 ↑x) 64#32 = if (x : ℕ) / 64 = ((0 : Fin 2) : ℕ) then 1#1 else 0#1) x]
  split <;> rfl

/-- The lane test of map 1, on a masked factor. -/
theorem sel_ge (x : Fin 128) (a : EReal) :
    Scalar.select (IntOp.cmpi CmpIPredicate.sge (BitVec.ofNat 32 ↑x) 64#32) a 0 = if (x : ℕ) / 64 = ((1 : Fin 2) : ℕ) then a else 0 := by
  rw [(by decide : ∀ x : Fin 128, IntOp.cmpi CmpIPredicate.sge (BitVec.ofNat 32 ↑x) 64#32 = if (x : ℕ) / 64 = ((1 : Fin 2) : ℕ) then 1#1 else 0#1) x]
  split <;> rfl

/-- The lane numbers the kernel masks the query with. -/
abbrev lanes : IVec S256x128 32 := iota .tc S256x128 32 [1] iota_S256x128_d1_w32

/-- The query scale `log2 e / 8`, exactly. -/
def qscale : EReal := (((1 / 8) * (Real.log 2)⁻¹ : ℝ) : EReal)

/-- The kernel's named query scale is the exact one. -/
theorem named_qscale : (Named.named κ "qscale" 0x3E38AA3B#32 : Ideal .f32) = qscale :=
  IdealRules.named_const.ideal_named_scalar _ _ _ _ rfl

/-- The scores of a tile of 256 query rows, scaled, against the first 2048 key rows. -/
theorem score_2048 (Q : FVec Ideal S1x256x128 .f32) (K : FVec Ideal S1x2048x128 .bf16) (c : Fin 2) (r : Fin 256) (j : Fin 2048) :
    k0_pay7 (F := Ideal) lanes Q K (ix3 c r j) = scoreAt (fun x => Q (ix3 0 r x) * qscale) (fun x => K (ix3 0 j x)) c := by
  obtain rfl | rfl : c = 0 ∨ c = 1 := by omega
  · pointwise [k0_pay7]
    simp only [sel_lt, scoreAt, named_qscale]
  · pointwise [k0_pay7]
    simp only [sel_ge, scoreAt, named_qscale]

/-- The scores of a tile of 256 query rows, scaled, against the first 1792 key rows. -/
theorem score_1792 (Q : FVec Ideal S1x256x128 .f32) (K : FVec Ideal S1x1792x128 .bf16) (c : Fin 2) (r : Fin 256) (j : Fin 1792) :
    k0_pay8 (F := Ideal) lanes Q K (ix3 c r j) = scoreAt (fun x => Q (ix3 0 r x) * qscale) (fun x => K (ix3 0 j x)) c := by
  obtain rfl | rfl : c = 0 ∨ c = 1 := by omega
  · pointwise [k0_pay8]
    simp only [sel_lt, scoreAt, named_qscale]
  · pointwise [k0_pay8]
    simp only [sel_ge, scoreAt, named_qscale]

/-- The scores of a tile of 256 query rows, scaled, against the first 1536 key rows. -/
theorem score_1536 (Q : FVec Ideal S1x256x128 .f32) (K : FVec Ideal S1x1536x128 .bf16) (c : Fin 2) (r : Fin 256) (j : Fin 1536) :
    k0_pay9 (F := Ideal) lanes Q K (ix3 c r j) = scoreAt (fun x => Q (ix3 0 r x) * qscale) (fun x => K (ix3 0 j x)) c := by
  obtain rfl | rfl : c = 0 ∨ c = 1 := by omega
  · pointwise [k0_pay9]
    simp only [sel_lt, scoreAt, named_qscale]
  · pointwise [k0_pay9]
    simp only [sel_ge, scoreAt, named_qscale]

/-- The scores of a tile of 256 query rows, scaled, against the first 1280 key rows. -/
theorem score_1280 (Q : FVec Ideal S1x256x128 .f32) (K : FVec Ideal S1x1280x128 .bf16) (c : Fin 2) (r : Fin 256) (j : Fin 1280) :
    k0_pay13 (F := Ideal) lanes Q K (ix3 c r j) = scoreAt (fun x => Q (ix3 0 r x) * qscale) (fun x => K (ix3 0 j x)) c := by
  obtain rfl | rfl : c = 0 ∨ c = 1 := by omega
  · pointwise [k0_pay13]
    simp only [sel_lt, scoreAt, named_qscale]
  · pointwise [k0_pay13]
    simp only [sel_ge, scoreAt, named_qscale]

/-- The scores of a tile of 256 query rows, scaled, against the first 1024 key rows. -/
theorem score_1024 (Q : FVec Ideal S1x256x128 .f32) (K : FVec Ideal S1x1024x128 .bf16) (c : Fin 2) (r : Fin 256) (j : Fin 1024) :
    k0_pay21 (F := Ideal) lanes (k0_pay19 Q) k0_pay20 64#32 K (ix3 c r j) = scoreAt (fun x => Q (ix3 0 r x) * qscale) (fun x => K (ix3 0 j x)) c := by
  obtain rfl | rfl : c = 0 ∨ c = 1 := by omega
  · pointwise [k0_pay21, k0_pay19, k0_pay20]
    simp only [sel_lt, scoreAt, named_qscale]
  · pointwise [k0_pay21, k0_pay19, k0_pay20]
    simp only [sel_ge, scoreAt, named_qscale]

/-- The scores of a tile of 256 query rows, scaled, against the first 768 key rows. -/
theorem score_768 (Q : FVec Ideal S1x256x128 .f32) (K : FVec Ideal S1x768x128 .bf16) (c : Fin 2) (r : Fin 256) (j : Fin 768) :
    k0_pay26 (F := Ideal) lanes Q K (ix3 c r j) = scoreAt (fun x => Q (ix3 0 r x) * qscale) (fun x => K (ix3 0 j x)) c := by
  obtain rfl | rfl : c = 0 ∨ c = 1 := by omega
  · pointwise [k0_pay26]
    simp only [sel_lt, scoreAt, named_qscale]
  · pointwise [k0_pay26]
    simp only [sel_ge, scoreAt, named_qscale]

/-- The scores of a tile of 256 query rows, scaled, against the first 512 key rows. -/
theorem score_512 (Q : FVec Ideal S1x256x128 .f32) (K : FVec Ideal S1x512x128 .bf16) (c : Fin 2) (r : Fin 256) (j : Fin 512) :
    k0_pay34 (F := Ideal) (k0_pay33 lanes Q) K (ix3 c r j) = scoreAt (fun x => Q (ix3 0 r x) * qscale) (fun x => K (ix3 0 j x)) c := by
  obtain rfl | rfl : c = 0 ∨ c = 1 := by omega
  · pointwise [k0_pay34, k0_pay33]
    simp only [sel_lt, scoreAt, named_qscale]
  · pointwise [k0_pay34, k0_pay33]
    simp only [sel_ge, scoreAt, named_qscale]

/-- The scores of a tile of 256 query rows, scaled, against the first 256 key rows. -/
theorem score_256 (Q : FVec Ideal S1x256x128 .f32) (K : FVec Ideal S1x256x128 .bf16) (c : Fin 2) (r : Fin 256) (j : Fin 256) :
    k0_pay37 (F := Ideal) lanes Q K (ix3 c r j) = scoreAt (fun x => Q (ix3 0 r x) * qscale) (fun x => K (ix3 0 j x)) c := by
  obtain rfl | rfl : c = 0 ∨ c = 1 := by omega
  · pointwise [k0_pay37]
    simp only [sel_lt, scoreAt, named_qscale]
  · pointwise [k0_pay37]
    simp only [sel_ge, scoreAt, named_qscale]

/-- The causal bias of the diagonal square. -/
theorem bias_at (r : Fin 256) (k : Fin 256) :
    k0_pay6 (F := Ideal) (ix2 r k) = if (k : ℕ) ≤ r then 0 else ⊥ := by
  pointwise [k0_pay6]
  rw [IdealRules.named_const.ideal_named_scalar _ _ _ _ rfl]
  word_cmp

/-- The gain with the constant factor. -/
theorem gain_at (g : FVec Ideal S1x1x128 .f32) (e : Fin 128) :
    k0_pay5 (F := Ideal) g (ix2 0 e) = g (ix3 0 0 e) * Ideal.ofBits .f32 0x3F4CCCCD#32 := by
  pointwise [k0_pay5]

/-- The mixing weight of the second map. -/
theorem lam_at (l : FVec Ideal S4x64 .f32) :
    k0_pay4 (F := Ideal) l (ix2 0 0) = Ideal.exp (∑ x, l (ix2 0 x) * l (ix2 1 x)) - Ideal.exp (∑ x, l (ix2 2 x) * l (ix2 3 x))
      + Ideal.ofBits .f32 0x3E4CCCCD#32 := by
  pointwise [k0_pay4]

/-- The value half of the slab. -/
theorem slab_v (v : FVec Ideal S1x2048x128 .bf16) (k : Fin 2048) (e : Fin 128) :
    k0_pay2 (F := Ideal) v (ix2 k e) = v (ix3 0 k e) := by
  pointwise [k0_pay2]

/-- The half of the slab that sums the weights. -/
theorem slab_one (k : Fin 2048) (e : Fin 128) : k0_pay3 (F := Ideal) (ix2 k e) = 1 := by
  pointwise [k0_pay3]

end Cert.KernelIdeal.Diff

end
-- ==== Proof.Spec.lean ====
module

public import proofs.«01_k».proof.Proof.Core
public import proofs.«01_k».proof.Proof.Scores

@[expose] public section

set_option maxRecDepth 16384

noncomputable section

open Idealize.ShloMosaic Idealize.ShloMosaic.TcCoe Idealize.SL.Sem

namespace Cert.KernelIdeal.Diff

open Cert.KernelIdeal Cert.KernelIdeal.Gen

/-- The score of key row `k` in map `c` of head `h` for query row `R` of batch `b`: 64 lanes contracted, over eight. -/
def sc (qn kn : ℕ → ℕ → ℕ → ℝ) (b h R c k : ℕ) : ℝ :=
  (∑ d ∈ Finset.range 64, qn b R (h * 128 + c * 64 + d) * kn b k (h * 128 + c * 64 + d)) * (1 / 8)

/-- The difference of the two causal softmax averages of the values, at lane `e` of head `h`. -/
def diffAt (qn kn vn : ℕ → ℕ → ℕ → ℝ) (lam : ℝ) (b h R e : ℕ) : ℝ :=
  attn (sc qn kn b h R 0) (fun k => vn b k (h * 128 + e)) R - lam * attn (sc qn kn b h R 1) (fun k => vn b k (h * 128 + e)) R

/-- A map's half of 128 lanes, summed by its own 64 lane numbers. -/
theorem sum_half (c : Fin 2) (f : ℕ → ℝ) :
    (∑ x : Fin 128, if (x : ℕ) / 64 = (c : ℕ) then f x else 0) = ∑ d ∈ Finset.range 64, f (c * 64 + d) := by
  rw [Fin.sum_univ_eq_sum_range (fun x => if x / 64 = (c : ℕ) then f x else 0) 128, ← Finset.sum_filter]
  symm
  refine Finset.sum_nbij' (fun d => c * 64 + d) (fun x => x - c * 64) ?_ ?_ ?_ ?_ ?_
  · intro d hd
    simp only [Finset.mem_range, Finset.mem_filter] at hd ⊢
    have := c.isLt
    omega
  · intro x hx
    simp only [Finset.mem_range, Finset.mem_filter] at hx ⊢
    omega
  · intro d hd
    simp
  · intro x hx
    simp only [Finset.mem_range, Finset.mem_filter] at hx
    show c * 64 + (x - c * 64) = x
    omega
  · intro d hd
    rfl

/-- The kernel's score of real queries and keys: the score over `log 2`. -/
theorem scoreAt_real (a b : ℕ → ℝ) (q k : Fin 128 → EReal) (hq : ∀ x, q x = (a x : EReal)) (hk : ∀ x, k x = (b x : EReal)) (c : Fin 2) :
    scoreAt (fun x => q x * qscale) k c =
      (((∑ d ∈ Finset.range 64, a (c * 64 + d) * b (c * 64 + d)) * (1 / 8) * (Real.log 2)⁻¹ : ℝ) : EReal) := by
  unfold scoreAt qscale
  rw [← sum_half c (fun x => a x * b x), Finset.sum_mul, Finset.sum_mul, ← sum_coe]
  refine Finset.sum_congr rfl fun x _ => ?_
  show (if (x : ℕ) / 64 = (c : ℕ) then q x * _ * k x else 0) = _
  rw [hq, hk]
  split
  · rw [← EReal.coe_mul, ← EReal.coe_mul]
    congr 1
    ring
  · simp

/-- One row of a tile of real queries, keys and values: the head's normalised difference. -/
theorem tile_spec {n N : ℕ} (hN : N = n + 256) (qn kn vn : ℕ → ℕ → ℕ → ℝ) (lam : ℝ) (b h : ℕ) (r : Fin 256)
    (S : (⟨3, ![2, 256, N]⟩ : Shape).Idx → EReal) (V : (⟨2, ![N, 256]⟩ : Shape).Idx → EReal) (bias : (⟨2, ![256, 256]⟩ : Shape).Idx → EReal) (l g : EReal)
    (q : Fin 128 → EReal) (K : Fin N → Fin 128 → EReal)
    (hS : ∀ c k, S (ix3 c r k) = scoreAt (fun x => q x * qscale) (K k) c)
    (hb : ∀ k : Fin 256, bias (ix2 r k) = if (k : ℕ) ≤ r then 0 else ⊥) (hl : l = (lam : EReal))
    (hq : ∀ x : Fin 128, q x = (qn b (n + r) (h * 128 + x) : EReal))
    (hK : ∀ (k : Fin N) (x : Fin 128), K k x = (kn b k (h * 128 + x) : EReal))
    (hV : ∀ (k : Fin N) (e : Fin 128) hh, V (ix2 k ⟨e, hh⟩) = (vn b k (h * 128 + e) : EReal))
    (ho : ∀ (k : Fin N) (e : Fin 128) hh, V (ix2 k ⟨128 + e, hh⟩) = 1) (e : Fin 128) :
    rmsRow (rowDiff (fun c (k : Fin n) => S (ix3 c r ⟨k, by omega⟩)) (fun c k => S (ix3 c r ⟨n + k, by omega⟩) + bias (ix2 r k))
      (fun k e => V (ix2 ⟨k, by omega⟩ e)) (fun k e => V (ix2 ⟨n + k, by omega⟩ e)) l) g e
      = rmsRow (fun e => (diffAt qn kn vn lam b h (n + r) e : EReal)) g e := by
  have hs : ∀ (c : Fin 2) (k : Fin N), S (ix3 c r k) = ((sc qn kn b h (n + r) c k * (Real.log 2)⁻¹ : ℝ) : EReal) := by
    intro c k
    rw [hS, scoreAt_real (fun x => qn b (n + r) (h * 128 + x)) (fun x => kn b k (h * 128 + x)) q (K k) hq (hK k) c]
    unfold sc
    simp only [Nat.add_assoc]
  congr 1
  funext e
  rw [hl]
  refine rowDiff_real (fun c k => sc qn kn b h (n + r) c k) (fun k e => vn b k (h * 128 + e)) lam r _ _ _ _ e
    (fun c k => hs c _) ?_ (fun k e hh => hV _ e hh) (fun k e hh => hV _ e hh) (fun k e hh => ho _ e hh) (fun k e hh => ho _ e hh)
  intro c k
  rw [hs, hb]
  split
  · rw [add_zero]
  · rw [EReal.add_bot]

variable {Val : EltTy → Type} [∀ e, Nonempty (Val e)] {sg : RefSig} {κ' : Kind} {sp : Space} {ty : EltTy}

/-- The value half of the slab, read back: the values' own store. -/
theorem slab_lo {N : ℕ} (v : View sg κ' sp S2048x256 ty)
    (h1 : ∀ a, (![0, 128] : Fin 2 → ℕ) a + (![2048, 128] : Fin 2 → ℕ) a ≤ S2048x256.size a)
    (h0 : ∀ a, (![0, 0] : Fin 2 → ℕ) a + (![2048, 128] : Fin 2 → ℕ) a ≤ S2048x256.size a)
    (hN : ∀ a, (![0, 0] : Fin 2 → ℕ) a + (![N, 256] : Fin 2 → ℕ) a ≤ S2048x256.size a)
    (w1 w0 : S2048x128.Idx → Val ty) (k : Fin N) (hk : (k : ℕ) < 2048) (e : Fin 128) (he : (e : ℕ) < 256) :
    v.readCov [⟨Rect.unit (s := S2048x256) ![0, 128] ![2048, 128] h1, w1⟩, ⟨Rect.unit (s := S2048x256) ![0, 0] ![2048, 128] h0, w0⟩]
      (Rect.unit (s := S2048x256) ![0, 0] ![N, 256] hN).toLoadRect (ix2 k ⟨e, he⟩) = w0 (ix2 ⟨k, hk⟩ e) := by
  rw [View.readCov_eq_canon']
  have hi : (Rect.unit (s := S2048x256) ![0, 0] ![N, 256] hN).toLoadRect.idx (ix2 k ⟨e, he⟩)
      = (Rect.unit (s := S2048x256) ![0, 0] ![2048, 128] h0).emb (ix2 ⟨k, hk⟩ e) := by
    funext a
    refine Fin.cases ?_ (fun a => Fin.cases ?_ (fun a => a.elim0) a) a
    · rfl
    · rfl
  show View.canon _ ((Rect.unit (s := S2048x256) ![0, 0] ![N, 256] hN).toLoadRect.idx (ix2 k ⟨e, he⟩)) = _
  rw [hi, View.canon_cons_of_not_mem, View.canon_cons_emb]
  intro hm
  have := ((Rect.mem_set_unit (s := S2048x256) (inb := h1)).1 hm) 1
  have h2 := e.isLt
  have h3 : 128 ≤ 0 + 1 * (e : ℕ) := this.1
  omega

/-- The ones half of the slab, read back: its own store. -/
theorem slab_hi {N : ℕ} (v : View sg κ' sp S2048x256 ty)
    (h1 : ∀ a, (![0, 128] : Fin 2 → ℕ) a + (![2048, 128] : Fin 2 → ℕ) a ≤ S2048x256.size a)
    (h0 : ∀ a, (![0, 0] : Fin 2 → ℕ) a + (![2048, 128] : Fin 2 → ℕ) a ≤ S2048x256.size a)
    (hN : ∀ a, (![0, 0] : Fin 2 → ℕ) a + (![N, 256] : Fin 2 → ℕ) a ≤ S2048x256.size a)
    (w1 w0 : S2048x128.Idx → Val ty) (k : Fin N) (hk : (k : ℕ) < 2048) (e : Fin 128) (he : 128 + (e : ℕ) < 256) :
    v.readCov [⟨Rect.unit (s := S2048x256) ![0, 128] ![2048, 128] h1, w1⟩, ⟨Rect.unit (s := S2048x256) ![0, 0] ![2048, 128] h0, w0⟩]
      (Rect.unit (s := S2048x256) ![0, 0] ![N, 256] hN).toLoadRect (ix2 k ⟨128 + e, he⟩) = w1 (ix2 ⟨k, hk⟩ e) := by
  rw [View.readCov_eq_canon']
  have hi : (Rect.unit (s := S2048x256) ![0, 0] ![N, 256] hN).toLoadRect.idx (ix2 k ⟨128 + e, he⟩)
      = (Rect.unit (s := S2048x256) ![0, 128] ![2048, 128] h1).emb (ix2 ⟨k, hk⟩ e) := by
    funext a
    refine Fin.cases ?_ (fun a => Fin.cases ?_ (fun a => a.elim0) a) a
    · rfl
    · refine Fin.ext ?_
      show 0 + 1 * (128 + (e : ℕ)) = 128 + 1 * (e : ℕ)
      omega
  show View.canon _ ((Rect.unit (s := S2048x256) ![0, 0] ![N, 256] hN).toLoadRect.idx (ix2 k ⟨128 + e, he⟩)) = _
  rw [hi, View.canon_cons_emb]

end Cert.KernelIdeal.Diff

end
-- ==== Proof.Tiles1.lean ====
module

public import proofs.«01_k».proof.Proof.Gen.KernelIdeal.Skeleton
public import proofs.«01_k».proof.Proof.Rows
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

/-- The tile of rows 1792 … 2047, entry by entry. -/
theorem tile_2048 (lam : FVec Ideal S1x1 .f32) (gain : FVec Ideal S1x128 .f32) (bias : FVec Ideal S256x256 .f32)
    (S : FVec Ideal S2x256x2048 .f32) (V : FVec Ideal S2048x256 .bf16) (r : Fin 256) (e : Fin 128) :
    k0_pay12 (F := Ideal) gain (k0_pay10 lam bias S V) (k0_pay11 lam bias S V) (ix3 0 r e) =
      rmsRow (rowDiff (fun c (k : Fin 1792) => S (ix3 c r ⟨k, by omega⟩)) (fun c k => S (ix3 c r ⟨1792 + k, by omega⟩) + bias (ix2 r k))
        (fun k e => V (ix2 ⟨k, by omega⟩ e)) (fun k e => V (ix2 ⟨1792 + k, by omega⟩ e)) (lam (ix2 0 0))) (gain (ix2 0 e)) e := by
  pointwise [k0_pay12, k0_pay11, k0_pay10]
  simp only [half0, half1, rowMod]
  rfl

/-- The tile of rows 1536 … 1791, entry by entry. -/
theorem tile_1792 (lam : FVec Ideal S1x1 .f32) (gain : FVec Ideal S1x128 .f32) (bias : FVec Ideal S256x256 .f32)
    (S : FVec Ideal S2x256x1792 .f32) (V : FVec Ideal S1792x256 .bf16) (r : Fin 256) (e : Fin 128) :
    k0_pay18 (F := Ideal) lam gain (k0_pay14 bias S) (k0_pay15 bias S) (k0_pay16 S) (k0_pay17 S) V (ix3 0 r e) =
      rmsRow (rowDiff (fun c (k : Fin 1536) => S (ix3 c r ⟨k, by omega⟩)) (fun c k => S (ix3 c r ⟨1536 + k, by omega⟩) + bias (ix2 r k))
        (fun k e => V (ix2 ⟨k, by omega⟩ e)) (fun k e => V (ix2 ⟨1536 + k, by omega⟩ e)) (lam (ix2 0 0))) (gain (ix2 0 e)) e := by
  pointwise [k0_pay18, k0_pay17, k0_pay16, k0_pay15, k0_pay14]
  simp only [half0, half1, rowMod]
  rfl

end Cert.KernelIdeal.Diff

end
-- ==== Proof.Tiles2.lean ====
module

public import proofs.«01_k».proof.Proof.Gen.KernelIdeal.Skeleton
public import proofs.«01_k».proof.Proof.Rows
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

/-- The tile of rows 1280 … 1535, entry by entry. -/
theorem tile_1536 (lam : FVec Ideal S1x1 .f32) (gain : FVec Ideal S1x128 .f32) (bias : FVec Ideal S256x256 .f32)
    (S : FVec Ideal S2x256x1536 .f32) (V : FVec Ideal S1536x256 .bf16) (r : Fin 256) (e : Fin 128) :
    k0_pay25 (F := Ideal) gain (k0_pay22 lam bias S V) (k0_pay23 lam bias S V) k0_pay24 (ix3 0 r e) =
      rmsRow (rowDiff (fun c (k : Fin 1280) => S (ix3 c r ⟨k, by omega⟩)) (fun c k => S (ix3 c r ⟨1280 + k, by omega⟩) + bias (ix2 r k))
        (fun k e => V (ix2 ⟨k, by omega⟩ e)) (fun k e => V (ix2 ⟨1280 + k, by omega⟩ e)) (lam (ix2 0 0))) (gain (ix2 0 e)) e := by
  pointwise [k0_pay25, k0_pay24, k0_pay23, k0_pay22]
  simp only [half0, half1, rowMod]
  rfl

/-- The tile of rows 1024 … 1279, entry by entry. -/
theorem tile_1280 (lam : FVec Ideal S1x1 .f32) (gain : FVec Ideal S1x128 .f32) (bias : FVec Ideal S256x256 .f32)
    (S : FVec Ideal S2x256x1280 .f32) (V : FVec Ideal S1280x256 .bf16) (r : Fin 256) (e : Fin 128) :
    k0_pay32 (F := Ideal) lam gain (k0_pay30 bias S) (k0_pay31 bias S) V (ix3 0 r e) =
      rmsRow (rowDiff (fun c (k : Fin 1024) => S (ix3 c r ⟨k, by omega⟩)) (fun c k => S (ix3 c r ⟨1024 + k, by omega⟩) + bias (ix2 r k))
        (fun k e => V (ix2 ⟨k, by omega⟩ e)) (fun k e => V (ix2 ⟨1024 + k, by omega⟩ e)) (lam (ix2 0 0))) (gain (ix2 0 e)) e := by
  pointwise [k0_pay32, k0_pay31, k0_pay30, k0_pay29, k0_pay28, k0_pay27]
  simp only [half0, half1, rowMod]
  rfl

end Cert.KernelIdeal.Diff

end
-- ==== Proof.Tiles3.lean ====
module

public import proofs.«01_k».proof.Proof.Gen.KernelIdeal.Skeleton
public import proofs.«01_k».proof.Proof.Rows
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

/-- The tile of rows 768 … 1023, entry by entry. -/
theorem tile_1024 (lam : FVec Ideal S1x1 .f32) (gain : FVec Ideal S1x128 .f32) (bias : FVec Ideal S256x256 .f32)
    (S : FVec Ideal S2x256x1024 .f32) (V : FVec Ideal S1024x256 .bf16) (r : Fin 256) (e : Fin 128) :
    k0_pay36 (F := Ideal) (k0_pay35 lam gain bias S V) (ix3 0 r e) =
      rmsRow (rowDiff (fun c (k : Fin 768) => S (ix3 c r ⟨k, by omega⟩)) (fun c k => S (ix3 c r ⟨768 + k, by omega⟩) + bias (ix2 r k))
        (fun k e => V (ix2 ⟨k, by omega⟩ e)) (fun k e => V (ix2 ⟨768 + k, by omega⟩ e)) (lam (ix2 0 0))) (gain (ix2 0 e)) e := by
  pointwise [k0_pay36, k0_pay35]
  simp only [half0, half1, rowMod]
  rfl

/-- The tile of rows 512 … 767, entry by entry. -/
theorem tile_768 (lam : FVec Ideal S1x1 .f32) (gain : FVec Ideal S1x128 .f32) (bias : FVec Ideal S256x256 .f32)
    (S : FVec Ideal S2x256x768 .f32) (V : FVec Ideal S768x256 .bf16) (r : Fin 256) (e : Fin 128) :
    k0_pay39 (F := Ideal) lam gain (k0_pay38 bias S) V (constant S512x256 .f32 0x00000000#32) (ix3 0 r e) =
      rmsRow (rowDiff (fun c (k : Fin 512) => S (ix3 c r ⟨k, by omega⟩)) (fun c k => S (ix3 c r ⟨512 + k, by omega⟩) + bias (ix2 r k))
        (fun k e => V (ix2 ⟨k, by omega⟩ e)) (fun k e => V (ix2 ⟨512 + k, by omega⟩ e)) (lam (ix2 0 0))) (gain (ix2 0 e)) e := by
  pointwise [k0_pay39, k0_pay38]
  simp only [half0, half1, rowMod]
  rfl

end Cert.KernelIdeal.Diff

end
-- ==== Proof.Tiles4.lean ====
module

public import proofs.«01_k».proof.Proof.Gen.KernelIdeal.Skeleton
public import proofs.«01_k».proof.Proof.Rows
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

/-- The tile of rows 256 … 511, entry by entry. -/
theorem tile_512 (lam : FVec Ideal S1x1 .f32) (gain : FVec Ideal S1x128 .f32) (bias : FVec Ideal S256x256 .f32)
    (S : FVec Ideal S2x256x512 .f32) (V : FVec Ideal S512x256 .bf16) (r : Fin 256) (e : Fin 128) :
    k0_pay42 (F := Ideal) lam gain (k0_pay40 bias S V) (k0_pay41 bias S V) (ix3 0 r e) =
      rmsRow (rowDiff (fun c (k : Fin 256) => S (ix3 c r ⟨k, by omega⟩)) (fun c k => S (ix3 c r ⟨256 + k, by omega⟩) + bias (ix2 r k))
        (fun k e => V (ix2 ⟨k, by omega⟩ e)) (fun k e => V (ix2 ⟨256 + k, by omega⟩ e)) (lam (ix2 0 0))) (gain (ix2 0 e)) e := by
  pointwise [k0_pay42, k0_pay41, k0_pay40]
  simp only [half0, half1, rowMod]
  rfl

/-- The tile of the first 256 rows, entry by entry. -/
theorem tile_256 (lam : FVec Ideal S1x1 .f32) (gain : FVec Ideal S1x128 .f32) (bias : FVec Ideal S256x256 .f32)
    (S : FVec Ideal S2x256x256 .f32) (V : FVec Ideal S256x256 .bf16) (r : Fin 256) (e : Fin 128) :
    k0_pay1 (F := Ideal) gain (k0_pay43 lam bias S V) (k0_pay44 lam bias S V) k0_pay45 (ix3 0 r e) =
      rmsRow (rowDiff (fun _ (k : Fin 0) => k.elim0) (fun c k => S (ix3 c r k) + bias (ix2 r k))
        (fun k _ => k.elim0) (fun k e => V (ix2 k e)) (lam (ix2 0 0))) (gain (ix2 0 e)) e := by
  pointwise [k0_pay1, k0_pay45, k0_pay44, k0_pay43]
  simp only [half0, half1, rowMod]
  unfold rmsRow rowDiff
  simp only [weighted_nil]
  rfl

end Cert.KernelIdeal.Diff

end
-- ==== Proof.Bridge.lean ====
module

public import proofs.«01_k».proof.Proof.Gen.KernelIdeal.Frame
public import proofs.«01_k».proof.Proof.Spec
public import proofs.«01_k».proof.Proof.Tiles1
public import proofs.«01_k».proof.Proof.Tiles2
public import proofs.«01_k».proof.Proof.Tiles3
public import proofs.«01_k».proof.Proof.Tiles4
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

variable (m : (ℓ : Loc nD τ sig) → Buf (Elt Ideal) ℓ)

/-- The windows' block indices at every grid point. -/
theorem idx : ∀ t : Fin cfg0.N, win0_0.index t = ![0, 0] ∧ win0_1.index t = ![t.val % 8, 0, 0] ∧ win0_2.index t = ![t.val / 8, 0, t.val % 8]
    ∧ win0_3.index t = ![t.val / 8, 0, t.val % 8] ∧ win0_4.index t = ![t.val / 8, 0, t.val % 8] ∧ win0_5.index t = ![t.val / 8, 0, t.val % 8] :=
  (by decide +kernel : ∀ t : Fin grid0.N, _)

/-- The grid has a point per batch and head. -/
theorem points (t : Fin cfg0.N) : t.val < 256 := t.isLt

/-- A head's queries at a grid point. -/
theorem q_block (c : Dev nD) (t : Fin cfg0.N) (R : Fin 2048) (x : Fin 128) :
    (iblk m c 2 t : FVec Ideal S1x2048x128 .f32) (ix3 0 R x) =
      (m ((c : Thread nD τ).loc main_arg0) : FVec Ideal S32x2048x1024 .f32) (ix3 ⟨t.val / 8, by have := points t; omega⟩ R ⟨t.val % 8 * 128 + x, by omega⟩) := by
  blk_point [iblk, V, idx t]

/-- A head's keys at a grid point. -/
theorem k_block (c : Dev nD) (t : Fin cfg0.N) (R : Fin 2048) (x : Fin 128) :
    (iblk m c 3 t : FVec Ideal S1x2048x128 .bf16) (ix3 0 R x) =
      (m ((c : Thread nD τ).loc main_arg1) : FVec Ideal S32x2048x1024 .f32) (ix3 ⟨t.val / 8, by have := points t; omega⟩ R ⟨t.val % 8 * 128 + x, by omega⟩) := by
  blk_point [iblk, V, idx t]

/-- A head's values at a grid point. -/
theorem v_block (c : Dev nD) (t : Fin cfg0.N) (R : Fin 2048) (x : Fin 128) :
    (iblk m c 4 t : FVec Ideal S1x2048x128 .bf16) (ix3 0 R x) =
      (m ((c : Thread nD τ).loc main_arg2) : FVec Ideal S32x2048x1024 .f32) (ix3 ⟨t.val / 8, by have := points t; omega⟩ R ⟨t.val % 8 * 128 + x, by omega⟩) := by
  blk_point [iblk, V, idx t]

/-- The coefficient's vectors at a grid point. -/
theorem l_block (c : Dev nD) (t : Fin cfg0.N) (a : Fin 4) (x : Fin 64) :
    (iblk m c 0 t : FVec Ideal S4x64 .f32) (ix2 a x) = (m ((c : Thread nD τ).loc main_arg3) : FVec Ideal S1x4x64 .f32) (ix3 0 a x) := by
  blk_point [iblk, V, idx t]

/-- A head's gain at a grid point. -/
theorem g_block (c : Dev nD) (t : Fin cfg0.N) (x : Fin 128) :
    (iblk m c 1 t : FVec Ideal S1x1x128 .f32) (ix3 0 0 x) =
      (m ((c : Thread nD τ).loc main_arg4) : FVec Ideal S1x8x128 .f32) (ix3 0 ⟨t.val % 8, by omega⟩ x) := by
  blk_point [iblk, V, idx t]

end Cert.KernelIdeal.Diff

end
-- ==== Proof.Final.lean ====
module

public import proofs.«01_k».proof.Proof.Gen.KernelIdeal.Frame
public import proofs.«01_k».proof.Proof.Spec
public import proofs.«01_k».proof.Proof.Tiles1
public import proofs.«01_k».proof.Proof.Tiles2
public import proofs.«01_k».proof.Proof.Tiles3
public import proofs.«01_k».proof.Proof.Tiles4
public import proofs.«01_k».proof.Proof.Bridge
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen

variable (m : (ℓ : Loc nD τ sig) → Buf (Elt Ideal) ℓ)

/-- Rows read from a block through a rectangle of its rows. -/
theorem ld_rows {Val : EltTy → Type} {ty : EltTy} {N o : ℕ} (X : S1x2048x128.Idx → Val ty)
    (inb : ∀ a, (![0, o, 0] : Fin 3 → ℕ) a + (![1, N, 128] : Fin 3 → ℕ) a ≤ S1x2048x128.size a) (k : Fin N) (hk : o + k < 2048) (x : Fin 128) :
    View.ld X (Rect.unit (s := S1x2048x128) ![0, o, 0] ![1, N, 128] inb) (ix3 0 k x) = X (ix3 0 ⟨o + k, hk⟩ x) := by
  refine congrArg X (funext fun a => Fin.ext ?_)
  refine Fin.cases ?_ (fun a => Fin.cases ?_ (fun a => Fin.cases ?_ (fun a => a.elim0) a) a) a
  · rfl
  · show o + 1 * (k : ℕ) = o + k
    omega
  · show 0 + 1 * (x : ℕ) = x
    omega

/-- Where a grid point's block lies in the result. -/
theorem emb5 (t : Fin cfg0.N) (y : S1x2048x128.Idx) : (((View.whole main_v5).slice (win0_5.rect t)).emb y : S32x2048x1024.Idx) =
    ix3 ⟨t.val / 8, by have := points t; omega⟩ (y 1) ⟨t.val % 8 * 128 + (y 2).val, by have : (y 2).val < 128 := (y 2).isLt; omega⟩ := by
  blk_ext [idx t]

/-- The kernel's result, from real queries, keys and values. -/
def out (qn kn vn : ℕ → ℕ → ℕ → ℝ) (lam : ℝ) (G : FVec Ideal S1x8x128 .f32) : FVec Ideal S32x2048x1024 .bf16 :=
  fun i => rmsRow (fun e => (diffAt qn kn vn lam (i 0).val ((i 2).val / 128) (i 1).val e : EReal))
    (G (ix3 0 ⟨(i 2).val / 128, Nat.div_lt_of_lt_mul (i 2).isLt⟩ ⟨(i 2).val % 128, Nat.mod_lt _ (by decide)⟩) * Ideal.ofBits .f32 0x3F4CCCCD#32)
    ⟨(i 2).val % 128, Nat.mod_lt _ (by decide)⟩

/-- The coefficient of the second map, from the four vectors. -/
def lamAt (L : FVec Ideal S1x4x64 .f32) : EReal :=
  Ideal.exp (∑ x : Fin 64, L (ix3 0 0 x) * L (ix3 0 1 x)) - Ideal.exp (∑ x : Fin 64, L (ix3 0 2 x) * L (ix3 0 3 x)) + Ideal.ofBits .f32 0x3E4CCCCD#32

/-- The kernel's coefficient at a grid point. -/
theorem lam_block (c : Dev nD) (t : Fin cfg0.N) :
    k0_pay4 (F := Ideal) (iblk m c 0 t) (ix2 0 0) = lamAt (m ((c : Thread nD τ).loc main_arg3)) := by
  refine (lam_at _).trans ?_
  unfold lamAt
  simp only [l_block]

/-- The result at a head's lane. -/
theorem out_at (qn kn vn : ℕ → ℕ → ℕ → ℝ) (lam : ℝ) (G : FVec Ideal S1x8x128 .f32) (b : Fin 32) (R : Fin 2048) (h : Fin 8) (e : Fin 128) :
    out qn kn vn lam G (ix3 b R ⟨h * 128 + e, by omega⟩) =
      rmsRow (fun e => (diffAt qn kn vn lam b h R e : EReal)) (G (ix3 0 h e) * Ideal.ofBits .f32 0x3F4CCCCD#32) e := by
  have h1 : ((h : ℕ) * 128 + e) / 128 = h := by omega
  have h2 : ((h : ℕ) * 128 + e) % 128 = e := by omega
  have e1 : ∀ p, (⟨((h : ℕ) * 128 + e) / 128, p⟩ : Fin 8) = h := fun p => Fin.ext h1
  have e2 : ∀ p, (⟨((h : ℕ) * 128 + e) % 128, p⟩ : Fin 128) = e := fun p => Fin.ext h2
  show rmsRow (fun e' => (diffAt qn kn vn lam b (((h : ℕ) * 128 + e) / 128) R e' : EReal))
    (G (ix3 0 ⟨((h : ℕ) * 128 + e) / 128, by omega⟩ ⟨((h : ℕ) * 128 + e) % 128, by omega⟩) * _) ⟨((h : ℕ) * 128 + e) % 128, by omega⟩ = _
  rw [e1, e2, h1]

/-- The result at a row and lane of a grid point's block. -/
theorem out_block (qn kn vn : ℕ → ℕ → ℕ → ℝ) (lam : ℝ) (c : Dev nD) (t : Fin cfg0.N) (y : S1x2048x128.Idx) (R : ℕ) (hR : (y 1).val = R) (e : Fin 128) (he : (y 2).val = e) :
    rmsRow (fun e => (diffAt qn kn vn lam (t.val / 8) (t.val % 8) R e : EReal)) (k0_pay5 (F := Ideal) (iblk m c 1 t) (ix2 0 e)) e
      = out qn kn vn lam (m ((c : Thread nD τ).loc main_arg4)) (((View.whole main_v5).slice (win0_5.rect t)).emb y) := by
  subst hR
  obtain rfl : y 2 = e := Fin.ext he
  have ht := points t
  rw [emb5 t y]
  refine Eq.trans ?_ (out_at qn kn vn lam (m ((c : Thread nD τ).loc main_arg4)) ⟨t.val / 8, by omega⟩ (y 1) ⟨t.val % 8, by omega⟩ (y 2)).symm
  exact congrArg (fun g => rmsRow _ g _) ((gain_at _ _).trans (congrArg (fun g : EReal => g * Ideal.ofBits .f32 0x3F4CCCCD#32) (g_block m c t _)))

/-- The first tile has no earlier rows. -/
theorem rows_256 (S : FVec Ideal S2x256x256 .f32) (V : FVec Ideal S256x256 .bf16) (bias : FVec Ideal S256x256 .f32) (l : EReal) (r : Fin 256) :
    rowDiff (fun _ (k : Fin 0) => k.elim0) (fun c k => S (ix3 c r k) + bias (ix2 r k)) (fun k _ => k.elim0) (fun k e => V (ix2 k e)) l
      = rowDiff (fun c (k : Fin 0) => S (ix3 c r ⟨k, by omega⟩)) (fun c k => S (ix3 c r ⟨0 + k, by omega⟩) + bias (ix2 r k))
        (fun k e => V (ix2 ⟨k, by omega⟩ e)) (fun k e => V (ix2 ⟨0 + k, by omega⟩ e)) l := by
  congr 1
  · funext c k
    exact k.elim0
  · funext c k
    simp only [Nat.zero_add]
  · funext k
    exact k.elim0
  · funext k e
    simp only [Nat.zero_add]

/-- An index of a tile, by its coordinates. -/
theorem tile_ix (y : S1x256x128.Idx) : y = ix3 0 (y 1) (y 2) := by
  funext a
  refine Fin.ext ?_
  fin_cases a <;> (try rfl)
  exact Nat.lt_one_iff.1 (y 0).isLt

/-- The result array after the run, from real queries, keys and values. -/
theorem final (qn kn vn : ℕ → ℕ → ℕ → ℝ) (lam : ℝ) (c : Dev nD)
    (hq : ∀ (b : Fin 32) (R : Fin 2048) (f : Fin 1024), (m ((c : Thread nD τ).loc main_arg0) : FVec Ideal S32x2048x1024 .f32) (ix3 b R f) = (qn b R f : EReal))
    (hk : ∀ (b : Fin 32) (R : Fin 2048) (f : Fin 1024), (m ((c : Thread nD τ).loc main_arg1) : FVec Ideal S32x2048x1024 .f32) (ix3 b R f) = (kn b R f : EReal))
    (hv : ∀ (b : Fin 32) (R : Fin 2048) (f : Fin 1024), (m ((c : Thread nD τ).loc main_arg2) : FVec Ideal S32x2048x1024 .f32) (ix3 b R f) = (vn b R f : EReal))
    (hl : lamAt (m ((c : Thread nD τ).loc main_arg3)) = (lam : EReal)) :
    (dats m 0 c).arrAt 5 (cfgs 0).N = out qn kn vn lam (m ((c : Thread nD τ).loc main_arg4)) := by
  have hq' := fun (t : Fin cfg0.N) R x => (q_block m c t R x).trans (hq _ _ _)
  have hk' := fun (t : Fin cfg0.N) R x => (k_block m c t R x).trans (hk _ _ _)
  have hv' := fun (t : Fin cfg0.N) R x => (v_block m c t R x).trans (hv _ _ _)
  have hl' := fun (t : Fin cfg0.N) => (lam_block m c t).trans hl
  refine (dats m 0 c).arrAt_eq_of_covers 5 _ (by decide +kernel) fun t _ z => ?_
  blk_simp
  rw [after0_5]
  unfold Gen.outsAt0
  frame_out
  canon_tiles z h
  case piece0 =>
    have hr : (z 1).val < 256 := (z 1).isLt
    rw [tile_ix z]
    refine ((tile_256 _ _ _ _ _ _ _).trans (congrArg (fun d => rmsRow d _ _) (rows_256 _ _ _ _ _))).trans ((tile_spec (n := 0) (N := 256) rfl qn kn vn lam (t.val / 8) (t.val % 8) _ _ _ _ _ _ _ _
      (fun c k => score_256 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece1 =>
    have hr : (z 1).val < 256 := (z 1).isLt
    rw [tile_ix z]
    refine (tile_512 _ _ _ _ _ _ _).trans ((tile_spec (n := 256) (N := 512) rfl qn kn vn lam (t.val / 8) (t.val % 8) _ _ _ _ _ _ _ _
      (fun c k => score_512 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece2 =>
    have hr : (z 1).val < 256 := (z 1).isLt
    rw [tile_ix z]
    refine (tile_768 _ _ _ _ _ _ _).trans ((tile_spec (n := 512) (N := 768) rfl qn kn vn lam (t.val / 8) (t.val % 8) _ _ _ _ _ _ _ _
      (fun c k => score_768 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece3 =>
    have hr : (z 1).val < 256 := (z 1).isLt
    rw [tile_ix z]
    refine (tile_1024 _ _ _ _ _ _ _).trans ((tile_spec (n := 768) (N := 1024) rfl qn kn vn lam (t.val / 8) (t.val % 8) _ _ _ _ _ _ _ _
      (fun c k => score_1024 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece4 =>
    have hr : (z 1).val < 256 := (z 1).isLt
    rw [tile_ix z]
    refine (tile_1280 _ _ _ _ _ _ _).trans ((tile_spec (n := 1024) (N := 1280) rfl qn kn vn lam (t.val / 8) (t.val % 8) _ _ _ _ _ _ _ _
      (fun c k => score_1280 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece5 =>
    have hr : (z 1).val < 256 := (z 1).isLt
    rw [tile_ix z]
    refine (tile_1536 _ _ _ _ _ _ _).trans ((tile_spec (n := 1280) (N := 1536) rfl qn kn vn lam (t.val / 8) (t.val % 8) _ _ _ _ _ _ _ _
      (fun c k => score_1536 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece6 =>
    have hr : (z 1).val < 256 := (z 1).isLt
    rw [tile_ix z]
    refine (tile_1792 _ _ _ _ _ _ _).trans ((tile_spec (n := 1536) (N := 1792) rfl qn kn vn lam (t.val / 8) (t.val % 8) _ _ _ _ _ _ _ _
      (fun c k => score_1792 _ _ c _ k) (fun k => bias_at _ k) (hl' t) (fun x => (ld_rows _ _ _ (by omega) x).trans (hq' t _ x))
      (fun k x => by rw [ld_rows _ _ k (by omega) x, hk']; simp only [Nat.zero_add])
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))
  case piece7 =>
    have hr : (z 1).val < 256 := (z 1).isLt
    rw [tile_ix z]
    refine (tile_2048 _ _ _ _ _ _ _).trans ((tile_spec (n := 1792) (N := 2048) rfl qn kn vn lam (t.val / 8) (t.val % 8) _ _ _ _ _ _ _ _
      (fun c k => score_2048 _ _ c _ k) (fun k => bias_at _ k) (hl' t) (fun x => (ld_rows _ _ _ (by omega) x).trans (hq' t _ x))
      (fun k x => hk' t k x)
      (fun k e hh => (slab_lo _ _ _ _ _ _ k (by omega) e hh).trans ((slab_v _ _ e).trans (hv' t _ e)))
      (fun k e hh => (slab_hi _ _ _ _ _ _ k (by omega) e hh).trans (slab_one _ e)) _).trans
      (out_block m qn kn vn lam c t _ _ (by omega) _ (by omega)))

end Cert.KernelIdeal.Diff

end
-- ==== Proof.RefStages.lean ====
module

public import proofs.«01_k».proof.Proof.Gen.ReferenceIdeal.Run
public import proofs.«01_k».proof.Proof.Core
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.Diff

open Cert.ReferenceIdeal Cert.ReferenceIdeal.Gen

/-- The reference's masked scores of both maps of every head. -/
def masked (Q K : FVec Ideal S32x2048x1024 .f32) : FVec Ideal S32x8x2x2048x2048 .f32 :=
  select (broadcastInDim S32x8x2x2048x2048 ![3, 4] bcast_S2048x2048_S32x8x2x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S32x2048x8x2x64_S32x2048x8x2x64_S32x8x2x2048x2048_4_4_1_1_023_023 none (shapeCast _ Q shapeCasts_S32x2048x1024_S32x2048x8x2x64) (shapeCast _ K shapeCasts_S32x2048x1024_S32x2048x8x2x64)) (broadcastInDim S32x8x2x2048x2048 ![] bcast_S_S32x8x2x2048x2048 (constant S_ .f32 0x3E000000#32))) (broadcastInDim S32x8x2x2048x2048 ![] bcast_S_S32x8x2x2048x2048 (id (constant S_ .f32 0xFF800000#32)))

/-- The rows' largest scores, before the comparison with −∞. -/
def hostMax (S : FVec Ideal S32x8x2x2048x2048 .f32) : FVec Ideal S32x8x2x2048 .f32 :=
  Host.reduce FloatOps.maximumf S (constant S_ .f32 0xFF800000#32) reducesTo_S32x8x2x2048x2048_S32x8x2x2048_d4 h_S_

/-- Row values compared with −∞. -/
def atLeast (M : FVec Ideal S32x8x2x2048 .f32) : FVec Ideal S32x8x2x2048 .f32 :=
  maximumf (broadcastInDim S32x8x2x2048 ![] bcast_S_S32x8x2x2048 (constant S_ .f32 0xFF800000#32)) M

/-- The largest masked score of every row. -/
def rowTop (S : FVec Ideal S32x8x2x2048x2048 .f32) : FVec Ideal S32x8x2x2048 .f32 :=
  atLeast (hostMax S)

/-- The exponentials of the masked scores less their row's largest. -/
def weights (S : FVec Ideal S32x8x2x2048x2048 .f32) : FVec Ideal S32x8x2x2048x2048 .f32 :=
  Host.exp (subf S (broadcastInDim S32x8x2x2048x2048 ![0, 1, 2, 3, 4] bcast_S32x8x2x2048x1_S32x8x2x2048x2048_0_1_2_3_4 (broadcastInDim S32x8x2x2048x1 ![0, 1, 2, 3] bcast_S32x8x2x2048_S32x8x2x2048x1_0_1_2_3 (rowTop S))))

/-- The softmax of the masked scores. -/
def soft (S : FVec Ideal S32x8x2x2048x2048 .f32) : FVec Ideal S32x8x2x2048x2048 .f32 :=
  Host.divf (weights S) (broadcastInDim S32x8x2x2048x2048 ![0, 1, 2, 3, 4] bcast_S32x8x2x2048x1_S32x8x2x2048x2048_0_1_2_3_4 (broadcastInDim S32x8x2x2048x1 ![0, 1, 2, 3] bcast_S32x8x2x2048_S32x8x2x2048x1_0_1_2_3 (Host.reduceAdd (weights S) (constant S_ .f32 0x00000000#32) reducesTo_S32x8x2x2048x2048_S32x8x2x2048_d4 h_S_)))

/-- The coefficient of the second map. -/
def lamOf (L : FVec Ideal S1x4x64 .f32) : FVec Ideal S_ .f32 :=
  addf (subf (Host.exp (Host.reduceAdd (mulf (shapeCast _ (extractStridedSlice S1x64 ![0, 0] (shapeCast _ L shapeCasts_S1x4x64_S4x64) slices_S4x64_S1x64_0_0) shapeCasts_S1x64_S64) (shapeCast _ (extractStridedSlice S1x64 ![1, 0] (shapeCast _ L shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ L shapeCasts_S1x4x64_S4x64) slices_S4x64_S1x64_2_0) shapeCasts_S1x64_S64) (shapeCast _ (extractStridedSlice S1x64 ![3, 0] (shapeCast _ L shapeCasts_S1x4x64_S4x64) slices_S4x64_S1x64_3_0) shapeCasts_S1x64_S64)) (constant S_ .f32 0x00000000#32) reducesTo_S64_S_d0 h_S_))) (constant S_ .f32 0x3E4CCCCD#32)

/-- The values, averaged by the difference of the two maps. -/
def mix (P : FVec Ideal S32x8x2x2048x2048 .f32) (lam : FVec Ideal S_ .f32) (V : FVec Ideal S32x2048x1024 .f32) : FVec Ideal S32x8x128x2048 .f32 :=
  Host.dotGeneral dot_S32x2048x8x128_S32x8x2048x2048_S32x8x128x2048_1_3_3_2_02_01 none (shapeCast _ V shapeCasts_S32x2048x1024_S32x2048x8x128) (subf (shapeCast _ (extractStridedSlice S32x8x1x2048x2048 ![0, 0, 0, 0, 0] P slices_S32x8x2x2048x2048_S32x8x1x2048x2048_0_0_0_0_0) shapeCasts_S32x8x1x2048x2048_S32x8x2048x2048) (mulf (broadcastInDim S32x8x2048x2048 ![] bcast_S_S32x8x2048x2048 lam) (shapeCast _ (extractStridedSlice S32x8x1x2048x2048 ![0, 0, 1, 0, 0] P slices_S32x8x2x2048x2048_S32x8x1x2048x2048_0_0_1_0_0) shapeCasts_S32x8x1x2048x2048_S32x8x2048x2048)))

/-- The heads' outputs, normalised and scaled. -/
def normed (O : FVec Ideal S32x8x128x2048 .f32) (G : FVec Ideal S1x8x128 .f32) : FVec Ideal S32x2048x1024 .bf16 :=
  truncf .bf16 (shapeCast _ (mulf (mulf (mulf (transpose S32x2048x8x128 [0, 3, 1, 2] O transposes_S32x8x128x2048_S32x2048x8x128_0_3_1_2) (broadcastInDim S32x2048x8x128 ![0, 1, 2, 3] bcast_S32x2048x8x1_S32x2048x8x128_0_1_2_3 (Host.rsqrt (addf (Host.divf (broadcastInDim S32x2048x8x1 ![0, 1, 2] bcast_S32x2048x8_S32x2048x8x1_0_1_2 (Host.reduceAdd (mulf (transpose S32x2048x8x128 [0, 3, 1, 2] O transposes_S32x8x128x2048_S32x2048x8x128_0_3_1_2) (transpose S32x2048x8x128 [0, 3, 1, 2] O transposes_S32x8x128x2048_S32x2048x8x128_0_3_1_2)) (constant S_ .f32 0x00000000#32) reducesTo_S32x2048x8x128_S32x2048x8_d3 h_S_)) (broadcastInDim S32x2048x8x1 ![] bcast_S_S32x2048x8x1 (constant S_ .f32 0x43000000#32))) (broadcastInDim S32x2048x8x1 ![] bcast_S_S32x2048x8x1 (constant S_ .f32 0x358637BD#32)))))) (broadcastInDim S32x2048x8x128 ![0, 1, 2, 3] bcast_S1x1x8x128_S32x2048x8x128_0_1_2_3 (broadcastInDim S1x1x8x128 ![2, 3] bcast_S8x128_S1x1x8x128_2_3 (shapeCast _ G shapeCasts_S1x8x128_S8x128)))) (broadcastInDim S32x2048x8x128 ![] bcast_S_S32x2048x8x128 (constant S_ .f32 0x3F4CCCCD#32))) shapeCasts_S32x2048x8x128_S32x2048x1024) bitsLt_bf16_f32

/-- The reference's result is its stages, one after another. -/
theorem staged (m : (ℓ : Loc nD τ sig) → Buf (Elt Ideal) ℓ) (c : Dev nD) :
    Value.res_main_v67 m c = normed (mix (soft (masked (m ((c.tc : Thread nD τ).loc main_arg0)) (m ((c.tc : Thread nD τ).loc main_arg1))))
      (lamOf (m ((c.tc : Thread nD τ).loc main_arg3))) (m ((c.tc : Thread nD τ).loc main_arg2))) (m ((c.tc : Thread nD τ).loc main_arg4)) := rfl

end Cert.ReferenceIdeal.Diff

end
-- ==== Proof.RefDiff.lean ====
module

public import proofs.«01_k».proof.Proof.RefStages
public import proofs.«01_k».proof.Proof.Spec

@[expose] public section

set_option maxRecDepth 16384

noncomputable section

open Idealize.ShloMosaic Idealize.ShloMosaic.TcCoe Idealize.SL.Sem Idealize.ShloMosaic.StableHlo

namespace Cert.ReferenceIdeal.Diff

open Cert.ReferenceIdeal Cert.ReferenceIdeal.Gen
open Cert.KernelIdeal.Diff (attn sum_coe foldMax_real expSum_pos sc diffAt rmsRow ofBits_ninf)

/-- A maximum over the last of five axes, read at an index. -/
theorem max_last {n0 n1 n2 n3 n4 : ℕ} (x : FVec Ideal ⟨5, ![n0, n1, n2, n3, n4]⟩ .f32) (z : FVec Ideal S_ .f32)
    (h : Shape.ReducesTo ⟨5, ![n0, n1, n2, n3, n4]⟩ [4] ⟨4, ![n0, n1, n2, n3]⟩)
    (h' : Shape.Reduces ⟨5, ![n0, n1, n2, n3, n4]⟩ [4] ⟨4, ![n0, n1, n2, n3]⟩) (hu : 0 < S_.numel)
    (a : Fin n0) (b : Fin n1) (c : Fin n2) (d : Fin n3) :
    Host.reduce FloatOps.maximumf x z h hu (ix4 a b c d) = Finset.fold max (z (Shape.Idx.first hu)) (fun k => x (ix5 a b c d k)) Finset.univ := by
  refine (Host.reduce_eq_fold_single (s := ⟨5, ![n0, n1, n2, n3, n4]⟩) (t := ⟨4, ![n0, n1, n2, n3]⟩) (a := (4 : Fin 5)) FloatOps.maximumf x z h h' hu _).trans ?_
  have : ∀ k, h'.lift (ix4 a b c d) k = ix5 a b c d k := by
    intro k
    funext i
    refine Fin.ext ?_
    fin_cases i <;> rfl
  congr 1
  funext k
  exact congrArg x (this k)

/-- A row's largest score: the fold of `max` from −∞. -/
theorem hostMax_at (S : FVec Ideal S32x8x2x2048x2048 .f32) (b : Fin 32) (h : Fin 8) (c : Fin 2) (R : Fin 2048) :
    hostMax S (ix4 b h c R) =
      Finset.fold max (constant (F := Ideal) S_ .f32 0xFF800000#32 (Shape.Idx.first h_S_)) (fun x => S (ix5 b h c R x)) Finset.univ := by
  unfold hostMax
  have hr : S32x8x2x2048x2048.Reduces [4] S32x8x2x2048 := by decide
  exact max_last S _ _ hr _ b h c R

/-- Row values compared with −∞, at an index. -/
theorem atLeast_at (M : FVec Ideal S32x8x2x2048 .f32) (b : Fin 32) (h : Fin 8) (c : Fin 2) (R : Fin 2048) :
    atLeast M (ix4 b h c R) = max (Ideal.ofBits FTy.f32 0xFF800000#32) (M (ix4 b h c R)) := by
  pointwise [atLeast]

/-- The row's largest score as the softmax uses it. -/
theorem rowTop_at (S : FVec Ideal S32x8x2x2048x2048 .f32) (b : Fin 32) (h : Fin 8) (c : Fin 2) (R : Fin 2048) :
    rowTop S (ix4 b h c R) = max (Ideal.ofBits FTy.f32 0xFF800000#32) (hostMax S (ix4 b h c R)) := by
  unfold rowTop
  exact atLeast_at (hostMax S) b h c R

/-- A row's weights. -/
theorem weights_at (S : FVec Ideal S32x8x2x2048x2048 .f32) (b : Fin 32) (h : Fin 8) (c : Fin 2) (R k : Fin 2048) :
    weights S (ix5 b h c R k) = Ideal.exp (S (ix5 b h c R k) - rowTop S (ix4 b h c R)) := by
  pointwise [weights]

/-- A row's softmax. -/
theorem soft_at (S : FVec Ideal S32x8x2x2048x2048 .f32) (b : Fin 32) (h : Fin 8) (c : Fin 2) (R k : Fin 2048) :
    soft S (ix5 b h c R k) = Ideal.div (weights S (ix5 b h c R k)) (∑ x, weights S (ix5 b h c R x)) := by
  pointwise [soft]

/-- The coefficient of the second map. -/
theorem lamOf_at (L : FVec Ideal S1x4x64 .f32) :
    lamOf L ix0 = Ideal.exp (∑ x : Fin 64, L (ix3 0 0 x) * L (ix3 0 1 x)) - Ideal.exp (∑ x : Fin 64, L (ix3 0 2 x) * L (ix3 0 3 x)) +
      Ideal.ofBits FTy.f32 0x3E4CCCCD#32 := by
  pointwise [lamOf]

/-- The values averaged by the difference of the two maps. -/
theorem mix_at (P : FVec Ideal S32x8x2x2048x2048 .f32) (lam : FVec Ideal S_ .f32) (V : FVec Ideal S32x2048x1024 .f32)
    (b : Fin 32) (h : Fin 8) (e : Fin 128) (R : Fin 2048) :
    mix P lam V (ix4 b h e R) = ∑ x : Fin 2048, V (ix3 b x ⟨h * 128 + e, by omega⟩) * (P (ix5 b h 0 R x) - lam ix0 * P (ix5 b h 1 R x)) := by
  pointwise [mix]

/-- The normalised output of a head. -/
theorem normed_at (O : FVec Ideal S32x8x128x2048 .f32) (G : FVec Ideal S1x8x128 .f32) (b : Fin 32) (R : Fin 2048) (f : Fin 1024) :
    normed O G (ix3 b R f) =
      rmsRow (fun e => O (ix4 b ⟨f / 128, by omega⟩ e R)) (G (ix3 0 ⟨f / 128, by omega⟩ ⟨f % 128, by omega⟩) * Ideal.ofBits FTy.f32 0x3F4CCCCD#32)
        ⟨f % 128, by omega⟩ := by
  unfold rmsRow
  rw [← mul_assoc]
  pointwise [normed]

/-- The causal comparison, decided. -/
theorem le_word (R k : Fin 2048) : IntOp.cmpi CmpIPredicate.sle (BitVec.ofNat 32 ↑k) (BitVec.ofNat 32 ↑R) = if (k : ℕ) ≤ R then 1#1 else 0#1 := by
  word_cmp
  split <;> simp [*]

/-- The masked scores of real queries and keys. -/
theorem masked_real (qn kn : ℕ → ℕ → ℕ → ℝ) (Q K : FVec Ideal S32x2048x1024 .f32) (hQ : ∀ (b : Fin 32) (R : Fin 2048) (f : Fin 1024), Q (ix3 b R f) = (qn b R f : EReal))
    (hK : ∀ (b : Fin 32) (R : Fin 2048) (f : Fin 1024), K (ix3 b R f) = (kn b R f : EReal)) (b : Fin 32) (h : Fin 8) (c : Fin 2) (R k : Fin 2048) :
    masked Q K (ix5 b h c R k) = if (k : ℕ) ≤ R then (sc qn kn b h R c k : EReal) else ⊥ := by
  pointwise [masked]
  rw [le_word]
  split
  · rw [show ∀ a b : EReal, Scalar.select 1#1 a b = a from fun _ _ => rfl]
    have h8 : Ideal.ofBits FTy.f32 0x3E000000#32 = ((1 / 8 : ℝ) : EReal) := by
      simp [Ideal.ofBits, Ideal.ieee, -EReal.coe_mul]
      norm_num
    rw [h8]
    unfold sc
    rw [EReal.coe_mul, ← Fin.sum_univ_eq_sum_range (fun d => qn b R (h * 128 + c * 64 + d) * kn b k (h * 128 + c * 64 + d)) 64, ← sum_coe]
    congr 1
    refine Finset.sum_congr rfl fun x _ => ?_
    rw [hQ, hK, EReal.coe_mul]
  · exact ofBits_ninf

/-- The softmax of a row of real scores, masked past `R`. -/
theorem soft_real (s : ℕ → ℝ) (R : Fin 2048) (S : Fin 2048 → EReal) (hS : ∀ k : Fin 2048, S k = if (k : ℕ) ≤ R then (s k : EReal) else ⊥)
    (top : EReal) (ht : top = max (Ideal.ofBits FTy.f32 0xFF800000#32) (Finset.fold max (Ideal.ofBits FTy.f32 0xFF800000#32) S Finset.univ)) (k : Fin 2048) :
    Ideal.div (Ideal.exp (S k - top)) (∑ x, Ideal.exp (S x - top)) =
      ((if (k : ℕ) ≤ R then Real.exp (s k) / ∑ j ∈ Finset.range (R + 1), Real.exp (s j) else 0 : ℝ) : EReal) := by
  obtain ⟨μ, hμ⟩ := foldMax_real Finset.univ S (fun i _ => by rw [hS]; split <;> simp) R (Finset.mem_univ _) (by rw [hS]; simp)
  have ht' : top = (μ : EReal) := by rw [ht, ofBits_ninf, hμ]; simp
  have hw : ∀ x, Ideal.exp (S x - top) = ((if (x : ℕ) ≤ R then Real.exp (s x) * Real.exp (-μ) else 0 : ℝ) : EReal) := by
    intro x
    rw [hS, ht']
    split
    · rw [← EReal.coe_sub, Ideal.exp_coe, sub_eq_add_neg, Real.exp_add]
    · rw [EReal.bot_sub, Ideal.exp_bot]
      rfl
  have hz : ∑ x, Ideal.exp (S x - top) = (((∑ j ∈ Finset.range (R + 1), Real.exp (s j)) * Real.exp (-μ) : ℝ) : EReal) := by
    rw [Finset.sum_congr rfl fun x _ => hw x, sum_coe, Fin.sum_univ_eq_sum_range (fun x => if x ≤ (R : ℕ) then Real.exp (s x) * Real.exp (-μ) else 0) 2048,
      ← Finset.sum_filter, Finset.sum_mul]
    congr 2
    ext x
    simp only [Finset.mem_filter, Finset.mem_range]
    have := R.isLt
    omega
  have hp := expSum_pos s R
  rw [hz, hw, Ideal.div_coe (mul_pos hp (Real.exp_pos _)).ne', ← EReal.coe_mul]
  congr 1
  split
  · have := Real.exp_pos (-μ)
    field_simp
  · simp

/-- The reference's output of a head, over the reals. -/
theorem mix_real (qn kn vn : ℕ → ℕ → ℕ → ℝ) (lam : ℝ) (Q K V : FVec Ideal S32x2048x1024 .f32) (l : FVec Ideal S_ .f32)
    (hQ : ∀ (b : Fin 32) (R : Fin 2048) (f : Fin 1024), Q (ix3 b R f) = (qn b R f : EReal))
    (hK : ∀ (b : Fin 32) (R : Fin 2048) (f : Fin 1024), K (ix3 b R f) = (kn b R f : EReal))
    (hV : ∀ (b : Fin 32) (R : Fin 2048) (f : Fin 1024), V (ix3 b R f) = (vn b R f : EReal)) (hl : l ix0 = (lam : EReal))
    (b : Fin 32) (h : Fin 8) (e : Fin 128) (R : Fin 2048) :
    mix (soft (masked Q K)) l V (ix4 b h e R) = (diffAt qn kn vn lam b h R e : EReal) := by
  have hp : ∀ (c : Fin 2) (k : Fin 2048), soft (masked Q K) (ix5 b h c R k) =
      ((if (k : ℕ) ≤ R then Real.exp (sc qn kn b h R c k) / ∑ j ∈ Finset.range (R + 1), Real.exp (sc qn kn b h R c j) else 0 : ℝ) : EReal) := by
    intro c k
    rw [soft_at]
    simp only [weights_at]
    exact soft_real (sc qn kn b h R c) R (fun k => masked Q K (ix5 b h c R k)) (masked_real qn kn Q K hQ hK b h c R) _
      ((rowTop_at _ b h c R).trans (congrArg _ (hostMax_at _ b h c R))) k
  rw [mix_at]
  simp only [hp, hV, hl, ← EReal.coe_mul, ← EReal.coe_sub]
  rw [sum_coe]
  congr 1
  rw [Fin.sum_univ_eq_sum_range (fun k => vn b k (h * 128 + e) * ((if k ≤ (R : ℕ) then Real.exp (sc qn kn b h R (0 : Fin 2) k) / ∑ j ∈ Finset.range (R + 1), Real.exp (sc qn kn b h R (0 : Fin 2) j) else 0)
    - lam * (if k ≤ (R : ℕ) then Real.exp (sc qn kn b h R (1 : Fin 2) k) / ∑ j ∈ Finset.range (R + 1), Real.exp (sc qn kn b h R (1 : Fin 2) j) else 0))) 2048]
  have hsub : Finset.range (R + 1) ⊆ Finset.range 2048 := by
    intro x hx
    have := R.isLt
    simp only [Finset.mem_range] at hx ⊢
    omega
  rw [← Finset.sum_subset hsub]
  · unfold diffAt attn
    rw [Finset.sum_div, Finset.sum_div, Finset.mul_sum, ← Finset.sum_sub_distrib]
    refine Finset.sum_congr rfl fun x hx => ?_
    have hx' : x ≤ (R : ℕ) := by simp only [Finset.mem_range] at hx; omega
    rw [if_pos hx', if_pos hx']
    show _ * (Real.exp (sc qn kn b h R 0 x) / _ - lam * (Real.exp (sc qn kn b h R 1 x) / _)) = _
    simp only [Fin.val_zero, Fin.val_one]
    ring
  · intro x _ hx
    have hx' : ¬ x ≤ (R : ℕ) := by simp only [Finset.mem_range] at hx; omega
    rw [if_neg hx', if_neg hx']
    ring

end Cert.ReferenceIdeal.Diff

end
-- ==== Proof.Agree.lean ====
module

public import proofs.«01_k».proof.Defs
public import proofs.«01_k».proof.Proof.Gen.Pre_finite
public import proofs.«01_k».proof.Proof.Final
public import proofs.«01_k».proof.Proof.RefDiff
public import Idealize.ShloMosaic.Lib.KernelVsHost

@[expose] public section

set_option maxRecDepth 16384

noncomputable section

open Idealize.ShloMosaic Idealize.ShloMosaic.TcCoe Idealize.SL.Sem

namespace Cert.Agree

open Cert.KernelIdeal.Diff (diffAt rmsRow lamAt out sum_coe)
open Cert.ReferenceIdeal.Diff (masked soft lamOf mix normed)

/-- A value whose magnitude is below infinity is a real number. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have h' := (Ideal.cmp_olt_eq_one _ _).mp h
  rw [max_lt_iff] at h'
  refine (EReal.coe_toReal h'.1.ne ?_).symm
  intro hb
  simp [hb] at h'

/-- The entry of a three-axis array at plain numbers, zero outside it. -/
def entry (X : FVec Ideal ⟨3, ![32, 2048, 1024]⟩ .f32) (b R f : ℕ) : ℝ :=
  if h : b < 32 ∧ R < 2048 ∧ f < 1024 then EReal.toReal (X (ix3 ⟨b, h.1⟩ ⟨R, h.2.1⟩ ⟨f, h.2.2⟩)) else 0

/-- A finite array is the array of its entries. -/
theorem entry_eq (X : FVec Ideal ⟨3, ![32, 2048, 1024]⟩ .f32) (hX : ∀ i, X i = ((EReal.toReal (X i) : ℝ) : EReal))
    (b : Fin 32) (R : Fin 2048) (f : Fin 1024) : X (ix3 b R f) = (entry X b R f : EReal) := by
  unfold entry
  rw [dif_pos ⟨b.isLt, R.isLt, f.isLt⟩]
  exact hX _

/-- The coefficient of finite vectors is a real number. -/
theorem lam_real (L : FVec Ideal ⟨3, ![1, 4, 64]⟩ .f32) (hL : ∀ i, L i = ((EReal.toReal (L i) : ℝ) : EReal)) :
    ∃ lam : ℝ, lamAt L = (lam : EReal) := by
  have hs : ∀ i j : Fin 4, ∃ s : ℝ, (∑ x : Fin 64, L (ix3 0 i x) * L (ix3 0 j x)) = (s : EReal) := by
    intro i j
    refine ⟨∑ x : Fin 64, EReal.toReal (L (ix3 0 i x)) * EReal.toReal (L (ix3 0 j x)), ?_⟩
    rw [← sum_coe]
    refine Finset.sum_congr rfl fun x _ => ?_
    rw [EReal.coe_mul, ← hL, ← hL]
  have hc : ∃ s : ℝ, Ideal.ofBits .f32 0x3E4CCCCD#32 = (s : EReal) := by
    simp [Ideal.ofBits, Ideal.ieee, -EReal.coe_mul]
  obtain ⟨s, hs1⟩ := hs 0 1
  obtain ⟨u, hu⟩ := hs 2 3
  obtain ⟨w, hw⟩ := hc
  refine ⟨Real.exp s - Real.exp u + w, ?_⟩
  unfold lamAt
  rw [hs1, hu, hw, Ideal.exp_coe, Ideal.exp_coe, EReal.coe_add, EReal.coe_sub]

/-- The reference's result, from finite arrays, is the normalised difference of the two attention maps. -/
theorem ref_out (qn kn vn : ℕ → ℕ → ℕ → ℝ) (lam : ℝ) (Q K V : FVec Ideal ⟨3, ![32, 2048, 1024]⟩ .f32) (L : FVec Ideal ⟨3, ![1, 4, 64]⟩ .f32)
    (G : FVec Ideal ⟨3, ![1, 8, 128]⟩ .f32)
    (hQ : ∀ (b : Fin 32) (R : Fin 2048) (f : Fin 1024), Q (ix3 b R f) = (qn b R f : EReal))
    (hK : ∀ (b : Fin 32) (R : Fin 2048) (f : Fin 1024), K (ix3 b R f) = (kn b R f : EReal))
    (hV : ∀ (b : Fin 32) (R : Fin 2048) (f : Fin 1024), V (ix3 b R f) = (vn b R f : EReal))
    (hl : lamAt L = (lam : EReal)) :
    normed (mix (soft (masked Q K)) (lamOf L) V) G = out qn kn vn lam G := by
  have hl' : lamOf L ix0 = (lam : EReal) := (Cert.ReferenceIdeal.Diff.lamOf_at L).trans hl
  funext i
  obtain ⟨b, R, f, rfl⟩ : ∃ (b : Fin 32) (R : Fin 2048) (f : Fin 1024), i = ix3 b R f := ⟨i 0, i 1, i 2, by funext a; fin_cases a <;> rfl⟩
  refine (Cert.ReferenceIdeal.Diff.normed_at _ G b R f).trans ?_
  refine congrArg (fun o => rmsRow o _ _) ?_
  funext e
  exact Cert.ReferenceIdeal.Diff.mix_real qn kn vn lam Q K V (lamOf L) hQ hK hV hl' b ⟨f / 128, by omega⟩ e R

end Cert.Agree

end
-- ==== Proof.Swiglu.lean ====
module

public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.Layer

/-- A token's activations, divided by their root mean square and scaled by the gain. -/
def rms (x g : Fin 1024 → EReal) (e : Fin 1024) : EReal :=
  x e * Ideal.rsqrt (Ideal.div (∑ k, x k * x k) (Ideal.ofBits .f32 0x44800000#32) + Ideal.ofBits .f32 0x358637BD#32) * g e

/-- A token's product with a column of a weight matrix. -/
def lin {n : ℕ} (h : Fin 1024 → EReal) (w : Fin 1024 → Fin n → EReal) (f : Fin n) : EReal := ∑ k, h k * w k f

/-- The gated unit: the first product times its logistic times the second product. -/
def gated (a b : EReal) : EReal := a * Ideal.logistic a * b

/-- The hidden units of the feed-forward part. -/
def hid {n : ℕ} (h : Fin 1024 → EReal) (w1 w3 : Fin 1024 → Fin n → EReal) (f : Fin n) : EReal := gated (lin h w1 f) (lin h w3 f)

/-- The hidden units' product with a column of the last weight matrix. -/
def back {n : ℕ} (h : Fin 1024 → EReal) (w1 w3 : Fin 1024 → Fin n → EReal) (w2 : Fin n → Fin 1024 → EReal) (e : Fin 1024) : EReal :=
  ∑ f, hid h w1 w3 f * w2 f e

/-- The feed-forward part with its residual. -/
def swiglu (x g : Fin 1024 → EReal) (w1 w3 : Fin 1024 → Fin 2816 → EReal) (w2 : Fin 2816 → Fin 1024 → EReal) (e : Fin 1024) : EReal :=
  x e + Ideal.ofBits .f32 0x3F000000#32 * back (rms x g) w1 w3 w2 e

/-- The gated merge of the two mixers' outputs, projected and added to the residual. -/
def merged (x a b ga gb : Fin 1024 → EReal) (wa wb wo : Fin 1024 → Fin 1024 → EReal) (e : Fin 1024) : EReal :=
  x e + ∑ k, (ga k * lin a wa k + gb k * lin b wb k) * wo k e

/-- The merge, the feed-forward part and the last normalisation, of a token. -/
def closing (x a b ga gb : Fin 1024 → EReal) (wa wb wo : Fin 1024 → Fin 1024 → EReal) (g : Fin 1024 → EReal)
    (w1 w3 : Fin 1024 → Fin 2816 → EReal) (w2 : Fin 2816 → Fin 1024 → EReal) (fg : Fin 1024 → EReal) (e : Fin 1024) : EReal :=
  rms (swiglu (merged x a b ga gb wa wb wo) g w1 w3 w2) fg e

/-- The bit pattern of one. -/
theorem ofBits_one : Ideal.ofBits .f32 0x3F800000#32 = 1 := by
  simp [Ideal.ofBits, Ideal.ieee, -EReal.coe_mul]
  norm_num

/-- The `c`-th 256 columns of a matrix. -/
def cols (w : Fin 1024 → Fin 2816 → EReal) (c : Fin 11) (k : Fin 1024) (j : Fin 256) : EReal := w k ⟨c * 256 + j, by omega⟩

/-- The `c`-th 256 rows of a matrix. -/
def rows (w : Fin 2816 → Fin 1024 → EReal) (c : Fin 11) (j : Fin 256) (e : Fin 1024) : EReal := w ⟨c * 256 + j, by omega⟩ e

/-- A sum over the hidden width, by chunks of 256. -/
theorem sum_chunks (F : Fin 2816 → EReal) : ∑ f, F f = ∑ c : Fin 11, ∑ j : Fin 256, F ⟨c * 256 + j, by omega⟩ := by
  rw [← Fintype.sum_prod_type' (f := fun (c : Fin 11) (j : Fin 256) => F ⟨c * 256 + j, by omega⟩)]
  refine (Fintype.sum_equiv (finProdFinEquiv (m := 11) (n := 256)) _ _ fun p => ?_).symm
  refine congrArg F (Fin.ext ?_)
  show (p.1 : ℕ) * 256 + p.2 = p.2 + 256 * p.1
  ring

/-- The chunks' products, added one after another to zero, are the whole product. -/
theorem back_chunks (h : Fin 1024 → EReal) (w1 w3 : Fin 1024 → Fin 2816 → EReal) (w2 : Fin 2816 → Fin 1024 → EReal) (e : Fin 1024)
    (B : Fin 11 → EReal) (hB : ∀ c, B c = back h (cols w1 c) (cols w3 c) (rows w2 c) e) :
    0 + B 0 + B 1 + B 2 + B 3 + B 4 + B 5 + B 6 + B 7 + B 8 + B 9 + B 10 = back h w1 w3 w2 e := by
  have hb : back h w1 w3 w2 e = ∑ c : Fin 11, B c := by
    refine (sum_chunks _).trans (Finset.sum_congr rfl fun c _ => (hB c).symm)
  rw [hb]
  simp only [Fin.sum_univ_castSucc, Fin.sum_univ_zero]
  rfl

end Cert.Layer

end
-- ==== Proof.FfnTile.lean ====
module

public import proofs.«01_k».proof.Proof.Gen.FfnIdeal.Frame
public import proofs.«01_k».proof.Proof.Swiglu
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.FfnIdeal.Tile

open Cert.FfnIdeal Cert.FfnIdeal.Gen
open Cert.Layer (rms lin gated hid back swiglu)

/-- A chunk's product: the gated units of 256 columns times 256 rows. -/
def part (h : FVec Ideal S512x1024 .bf16) (a b : FVec Ideal S1024x256 .bf16) (w : FVec Ideal S256x1024 .bf16) (R : Fin 512) (e : Fin 1024) : EReal :=
  back (fun k => h (ix2 R k)) (fun k j => a (ix2 k j)) (fun k j => b (ix2 k j)) (fun j e => w (ix2 j e)) e

/-- The normalised activations. -/
theorem pay3_at (x : FVec Ideal S512x1024 .f32) (g : FVec Ideal S1x1024 .f32) (R : Fin 512) (e : Fin 1024) :
    k0_pay3 (F := Ideal) x g (ix2 R e) = rms (fun k => x (ix2 R k)) (fun k => g (ix2 0 k)) e := by
  pointwise [k0_pay3, k0_pay2, rms]

/-- The first chunk, added to zero. -/
theorem pay4_at (x : FVec Ideal S512x1024 .f32) (g : FVec Ideal S1x1024 .f32) (a b : FVec Ideal S1024x256 .bf16) (w : FVec Ideal S256x1024 .bf16)
    (R : Fin 512) (e : Fin 1024) : k0_pay4 (F := Ideal) x g a b w (ix2 R e) = 0 + part (k0_pay3 (F := Ideal) x g) a b w R e := by
  pointwise [k0_pay4, part, back, hid, lin, gated]

/-- The second chunk's first product. -/
theorem pay5_at (x : FVec Ideal S512x1024 .f32) (g : FVec Ideal S1x1024 .f32) (a : FVec Ideal S1024x256 .bf16) (R : Fin 512) (j : Fin 256) :
    k0_pay5 (F := Ideal) x g a (ix2 R j) = lin (fun k => k0_pay3 (F := Ideal) x g (ix2 R k)) (fun k j => a (ix2 k j)) j := by
  pointwise [k0_pay5, lin]

/-- A chunk's hidden units. -/
theorem pay9_at (h : FVec Ideal S512x1024 .bf16) (a b : FVec Ideal S1024x256 .bf16) (R : Fin 512) (j : Fin 256) :
    k0_pay9 (F := Ideal) h a b (ix2 R j) = hid (fun k => h (ix2 R k)) (fun k j => a (ix2 k j)) (fun k j => b (ix2 k j)) j := by
  pointwise [k0_pay9, hid, lin, gated]

/-- A chunk's first product. -/
theorem pay11_at (h : FVec Ideal S512x1024 .bf16) (a : FVec Ideal S1024x256 .bf16) (R : Fin 512) (j : Fin 256) :
    k0_pay11 (F := Ideal) h a (ix2 R j) = lin (fun k => h (ix2 R k)) (fun k j => a (ix2 k j)) j := by
  pointwise [k0_pay11, lin]

/-- Three chunks, added to what stands before them; the first one's first product is given. -/
theorem pay7_at (h : FVec Ideal S512x1024 .bf16) (acc : FVec Ideal S512x1024 .f32) (a1 b1 : FVec Ideal S1024x256 .bf16) (w1 : FVec Ideal S256x1024 .bf16) (a2 b2 : FVec Ideal S1024x256 .bf16) (w2 : FVec Ideal S256x1024 .bf16) (a3 b3 : FVec Ideal S1024x256 .bf16) (w3 : FVec Ideal S256x1024 .bf16)
    (p : FVec Ideal S512x256 .f32) (R : Fin 512) (e : Fin 1024) (hp : ∀ j, p (ix2 R j) = lin (fun k => h (ix2 R k)) (fun k j => a1 (ix2 k j)) j) :
    k0_pay7 (F := Ideal) h acc p (k0_pay6 b1) w1 a2 b2 w2 a3 b3 w3 (ix2 R e) = acc (ix2 R e) + part h a1 b1 w1 R e + part h a2 b2 w2 R e + part h a3 b3 w3 R e := by
  unfold part back hid
  simp only [← hp]
  pointwise [k0_pay7, k0_pay6, lin, gated]

/-- Two chunks, added to what stands before them. -/
theorem pay8_at (h : FVec Ideal S512x1024 .bf16) (acc : FVec Ideal S512x1024 .f32) (a1 b1 : FVec Ideal S1024x256 .bf16) (w1 : FVec Ideal S256x1024 .bf16) (a2 b2 : FVec Ideal S1024x256 .bf16) (w2 : FVec Ideal S256x1024 .bf16) (R : Fin 512) (e : Fin 1024) :
    k0_pay8 (F := Ideal) h acc a1 b1 w1 a2 b2 w2 (ix2 R e) = acc (ix2 R e) + part h a1 b1 w1 R e + part h a2 b2 w2 R e := by
  pointwise [k0_pay8, part, back, hid, lin, gated]

/-- Three chunks, added to what stands before them; the first one's hidden units are given. -/
theorem pay10_at (h : FVec Ideal S512x1024 .bf16) (acc : FVec Ideal S512x1024 .f32) (a1 b1 : FVec Ideal S1024x256 .bf16) (w1 : FVec Ideal S256x1024 .bf16) (a2 b2 : FVec Ideal S1024x256 .bf16) (w2 : FVec Ideal S256x1024 .bf16) (a3 b3 : FVec Ideal S1024x256 .bf16) (w3 : FVec Ideal S256x1024 .bf16)
    (u : FVec Ideal S512x256 .f32) (R : Fin 512) (e : Fin 1024)
    (hu : ∀ j, u (ix2 R j) = hid (fun k => h (ix2 R k)) (fun k j => a1 (ix2 k j)) (fun k j => b1 (ix2 k j)) j) :
    k0_pay10 (F := Ideal) h acc u w1 a2 b2 w2 a3 b3 w3 (ix2 R e) = acc (ix2 R e) + part h a1 b1 w1 R e + part h a2 b2 w2 R e + part h a3 b3 w3 R e := by
  unfold part back
  simp only [← hu]
  pointwise [k0_pay10, hid, lin, gated]

/-- The last two chunks, and the residual. -/
theorem pay1_at (x : FVec Ideal S512x1024 .f32) (h : FVec Ideal S512x1024 .bf16) (acc : FVec Ideal S512x1024 .f32) (a1 b1 : FVec Ideal S1024x256 .bf16) (w1 : FVec Ideal S256x1024 .bf16) (a2 b2 : FVec Ideal S1024x256 .bf16) (w2 : FVec Ideal S256x1024 .bf16)
    (p : FVec Ideal S512x256 .f32) (R : Fin 512) (e : Fin 1024) (hp : ∀ j, p (ix2 R j) = lin (fun k => h (ix2 R k)) (fun k j => a1 (ix2 k j)) j) :
    k0_pay1 (F := Ideal) (k0_pay2 x) h acc p b1 w1 a2 b2 w2 (ix2 R e) =
      x (ix2 R e) + Ideal.ofBits .f32 0x3F000000#32 * (acc (ix2 R e) + part h a1 b1 w1 R e + part h a2 b2 w2 R e) := by
  unfold part back hid
  simp only [← hp]
  pointwise [k0_pay1, k0_pay2, lin, gated]

end Cert.FfnIdeal.Tile

end
-- ==== Proof.FfnFinal.lean ====
module

public import proofs.«01_k».proof.Proof.FfnTile

@[expose] public section

set_option maxRecDepth 16384

noncomputable section

open Idealize.ShloMosaic Idealize.ShloMosaic.TcCoe Idealize.SL.Sem
open Idealize.ShloMosaic.Pipeline (Dat)

namespace Cert.FfnIdeal.Tile

open Cert.FfnIdeal Cert.FfnIdeal.Gen
open Cert.Layer (rms lin gated hid back swiglu cols rows back_chunks)

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The grid has a point per 512 tokens. -/
theorem points (t : Fin cfg0.N) : t.val < 128 := t.isLt

/-- A token's activations at a grid point. -/
theorem x_block (c : Dev nD) (t : Fin cfg0.N) (R : Fin 512) (k : Fin 1024) :
    (iblk m c 0 t : FVec Ideal S512x1024 .f32) (ix2 R k) =
      (m ((c : Thread nD τ).loc main_arg0) : FVec Ideal S32x2048x1024 .f32)
        (ix3 ⟨(t.val * 512 + R) / 2048, by have := points t; omega⟩ ⟨(t.val * 512 + R) % 2048, by omega⟩ k) := by
  blk_point [iblk, V, idx t]

/-- The gain at a grid point. -/
theorem g_block (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  blk_point [iblk, V, idx t]

/-- The first weights at a grid point. -/
theorem w1_block (c : Dev nD) (t : Fin cfg0.N) (k : Fin 1024) (f : Fin 2816) :
    (iblk m c 2 t : FVec Ideal S1024x2816 .bf16) (ix2 k f) = (m ((c : Thread nD τ).loc main_arg2) : FVec Ideal S1x1024x2816 .f32) (ix3 0 k f) := by
  blk_point [iblk, V, idx t]

/-- The gate's weights at a grid point. -/
theorem w3_block (c : Dev nD) (t : Fin cfg0.N) (k : Fin 1024) (f : Fin 2816) :
    (iblk m c 3 t : FVec Ideal S1024x2816 .bf16) (ix2 k f) = (m ((c : Thread nD τ).loc main_arg3) : FVec Ideal S1x1024x2816 .f32) (ix3 0 k f) := by
  blk_point [iblk, V, idx t]

/-- The last weights at a grid point. -/
theorem w2_block (c : Dev nD) (t : Fin cfg0.N) (f : Fin 2816) (e : Fin 1024) :
    (iblk m c 4 t : FVec Ideal S2816x1024 .bf16) (ix2 f e) = (m ((c : Thread nD τ).loc main_arg4) : FVec Ideal S1x2816x1024 .f32) (ix3 0 f e) := by
  blk_point [iblk, V, idx t]

/-- Where a grid point's block lies in the result. -/
theorem emb5 (t : Fin cfg0.N) (y : S512x1024.Idx) : (((View.whole main_v9).slice (win0_5.rect t)).emb y : S65536x1024.Idx) =
    ix2 ⟨t.val * 512 + (y 0).val, by have := points t; have : (y 0).val < 512 := (y 0).isLt; omega⟩ (y 1) := by
  blk_ext [idx t]

/-- The kernel's result. -/
def out (X : FVec Ideal S32x2048x1024 .f32) (G : FVec Ideal S1x1024 .f32) (W1 W3 : FVec Ideal S1x1024x2816 .f32) (W2 : FVec Ideal S1x2816x1024 .f32) :
    FVec Ideal S65536x1024 .f32 := fun i =>
  swiglu (fun k => X (ix3 ⟨(i 0).val / 2048, Nat.div_lt_of_lt_mul (i 0).isLt⟩ ⟨(i 0).val % 2048, Nat.mod_lt _ (by decide)⟩ k)) (fun k => G (ix2 0 k))
    (fun k f => W1 (ix3 0 k f)) (fun k f => W3 (ix3 0 k f)) (fun f e => W2 (ix3 0 f e)) (i 1)

/-- Columns read from a block of weights. -/
theorem ld_cols {Val : EltTy → Type} {ty : EltTy} {o : ℕ} (X : S1024x2816.Idx → Val ty)
    (inb : ∀ a, (![0, o] : Fin 2 → ℕ) a + (![1024, 256] : Fin 2 → ℕ) a ≤ S1024x2816.size a) (k : Fin 1024) (j : Fin 256) (hj : o + j < 2816) :
    View.ld X (Rect.unit (s := S1024x2816) ![0, o] ![1024, 256] inb) (ix2 k j) = X (ix2 k ⟨o + j, hj⟩) := by
  refine congrArg X (funext fun a => Fin.ext ?_)
  refine Fin.cases ?_ (fun a => Fin.cases ?_ (fun a => a.elim0) a) a
  · show 0 + 1 * (k : ℕ) = k
    omega
  · show o + 1 * (j : ℕ) = o + j
    omega

/-- Rows read from a block of weights. -/
theorem ld_rows {Val : EltTy → Type} {ty : EltTy} {o : ℕ} (X : S2816x1024.Idx → Val ty)
    (inb : ∀ a, (![o, 0] : Fin 2 → ℕ) a + (![256, 1024] : Fin 2 → ℕ) a ≤ S2816x1024.size a) (j : Fin 256) (e : Fin 1024) (hj : o + j < 2816) :
    View.ld X (Rect.unit (s := S2816x1024) ![o, 0] ![256, 1024] inb) (ix2 j e) = X (ix2 ⟨o + j, hj⟩ e) := by
  refine congrArg X (funext fun a => Fin.ext ?_)
  refine Fin.cases ?_ (fun a => Fin.cases ?_ (fun a => a.elim0) a) a
  · show o + 1 * (j : ℕ) = o + j
    omega
  · show 0 + 1 * (e : ℕ) = e
    omega

/-- A chunk's product, read from the weights. -/
theorem part_ld (h : FVec Ideal S512x1024 .bf16) (W1 W3 : FVec Ideal S1024x2816 .bf16) (W2 : FVec Ideal S2816x1024 .bf16) (c : Fin 11)
    {o : ℕ} (ho : o = c * 256)
    (i1 : ∀ a, (![0, o] : Fin 2 → ℕ) a + (![1024, 256] : Fin 2 → ℕ) a ≤ S1024x2816.size a)
    (i2 : ∀ a, (![o, 0] : Fin 2 → ℕ) a + (![256, 1024] : Fin 2 → ℕ) a ≤ S2816x1024.size a) (R : Fin 512) (e : Fin 1024) :
    part h (View.ld (Val := Elt Ideal) (e' := .bf16) W1 (Rect.unit (s := S1024x2816) ![0, o] S1024x256.size i1) : FVec Ideal S1024x256 .bf16)
        (View.ld (Val := Elt Ideal) (e' := .bf16) W3 (Rect.unit (s := S1024x2816) ![0, o] S1024x256.size i1) : FVec Ideal S1024x256 .bf16)
        (View.ld (Val := Elt Ideal) (e' := .bf16) W2 (Rect.unit (s := S2816x1024) ![o, 0] S256x1024.size i2) : FVec Ideal S256x1024 .bf16) R e
      = back (fun k => h (ix2 R k)) (cols (fun k f => W1 (ix2 k f)) c) (cols (fun k f => W3 (ix2 k f)) c) (rows (fun f e => W2 (ix2 f e)) c) e := by
  subst ho
  unfold part
  congr 1
  · funext k j
    exact ld_cols (Val := Elt Ideal) (ty := .bf16) _ _ k j (by omega)
  · funext k j
    exact ld_cols (Val := Elt Ideal) (ty := .bf16) _ _ k j (by omega)
  · funext j e
    exact ld_rows (Val := Elt Ideal) (ty := .bf16) _ _ j e (by omega)

/-- A grid point's output block, from its input blocks. -/
theorem tile_at (x0 : FVec Ideal S512x1024 .f32) (x1 : FVec Ideal S1x1024 .f32) (x2 x3 : FVec Ideal S1024x2816 .bf16) (x4 : FVec Ideal S2816x1024 .bf16)
    (R : Fin 512) (e : Fin 1024) :
    (out0_5 (F := Ideal) x0 x1 x2 x3 x4 : FVec Ideal S512x1024 .f32) (ix2 R e) = swiglu (fun k => x0 (ix2 R k)) (fun k => x1 (ix2 0 k))
      (fun k f => x2 (ix2 k f)) (fun k f => x3 (ix2 k f)) (fun f e => x4 (ix2 f e)) e := by
  unfold out0_5 k0_pay12
  simp (disch := decide) only [View.canon_cons_unit_lit', View.ld_unit_lit']
  refine (pay1_at _ _ _ _ _ _ _ _ _ _ R e fun j => pay11_at _ _ R j).trans ?_
  rw [pay10_at _ _ _ _ _ _ _ _ _ _ _ _ R e fun j => pay9_at _ _ _ R j, pay8_at, pay7_at _ _ _ _ _ _ _ _ _ _ _ _ R e fun j => pay5_at _ _ _ R j, pay4_at]
  rw [part_ld _ _ _ _ 0 (o := 0) rfl, part_ld _ _ _ _ 1 (o := 256) rfl, part_ld _ _ _ _ 2 (o := 512) rfl, part_ld _ _ _ _ 3 (o := 768) rfl,
    part_ld _ _ _ _ 4 (o := 1024) rfl, part_ld _ _ _ _ 5 (o := 1280) rfl, part_ld _ _ _ _ 6 (o := 1536) rfl, part_ld _ _ _ _ 7 (o := 1792) rfl,
    part_ld _ _ _ _ 8 (o := 2048) rfl, part_ld _ _ _ _ 9 (o := 2304) rfl, part_ld _ _ _ _ 10 (o := 2560) rfl]
  rw [back_chunks (fun k => k0_pay3 (F := Ideal) x0 x1 (ix2 R k)) (fun k f => x2 (ix2 k f)) (fun k f => x3 (ix2 k f)) (fun f e => x4 (ix2 f e)) e
    (fun c => back (fun k => k0_pay3 (F := Ideal) x0 x1 (ix2 R k)) (cols (fun k f => x2 (ix2 k f)) c) (cols (fun k f => x3 (ix2 k f)) c) (rows (fun f e => x4 (ix2 f e)) c) e)
    fun _ => rfl]
  unfold swiglu
  simp only [pay3_at]

/-- The result array after the run. -/
theorem final (c : Dev nD) :
    (dats m 0 c).arrAt 5 (cfgs 0).N = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ z => ?_
  blk_simp
  rw [after0_5]
  obtain ⟨R, e, rfl⟩ : ∃ (R : Fin 512) (e : Fin 1024), z = ix2 R e := ⟨z 0, z 1, eq_ix2 z⟩
  refine (tile_at _ _ _ _ _ R e).trans ?_
  refine Eq.trans ?_ (congrArg (out (m ((c : Thread nD τ).loc main_arg0)) (m ((c : Thread nD τ).loc main_arg1)) (m ((c : Thread nD τ).loc main_arg2))
      (m ((c : Thread nD τ).loc main_arg3)) (m ((c : Thread nD τ).loc main_arg4))) (emb5 t (ix2 R e)).symm)
  simp only [x_block, g_block, w1_block, w3_block, w2_block]
  rfl

end Cert.FfnIdeal.Tile

end
-- ==== Proof.MergeTile.lean ====
module

public import proofs.«01_k».proof.Proof.FfnFinal
public import proofs.«01_k».proof.Proof.Gen.MergeIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeIdeal.Tile

open Cert.MergeIdeal Cert.MergeIdeal.Gen
open Cert.Layer (rms lin gated hid back merged)
open Cert.FfnIdeal.Tile (part)

/-- The merged outputs added to the residual. -/
theorem pay2_at (ga : FVec Ideal S512x1024 .f32) (ya : FVec Ideal S512x1024 .bf16) (wa : FVec Ideal S1024x1024 .bf16) (gb : FVec Ideal S512x1024 .f32) (yb : FVec Ideal S512x1024 .bf16) (wb : FVec Ideal S1024x1024 .bf16) (x : FVec Ideal S512x1024 .f32) (wo : FVec Ideal S1024x1024 .bf16) (R : Fin 512) (e : Fin 1024) :
    k0_pay2 (F := Ideal) ga ya wa gb yb wb x wo (ix2 R e) = merged (fun k => x (ix2 R k)) (fun k => ya (ix2 R k)) (fun k => yb (ix2 R k))
      (fun k => ga (ix2 R k)) (fun k => gb (ix2 R k)) (fun k e => wa (ix2 k e)) (fun k e => wb (ix2 k e)) (fun k e => wo (ix2 k e)) e := by
  pointwise [k0_pay2, merged, lin]

/-- The normalised activations. -/
theorem pay5_at (ga : FVec Ideal S512x1024 .f32) (ya : FVec Ideal S512x1024 .bf16) (wa : FVec Ideal S1024x1024 .bf16) (gb : FVec Ideal S512x1024 .f32) (yb : FVec Ideal S512x1024 .bf16) (wb : FVec Ideal S1024x1024 .bf16) (x : FVec Ideal S512x1024 .f32) (wo : FVec Ideal S1024x1024 .bf16) (g : FVec Ideal S1x1024 .f32) (R : Fin 512) (e : Fin 1024) :
    k0_pay5 (F := Ideal) (k0_pay2 ga ya wa gb yb wb x wo) (k0_pay3 g) (k0_pay4 ga ya wa gb yb wb x wo) (ix2 R e) =
      rms (fun k => k0_pay2 (F := Ideal) ga ya wa gb yb wb x wo (ix2 R k)) (fun k => g (ix2 0 k)) e := by
  unfold k0_pay4
  generalize k0_pay2 (F := Ideal) ga ya wa gb yb wb x wo = v
  pointwise [k0_pay5, k0_pay3, rms]

/-- The first two chunks, added to zero. -/
theorem pay6_at (v : FVec Ideal S512x1024 .f32) (g : FVec Ideal S1x1024 .f32) (r : FVec Ideal S512x1024 .f32) (a1 b1 : FVec Ideal S1024x256 .bf16) (w1 : FVec Ideal S256x1024 .bf16) (a2 b2 : FVec Ideal S1024x256 .bf16) (w2 : FVec Ideal S256x1024 .bf16) (R : Fin 512) (e : Fin 1024) :
    k0_pay6 (F := Ideal) v g r a1 b1 w1 a2 b2 w2 (ix2 R e) = 0 + part (k0_pay5 (F := Ideal) v g r) a1 b1 w1 R e + part (k0_pay5 (F := Ideal) v g r) a2 b2 w2 R e := by
  unfold k0_pay6
  generalize k0_pay5 (F := Ideal) v g r = h
  pointwise [part, back, hid, lin, gated]

/-- Two chunks, added to what stands before them. -/
theorem pay8_at (v : FVec Ideal S512x1024 .f32) (g : FVec Ideal S1x1024 .f32) (r acc : FVec Ideal S512x1024 .f32) (a1 b1 : FVec Ideal S1024x256 .bf16) (w1 : FVec Ideal S256x1024 .bf16) (a2 b2 : FVec Ideal S1024x256 .bf16) (w2 : FVec Ideal S256x1024 .bf16) (R : Fin 512) (e : Fin 1024) :
    k0_pay8 (F := Ideal) (k0_pay5 v g r) acc (k0_pay7 v g r a1) b1 w1 a2 b2 w2 (ix2 R e) =
      acc (ix2 R e) + part (k0_pay5 (F := Ideal) v g r) a1 b1 w1 R e + part (k0_pay5 (F := Ideal) v g r) a2 b2 w2 R e := by
  unfold k0_pay7
  generalize k0_pay5 (F := Ideal) v g r = h
  pointwise [k0_pay8, part, back, hid, lin, gated]

/-- Three chunks, added to what stands before them; the first one is computed before. -/
theorem pay10_at (h : FVec Ideal S512x1024 .bf16) (acc : FVec Ideal S512x1024 .f32) (a1 b1 : FVec Ideal S1024x256 .bf16) (w1 : FVec Ideal S256x1024 .bf16) (a2 b2 : FVec Ideal S1024x256 .bf16) (w2 : FVec Ideal S256x1024 .bf16) (a3 b3 : FVec Ideal S1024x256 .bf16) (w3 : FVec Ideal S256x1024 .bf16) (R : Fin 512) (e : Fin 1024) :
    k0_pay10 (F := Ideal) h acc (k0_pay9 h a1 b1 w1) a2 b2 w2 a3 b3 w3 (ix2 R e) =
      acc (ix2 R e) + part h a1 b1 w1 R e + part h a2 b2 w2 R e + part h a3 b3 w3 R e := by
  pointwise [k0_pay10, k0_pay9, part, back, hid, lin, gated]

/-- Three chunks, added to what stands before them; the first one's products are computed before. -/
theorem pay14_at (h : FVec Ideal S512x1024 .bf16) (acc : FVec Ideal S512x1024 .f32) (a1 b1 : FVec Ideal S1024x256 .bf16) (w1 : FVec Ideal S256x1024 .bf16) (a2 b2 : FVec Ideal S1024x256 .bf16) (w2 : FVec Ideal S256x1024 .bf16) (a3 b3 : FVec Ideal S1024x256 .bf16) (w3 : FVec Ideal S256x1024 .bf16) (R : Fin 512) (e : Fin 1024) :
    k0_pay14 (F := Ideal) h acc (k0_pay11 h a1) (k0_pay12 h b1) (k0_pay13 h a1) w1 a2 b2 w2 a3 b3 w3 (ix2 R e) =
      acc (ix2 R e) + part h a1 b1 w1 R e + part h a2 b2 w2 R e + part h a3 b3 w3 R e := by
  pointwise [k0_pay14, k0_pay11, k0_pay12, k0_pay13, part, back, hid, lin, gated]

/-- The last chunk, the residual and the last normalisation. -/
theorem pay1_at (v : FVec Ideal S512x1024 .f32) (h : FVec Ideal S512x1024 .bf16) (acc : FVec Ideal S512x1024 .f32) (a1 b1 : FVec Ideal S1024x256 .bf16) (w1 : FVec Ideal S256x1024 .bf16) (fg : FVec Ideal S1x1024 .f32) (R : Fin 512) (e : Fin 1024) :
    k0_pay1 (F := Ideal) v h acc (k0_pay15 a1) b1 w1 fg (ix2 R e) =
      rms (fun k => v (ix2 R k) + Ideal.ofBits .f32 0x3F000000#32 * (acc (ix2 R k) + part h a1 b1 w1 R k)) (fun k => fg (ix2 0 k)) e := by
  pointwise [k0_pay1, k0_pay15, rms, part, back, hid, lin, gated]

end Cert.MergeIdeal.Tile

end
-- ==== Proof.MergeFinal.lean ====
module

public import proofs.«01_k».proof.Proof.MergeTile

@[expose] public section

set_option maxRecDepth 16384

noncomputable section

open Idealize.ShloMosaic Idealize.ShloMosaic.TcCoe Idealize.SL.Sem
open Idealize.ShloMosaic.Pipeline (Dat)

namespace Cert.MergeIdeal.Tile

open Cert.MergeIdeal Cert.MergeIdeal.Gen
open Cert.Layer (rms lin gated hid back swiglu merged closing cols rows back_chunks)
open Cert.FfnIdeal.Tile (part part_ld)

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

/-- The grid has a point per 512 tokens. -/
theorem points (t : Fin cfg0.N) : t.val < 128 := t.isLt

/-- A token's activations at a grid point. -/
theorem x_block (c : Dev nD) (t : Fin cfg0.N) (R : Fin 512) (k : Fin 1024) :
    (iblk m c 0 t : FVec Ideal S512x1024 .f32) (ix2 R k) = (m ((c : Thread nD τ).loc main_arg0) : FVec Ideal S32x2048x1024 .f32) (ix3 ⟨(t.val * 512 + R) / 2048, by have := points t; omega⟩ ⟨(t.val * 512 + R) % 2048, by omega⟩ k) := by
  blk_point [iblk, V, idx t]

/-- A token's first mixed output at a grid point. -/
theorem ya_block (c : Dev nD) (t : Fin cfg0.N) (R : Fin 512) (k : Fin 1024) :
    (iblk m c 1 t : FVec Ideal S512x1024 .bf16) (ix2 R k) = (m ((c : Thread nD τ).loc main_arg1) : FVec Ideal S32x2048x1024 .bf16) (ix3 ⟨(t.val * 512 + R) / 2048, by have := points t; omega⟩ ⟨(t.val * 512 + R) % 2048, by omega⟩ k) := by
  blk_point [iblk, V, idx t]

/-- A token's second mixed output at a grid point. -/
theorem yb_block (c : Dev nD) (t : Fin cfg0.N) (R : Fin 512) (k : Fin 1024) :
    (iblk m c 2 t : FVec Ideal S512x1024 .bf16) (ix2 R k) = (m ((c : Thread nD τ).loc main_arg2) : FVec Ideal S32x2048x1024 .bf16) (ix3 ⟨(t.val * 512 + R) / 2048, by have := points t; omega⟩ ⟨(t.val * 512 + R) % 2048, by omega⟩ k) := by
  blk_point [iblk, V, idx t]

/-- A token's first gate at a grid point. -/
theorem ga_block (c : Dev nD) (t : Fin cfg0.N) (R : Fin 512) (k : Fin 1024) :
    (iblk m c 3 t : FVec Ideal S512x1024 .f32) (ix2 R k) = (m ((c : Thread nD τ).loc main_arg3) : FVec Ideal S32x2048x1024 .f32) (ix3 ⟨(t.val * 512 + R) / 2048, by have := points t; omega⟩ ⟨(t.val * 512 + R) % 2048, by omega⟩ k) := by
  blk_point [iblk, V, idx t]

/-- A token's second gate at a grid point. -/
theorem gb_block (c : Dev nD) (t : Fin cfg0.N) (R : Fin 512) (k : Fin 1024) :
    (iblk m c 4 t : FVec Ideal S512x1024 .f32) (ix2 R k) = (m ((c : Thread nD τ).loc main_arg4) : FVec Ideal S32x2048x1024 .f32) (ix3 ⟨(t.val * 512 + R) / 2048, by have := points t; omega⟩ ⟨(t.val * 512 + R) % 2048, by omega⟩ k) := by
  blk_point [iblk, V, idx t]

/-- The first projection at a grid point. -/
theorem wa_block (c : Dev nD) (t : Fin cfg0.N) (k : Fin 1024) (f : Fin 1024) :
    (iblk m c 5 t : FVec Ideal S1024x1024 .bf16) (ix2 k f) = (m ((c : Thread nD τ).loc main_arg5) : FVec Ideal S1x1024x1024 .f32) (ix3 0 k f) := by
  blk_point [iblk, V, idx t]

/-- The second projection at a grid point. -/
theorem wb_block (c : Dev nD) (t : Fin cfg0.N) (k : Fin 1024) (f : Fin 1024) :
    (iblk m c 6 t : FVec Ideal S1024x1024 .bf16) (ix2 k f) = (m ((c : Thread nD τ).loc main_arg6) : FVec Ideal S1x1024x1024 .f32) (ix3 0 k f) := by
  blk_point [iblk, V, idx t]

/-- The output projection at a grid point. -/
theorem wo_block (c : Dev nD) (t : Fin cfg0.N) (k : Fin 1024) (f : Fin 1024) :
    (iblk m c 7 t : FVec Ideal S1024x1024 .bf16) (ix2 k f) = (m ((c : Thread nD τ).loc main_arg7) : FVec Ideal S1x1024x1024 .f32) (ix3 0 k f) := by
  blk_point [iblk, V, idx t]

/-- The gain at a grid point. -/
theorem g_block (c : Dev nD) (t : Fin cfg0.N) (k : Fin 1024) :
    (iblk m c 8 t : FVec Ideal S1x1024 .f32) (ix2 0 k) = (m ((c : Thread nD τ).loc main_arg8) : FVec Ideal S1x1024 .f32) (ix2 0 k) := by
  blk_point [iblk, V, idx t]

/-- The first weights at a grid point. -/
theorem w1_block (c : Dev nD) (t : Fin cfg0.N) (k : Fin 1024) (f : Fin 2816) :
    (iblk m c 9 t : FVec Ideal S1024x2816 .bf16) (ix2 k f) = (m ((c : Thread nD τ).loc main_arg9) : FVec Ideal S1x1024x2816 .f32) (ix3 0 k f) := by
  blk_point [iblk, V, idx t]

/-- The gate's weights at a grid point. -/
theorem w3_block (c : Dev nD) (t : Fin cfg0.N) (k : Fin 1024) (f : Fin 2816) :
    (iblk m c 10 t : FVec Ideal S1024x2816 .bf16) (ix2 k f) = (m ((c : Thread nD τ).loc main_arg10) : FVec Ideal S1x1024x2816 .f32) (ix3 0 k f) := by
  blk_point [iblk, V, idx t]

/-- The last weights at a grid point. -/
theorem w2_block (c : Dev nD) (t : Fin cfg0.N) (k : Fin 2816) (f : Fin 1024) :
    (iblk m c 11 t : FVec Ideal S2816x1024 .bf16) (ix2 k f) = (m ((c : Thread nD τ).loc main_arg11) : FVec Ideal S1x2816x1024 .f32) (ix3 0 k f) := by
  blk_point [iblk, V, idx t]

/-- The last gain at a grid point. -/
theorem fg_block (c : Dev nD) (t : Fin cfg0.N) (k : Fin 1024) :
    (iblk m c 12 t : FVec Ideal S1x1024 .f32) (ix2 0 k) = (m ((c : Thread nD τ).loc main_arg12) : FVec Ideal S1024 .f32) (ix1 k) := by
  blk_point [iblk, V, idx t]

/-- Where a grid point's block lies in the result. -/
theorem emb13 (t : Fin cfg0.N) (y : S512x1024.Idx) : (((View.whole main_v20).slice (win0_13.rect t)).emb y : S65536x1024.Idx) =
    ix2 ⟨t.val * 512 + (y 0).val, by have := points t; have : (y 0).val < 512 := (y 0).isLt; omega⟩ (y 1) := by
  blk_ext [idx t]

/-- The kernel's result. -/
def out (X : FVec Ideal S32x2048x1024 .f32) (YA YB : FVec Ideal S32x2048x1024 .bf16) (GA GB : FVec Ideal S32x2048x1024 .f32) (WA WB WO : FVec Ideal S1x1024x1024 .f32)
    (G : FVec Ideal S1x1024 .f32) (W1 W3 : FVec Ideal S1x1024x2816 .f32) (W2 : FVec Ideal S1x2816x1024 .f32) (FG : FVec Ideal S1024 .f32) :
    FVec Ideal S65536x1024 .f32 := fun i =>
  closing (fun k => X (ix3 ⟨(i 0).val / 2048, Nat.div_lt_of_lt_mul (i 0).isLt⟩ ⟨(i 0).val % 2048, Nat.mod_lt _ (by decide)⟩ k)) (fun k => YA (ix3 ⟨(i 0).val / 2048, Nat.div_lt_of_lt_mul (i 0).isLt⟩ ⟨(i 0).val % 2048, Nat.mod_lt _ (by decide)⟩ k)) (fun k => YB (ix3 ⟨(i 0).val / 2048, Nat.div_lt_of_lt_mul (i 0).isLt⟩ ⟨(i 0).val % 2048, Nat.mod_lt _ (by decide)⟩ k))
    (fun k => GA (ix3 ⟨(i 0).val / 2048, Nat.div_lt_of_lt_mul (i 0).isLt⟩ ⟨(i 0).val % 2048, Nat.mod_lt _ (by decide)⟩ k)) (fun k => GB (ix3 ⟨(i 0).val / 2048, Nat.div_lt_of_lt_mul (i 0).isLt⟩ ⟨(i 0).val % 2048, Nat.mod_lt _ (by decide)⟩ k))
    (fun k e => WA (ix3 0 k e)) (fun k e => WB (ix3 0 k e)) (fun k e => WO (ix3 0 k e)) (fun k => G (ix2 0 k)) (fun k f => W1 (ix3 0 k f)) (fun k f => W3 (ix3 0 k f))
    (fun f e => W2 (ix3 0 f e)) (fun k => FG (ix1 k)) (i 1)

/-- A grid point's output block, from its input blocks. -/
theorem tile_at (x0 : FVec Ideal S512x1024 .f32) (x1 x2 : FVec Ideal S512x1024 .bf16) (x3 x4 : FVec Ideal S512x1024 .f32) (x5 x6 x7 : FVec Ideal S1024x1024 .bf16) (x8 : FVec Ideal S1x1024 .f32)
    (x9 x10 : FVec Ideal S1024x2816 .bf16) (x11 : FVec Ideal S2816x1024 .bf16) (x12 : FVec Ideal S1x1024 .f32) (R : Fin 512) (e : Fin 1024) :
    (out0_13 (F := Ideal) x0 x1 x2 x3 x4 x5 x6 x7 x8 x9 x10 x11 x12 : FVec Ideal S512x1024 .f32) (ix2 R e) = closing (fun k => x0 (ix2 R k)) (fun k => x1 (ix2 R k)) (fun k => x2 (ix2 R k))
      (fun k => x3 (ix2 R k)) (fun k => x4 (ix2 R k)) (fun k e => x5 (ix2 k e)) (fun k e => x6 (ix2 k e)) (fun k e => x7 (ix2 k e)) (fun k => x8 (ix2 0 k))
      (fun k f => x9 (ix2 k f)) (fun k f => x10 (ix2 k f)) (fun f e => x11 (ix2 f e)) (fun k => x12 (ix2 0 k)) e := by
  unfold out0_13 k0_pay19 k0_pay18 k0_pay17 k0_pay16
  simp (disch := decide) only [View.canon_cons_unit_lit', View.ld_unit_lit']
  refine (pay1_at _ _ _ _ _ _ _ R e).trans ?_
  unfold closing
  congr 1
  funext k
  rw [pay14_at, pay10_at, pay8_at, pay6_at]
  rw [part_ld _ _ _ _ 0 (o := 0) rfl, part_ld _ _ _ _ 1 (o := 256) rfl, part_ld _ _ _ _ 2 (o := 512) rfl, part_ld _ _ _ _ 3 (o := 768) rfl,
    part_ld _ _ _ _ 4 (o := 1024) rfl, part_ld _ _ _ _ 5 (o := 1280) rfl, part_ld _ _ _ _ 6 (o := 1536) rfl, part_ld _ _ _ _ 7 (o := 1792) rfl,
    part_ld _ _ _ _ 8 (o := 2048) rfl, part_ld _ _ _ _ 9 (o := 2304) rfl, part_ld _ _ _ _ 10 (o := 2560) rfl]
  rw [back_chunks (fun j => (k0_pay5 (F := Ideal) (k0_pay2 x3 x1 x5 x4 x2 x6 x0 x7) (k0_pay3 x8) (k0_pay4 x3 x1 x5 x4 x2 x6 x0 x7)) (ix2 R j)) (fun k f => x9 (ix2 k f)) (fun k f => x10 (ix2 k f)) (fun f e => x11 (ix2 f e)) k
    (fun c => back (fun j => (k0_pay5 (F := Ideal) (k0_pay2 x3 x1 x5 x4 x2 x6 x0 x7) (k0_pay3 x8) (k0_pay4 x3 x1 x5 x4 x2 x6 x0 x7)) (ix2 R j)) (cols (fun k f => x9 (ix2 k f)) c) (cols (fun k f => x10 (ix2 k f)) c) (rows (fun f e => x11 (ix2 f e)) c) k)
    fun _ => rfl]
  unfold swiglu
  simp only [pay5_at, pay2_at]

/-- The result array after the run. -/
theorem final (c : Dev nD) :
    (dats m 0 c).arrAt 13 (cfgs 0).N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t _ z => ?_
  blk_simp
  rw [after0_13]
  obtain ⟨R, e, rfl⟩ : ∃ (R : Fin 512) (e : Fin 1024), z = ix2 R e := ⟨z 0, z 1, eq_ix2 z⟩
  refine (tile_at _ _ _ _ _ _ _ _ _ _ _ _ _ R e).trans ?_
  refine Eq.trans ?_ (congrArg (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (emb13 t (ix2 R e)).symm)
  simp only [x_block, ya_block, yb_block, ga_block, gb_block, wa_block, wb_block, wo_block, g_block, w1_block, w3_block, w2_block, fg_block]
  rfl

end Cert.MergeIdeal.Tile

end
-- ==== Proof.FfnRef.lean ====
module

public import proofs.«01_k».proof.Proof.Gen.FfnRefIdeal.Run
public import proofs.«01_k».proof.Proof.Swiglu
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.FfnRefIdeal.Stage

open Cert.FfnRefIdeal Cert.FfnRefIdeal.Gen
open Cert.Layer (rms lin gated hid back swiglu ofBits_one)

/-- The reference's root mean square normalisation. -/
def normed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 G))

/-- A product with the feed-forward network's first weights. -/
def up (H : FVec Ideal S32x2048x1024 .f32) (W : FVec Ideal S1024x2816 .f32) : FVec Ideal S32x2048x2816 .f32 :=
  Host.dotGeneral dot_S32x2048x1024_S1024x2816_S32x2048x2816_2_0_01_1_n_n none H W

/-- The activation. -/
def silu (U : FVec Ideal S32x2048x2816 .f32) : FVec Ideal S32x2048x2816 .f32 :=
  mulf U (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf U))))

/-- A product with the feed-forward network's last weights. -/
def down (U : FVec Ideal S32x2048x2816 .f32) (W : FVec Ideal S2816x1024 .f32) : FVec Ideal S32x2048x1024 .f32 :=
  Host.dotGeneral dot_S32x2048x2816_S2816x1024_S32x2048x1024_2_0_01_1_n_n none U W

/-- The input plus half of the feed-forward network's output. -/
def halfStep (X : FVec Ideal S32x2048x1024 .f32) (Y : FVec Ideal S32x2048x1024 .f32) : FVec Ideal S32x2048x1024 .f32 :=
  addf X (mulf (broadcastInDim S32x2048x1024 ![] bcast_S_S32x2048x1024 (constant S_ .f32 0x3F000000#32)) Y)

/-- The feed-forward half step, from weights without their leading axis. -/
def ffn (X : FVec Ideal S32x2048x1024 .f32) (G : FVec Ideal S1024 .f32) (W1 W3 : FVec Ideal S1024x2816 .f32) (W2 : FVec Ideal S2816x1024 .f32) :
    FVec Ideal S32x2048x1024 .f32 :=
  halfStep X (down (mulf (silu (up (normed X G) W1)) (up (normed X G) W3)) W2)

/-- The reference's result. -/
def whole (X : FVec Ideal S32x2048x1024 .f32) (G : FVec Ideal S1x1024 .f32) (W1 W3 : FVec Ideal S1x1024x2816 .f32) (W2 : FVec Ideal S1x2816x1024 .f32) :
    FVec Ideal S65536x1024 .f32 :=
  shapeCast _ (ffn X (shapeCast _ G shapeCasts_S1x1024_S1024) (shapeCast _ W1 shapeCasts_S1x1024x2816_S1024x2816)
    (shapeCast _ W3 shapeCasts_S1x1024x2816_S1024x2816) (shapeCast _ W2 shapeCasts_S1x2816x1024_S2816x1024)) shapeCasts_S32x2048x1024_S65536x1024

/-- The normalisation at an index. -/
theorem normed_at (X : FVec Ideal S32x2048x1024 .f32) (G : FVec Ideal S1024 .f32) (b : Fin 32) (s : Fin 2048) (e : Fin 1024) :
    normed X G (ix3 b s e) = rms (fun k => X (ix3 b s k)) (fun k => G (ix1 k)) e := by
  pointwise [normed, rms]

/-- The first products at an index. -/
theorem up_at (H : FVec Ideal S32x2048x1024 .f32) (W : FVec Ideal S1024x2816 .f32) (b : Fin 32) (s : Fin 2048) (f : Fin 2816) :
    up H W (ix3 b s f) = lin (fun k => H (ix3 b s k)) (fun k f => W (ix2 k f)) f := by
  pointwise [up, lin]

/-- The activation at an index. -/
theorem silu_at (U : FVec Ideal S32x2048x2816 .f32) (b : Fin 32) (s : Fin 2048) (f : Fin 2816) :
    silu U (ix3 b s f) = U (ix3 b s f) * Ideal.logistic (U (ix3 b s f)) := by
  have h : silu U (ix3 b s f) = U (ix3 b s f) * Ideal.div (Ideal.ofBits .f32 0x3F800000#32) (Ideal.ofBits .f32 0x3F800000#32 + Ideal.exp (-(U (ix3 b s f)))) := by
    pointwise [silu]
  rw [h, ofBits_one]
  rfl

/-- The last product at an index. -/
theorem down_at (U : FVec Ideal S32x2048x2816 .f32) (W : FVec Ideal S2816x1024 .f32) (b : Fin 32) (s : Fin 2048) (e : Fin 1024) :
    down U W (ix3 b s e) = ∑ f, U (ix3 b s f) * W (ix2 f e) := by
  pointwise [down]

/-- The half step at an index. -/
theorem ffn_at (X : FVec Ideal S32x2048x1024 .f32) (G : FVec Ideal S1024 .f32) (W1 W3 : FVec Ideal S1024x2816 .f32) (W2 : FVec Ideal S2816x1024 .f32)
    (b : Fin 32) (s : Fin 2048) (e : Fin 1024) :
    ffn X G W1 W3 W2 (ix3 b s e) = swiglu (fun k => X (ix3 b s k)) (fun k => G (ix1 k)) (fun k f => W1 (ix2 k f)) (fun k f => W3 (ix2 k f)) (fun f e => W2 (ix2 f e)) e := by
  have h : ffn X G W1 W3 W2 (ix3 b s e) = X (ix3 b s e) + Ideal.ofBits .f32 0x3F000000#32 * down (mulf (silu (up (normed X G) W1)) (up (normed X G) W3)) W2 (ix3 b s e) := by
    pointwise [ffn, halfStep]
  have hm : ∀ f, (mulf (silu (up (normed X G) W1)) (up (normed X G) W3) : FVec Ideal S32x2048x2816 .f32) (ix3 b s f) =
      silu (up (normed X G) W1) (ix3 b s f) * up (normed X G) W3 (ix3 b s f) := fun f => rfl
  rw [h, down_at]
  unfold swiglu back hid gated
  simp only [hm, silu_at, up_at, normed_at]

/-- The reference's result at a row. -/
theorem whole_at (X : FVec Ideal S32x2048x1024 .f32) (G : FVec Ideal S1x1024 .f32) (W1 W3 : FVec Ideal S1x1024x2816 .f32) (W2 : FVec Ideal S1x2816x1024 .f32)
    (r : Fin 65536) (e : Fin 1024) :
    whole X G W1 W3 W2 (ix2 r e) = swiglu (fun k => X (ix3 ⟨r.val / 2048, by omega⟩ ⟨r.val % 2048, by omega⟩ k)) (fun k => G (ix2 0 k))
      (fun k f => W1 (ix3 0 k f)) (fun k f => W3 (ix3 0 k f)) (fun f e => W2 (ix3 0 f e)) e := by
  have h : whole X G W1 W3 W2 (ix2 r e) = ffn X (shapeCast _ G shapeCasts_S1x1024_S1024) (shapeCast _ W1 shapeCasts_S1x1024x2816_S1024x2816)
      (shapeCast _ W3 shapeCasts_S1x1024x2816_S1024x2816) (shapeCast _ W2 shapeCasts_S1x2816x1024_S2816x1024) (ix3 ⟨r.val / 2048, by omega⟩ ⟨r.val % 2048, by omega⟩ e) := by
    unfold whole
    pointwise
  rw [h, ffn_at]
  congr 1
  · funext k
    pointwise
  · funext k f
    pointwise
  · funext k f
    pointwise
  · funext k f
    pointwise

/-- The reference's run ends with its stages' result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans rfl, (h c).2⟩) (Value.run m ρ)

end Cert.FfnRefIdeal.Stage

end
-- ==== Proof.MergeRef.lean ====
module

public import proofs.«01_k».proof.Proof.Gen.MergeRefIdeal.Run
public import proofs.«01_k».proof.Proof.FfnRef

@[expose] public section

set_option maxRecDepth 16384

noncomputable section

open Idealize.ShloMosaic Idealize.ShloMosaic.TcCoe Idealize.SL.Sem Idealize.ShloMosaic.StableHlo

namespace Cert.MergeRefIdeal.Stage

open Cert.MergeRefIdeal Cert.MergeRefIdeal.Gen
open Cert.Layer (rms lin swiglu merged closing)
open Cert.FfnRefIdeal.Stage (normed ffn normed_at ffn_at)

/-- A product with a square matrix. -/
def project (Y : FVec Ideal S32x2048x1024 .f32) (W : FVec Ideal S1024x1024 .f32) : FVec Ideal S32x2048x1024 .f32 :=
  Host.dotGeneral dot_S32x2048x1024_S1024x1024_S32x2048x1024_2_0_01_1_n_n none Y W

/-- The gated sum of the mixers' projected outputs. -/
def mixed (YA YB : FVec Ideal S32x2048x1024 .bf16) (GA GB : FVec Ideal S32x2048x1024 .f32) (WA WB : FVec Ideal S1024x1024 .f32) : FVec Ideal S32x2048x1024 .f32 :=
  addf (mulf GA (project (extf .f32 YA bitsLt_bf16_f32) WA)) (mulf GB (project (extf .f32 YB bitsLt_bf16_f32) WB))

/-- The merge added to the residual. -/
def joined (X : FVec Ideal S32x2048x1024 .f32) (YA YB : FVec Ideal S32x2048x1024 .bf16) (GA GB : FVec Ideal S32x2048x1024 .f32) (WA WB WO : FVec Ideal S1024x1024 .f32) : FVec Ideal S32x2048x1024 .f32 :=
  addf X (project (mixed YA YB GA GB WA WB) WO)

/-- The reference's result. -/
def whole (X : FVec Ideal S32x2048x1024 .f32) (YA YB : FVec Ideal S32x2048x1024 .bf16) (GA GB : FVec Ideal S32x2048x1024 .f32) (WA WB WO : FVec Ideal S1x1024x1024 .f32)
    (G : FVec Ideal S1x1024 .f32) (W1 W3 : FVec Ideal S1x1024x2816 .f32) (W2 : FVec Ideal S1x2816x1024 .f32) (FG : FVec Ideal S1024 .f32) : FVec Ideal S65536x1024 .f32 :=
  shapeCast _ (normed (ffn (joined X YA YB GA GB (shapeCast _ WA shapeCasts_S1x1024x1024_S1024x1024) (shapeCast _ WB shapeCasts_S1x1024x1024_S1024x1024)
      (shapeCast _ WO shapeCasts_S1x1024x1024_S1024x1024)) (shapeCast _ G shapeCasts_S1x1024_S1024) (shapeCast _ W1 shapeCasts_S1x1024x2816_S1024x2816)
    (shapeCast _ W3 shapeCasts_S1x1024x2816_S1024x2816) (shapeCast _ W2 shapeCasts_S1x2816x1024_S2816x1024)) FG) shapeCasts_S32x2048x1024_S65536x1024

/-- A product with a square matrix at an index. -/
theorem project_at (Y : FVec Ideal S32x2048x1024 .f32) (W : FVec Ideal S1024x1024 .f32) (b : Fin 32) (s : Fin 2048) (e : Fin 1024) :
    project Y W (ix3 b s e) = lin (fun k => Y (ix3 b s k)) (fun k e => W (ix2 k e)) e := by
  pointwise [project, lin]

/-- The merge at an index. -/
theorem joined_at (X : FVec Ideal S32x2048x1024 .f32) (YA YB : FVec Ideal S32x2048x1024 .bf16) (GA GB : FVec Ideal S32x2048x1024 .f32) (WA WB WO : FVec Ideal S1024x1024 .f32) (b : Fin 32) (s : Fin 2048) (e : Fin 1024) :
    joined X YA YB GA GB WA WB WO (ix3 b s e) = merged (fun k => X (ix3 b s k)) (fun k => YA (ix3 b s k)) (fun k => YB (ix3 b s k))
      (fun k => GA (ix3 b s k)) (fun k => GB (ix3 b s k)) (fun k e => WA (ix2 k e)) (fun k e => WB (ix2 k e)) (fun k e => WO (ix2 k e)) e := by
  have h : joined X YA YB GA GB WA WB WO (ix3 b s e) = X (ix3 b s e) + project (mixed YA YB GA GB WA WB) WO (ix3 b s e) := rfl
  have hm : ∀ k, mixed YA YB GA GB WA WB (ix3 b s k) = GA (ix3 b s k) * project (extf .f32 YA bitsLt_bf16_f32) WA (ix3 b s k)
      + GB (ix3 b s k) * project (extf .f32 YB bitsLt_bf16_f32) WB (ix3 b s k) := fun k => rfl
  rw [h, project_at]
  unfold merged
  refine congrArg (X (ix3 b s e) + ·) ?_
  unfold lin
  simp only [hm, project_at]
  rfl

/-- The reference's result at a row. -/
theorem whole_at (X : FVec Ideal S32x2048x1024 .f32) (YA YB : FVec Ideal S32x2048x1024 .bf16) (GA GB : FVec Ideal S32x2048x1024 .f32) (WA WB WO : FVec Ideal S1x1024x1024 .f32)
    (G : FVec Ideal S1x1024 .f32) (W1 W3 : FVec Ideal S1x1024x2816 .f32) (W2 : FVec Ideal S1x2816x1024 .f32) (FG : FVec Ideal S1024 .f32) (r : Fin 65536) (e : Fin 1024) :
    whole X YA YB GA GB WA WB WO G W1 W3 W2 FG (ix2 r e) = closing (fun k => X (ix3 ⟨r.val / 2048, by omega⟩ ⟨r.val % 2048, by omega⟩ k)) (fun k => YA (ix3 ⟨r.val / 2048, by omega⟩ ⟨r.val % 2048, by omega⟩ k)) (fun k => YB (ix3 ⟨r.val / 2048, by omega⟩ ⟨r.val % 2048, by omega⟩ k))
    (fun k => GA (ix3 ⟨r.val / 2048, by omega⟩ ⟨r.val % 2048, by omega⟩ k)) (fun k => GB (ix3 ⟨r.val / 2048, by omega⟩ ⟨r.val % 2048, by omega⟩ k))
    (fun k e => WA (ix3 0 k e)) (fun k e => WB (ix3 0 k e)) (fun k e => WO (ix3 0 k e)) (fun k => G (ix2 0 k)) (fun k f => W1 (ix3 0 k f)) (fun k f => W3 (ix3 0 k f))
    (fun f e => W2 (ix3 0 f e)) (fun k => FG (ix1 k)) e := by
  have h : ∀ Z : FVec Ideal S32x2048x1024 .f32, (shapeCast _ Z shapeCasts_S32x2048x1024_S65536x1024 : FVec Ideal S65536x1024 .f32) (ix2 r e) = Z (ix3 ⟨r.val / 2048, by omega⟩ ⟨r.val % 2048, by omega⟩ e) := by
    intro Z
    pointwise
  have hq : ∀ (W : FVec Ideal S1x1024x1024 .f32) (k e : Fin 1024), (shapeCast _ W shapeCasts_S1x1024x1024_S1024x1024 : FVec Ideal S1024x1024 .f32) (ix2 k e) = W (ix3 0 k e) := by
    intro W k e
    pointwise
  have hu : ∀ (W : FVec Ideal S1x1024x2816 .f32) (k : Fin 1024) (f : Fin 2816), (shapeCast _ W shapeCasts_S1x1024x2816_S1024x2816 : FVec Ideal S1024x2816 .f32) (ix2 k f) = W (ix3 0 k f) := by
    intro W k e
    pointwise
  have hd : ∀ (W : FVec Ideal S1x2816x1024 .f32) (f : Fin 2816) (e : Fin 1024), (shapeCast _ W shapeCasts_S1x2816x1024_S2816x1024 : FVec Ideal S2816x1024 .f32) (ix2 f e) = W (ix3 0 f e) := by
    intro W k e
    pointwise
  have hg : ∀ k : Fin 1024, (shapeCast _ G shapeCasts_S1x1024_S1024 : FVec Ideal S1024 .f32) (ix1 k) = G (ix2 0 k) := by
    intro k
    pointwise
  unfold whole
  rw [h, normed_at]
  unfold closing
  simp only [ffn_at, joined_at, hq, hu, hd, hg]

/-- The reference's run ends with its stages' result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun r h c => ⟨(h c).1.trans rfl, (h c).2⟩) (Value.run m ρ)

end Cert.MergeRefIdeal.Stage

end
-- ==== Proof.Equal.lean ====
module

public import proofs.«01_k».proof.Proof.MergeFinal
public import proofs.«01_k».proof.Proof.MergeRef

@[expose] public section

set_option maxRecDepth 16384

noncomputable section

open Idealize.ShloMosaic

namespace Cert.Layer

/-- The feed-forward reference's result is the kernel's. -/
theorem ffn_whole (X : FVec Ideal Cert.FfnIdeal.S32x2048x1024 .f32) (G : FVec Ideal Cert.FfnIdeal.S1x1024 .f32) (W1 W3 : FVec Ideal Cert.FfnIdeal.S1x1024x2816 .f32)
    (W2 : FVec Ideal Cert.FfnIdeal.S1x2816x1024 .f32) : Cert.FfnRefIdeal.Stage.whole X G W1 W3 W2 = Cert.FfnIdeal.Tile.out X G W1 W3 W2 := by
  funext i
  obtain ⟨r, e, rfl⟩ : ∃ (r : Fin 65536) (e : Fin 1024), i = ix2 r e := ⟨i 0, i 1, eq_ix2 i⟩
  exact Cert.FfnRefIdeal.Stage.whole_at X G W1 W3 W2 r e

/-- The merge's reference's result is the kernel's. -/
theorem merge_whole (X : FVec Ideal Cert.MergeIdeal.S32x2048x1024 .f32) (YA YB : FVec Ideal Cert.MergeIdeal.S32x2048x1024 .bf16) (GA GB : FVec Ideal Cert.MergeIdeal.S32x2048x1024 .f32) (WA WB WO : FVec Ideal Cert.MergeIdeal.S1x1024x1024 .f32)
    (G : FVec Ideal Cert.MergeIdeal.S1x1024 .f32) (W1 W3 : FVec Ideal Cert.MergeIdeal.S1x1024x2816 .f32) (W2 : FVec Ideal Cert.MergeIdeal.S1x2816x1024 .f32) (FG : FVec Ideal Cert.MergeIdeal.S1024 .f32) :
    Cert.MergeRefIdeal.Stage.whole X YA YB GA GB WA WB WO G W1 W3 W2 FG = Cert.MergeIdeal.Tile.out X YA YB GA GB WA WB WO G W1 W3 W2 FG := by
  funext i
  obtain ⟨r, e, rfl⟩ : ∃ (r : Fin 65536) (e : Fin 1024), i = ix2 r e := ⟨i 0, i 1, eq_ix2 i⟩
  exact Cert.MergeRefIdeal.Stage.whole_at X YA YB GA GB WA WB WO G W1 W3 W2 FG r e

end Cert.Layer

end
-- ==== Proof.Turned.lean ====
module

public import proofs.«01_k».proof.Proof.Swiglu

@[expose] public section

set_option maxRecDepth 16384

noncomputable section

open Idealize.ShloMosaic Idealize.ShloMosaic.TcCoe Idealize.SL.Sem

namespace Cert.Layer

/-- A token's product with a column of the projections' weights, by the column's number. -/
def proj (h : Fin 1024 → EReal) (w : Fin 1024 → Fin 6960 → EReal) (c : ℕ) : EReal := if hc : c < 6960 then lin h w ⟨c, hc⟩ else 0

/-- The product with a column that is there. -/
theorem proj_of (h : Fin 1024 → EReal) (w : Fin 1024 → Fin 6960 → EReal) (c : ℕ) (hc : c < 6960) : proj h w c = lin h w ⟨c, hc⟩ := dif_pos hc

/-- A projection turned by its position's angles: in each head of 64 columns, column `u` below 32 is turned with column `u + 32`. -/
def turned (p : ℕ → EReal) (cs sn : Fin 32 → EReal) (c : ℕ) : EReal :=
  if c % 64 < 32 then p c * cs ⟨c % 32, Nat.mod_lt _ (by decide)⟩ - p (c + 32) * sn ⟨c % 32, Nat.mod_lt _ (by decide)⟩
  else p c * cs ⟨c % 32, Nat.mod_lt _ (by decide)⟩ + p (c - 32) * sn ⟨c % 32, Nat.mod_lt _ (by decide)⟩

/-- A whole number of heads further on, the columns are turned as if counted from there. -/
theorem turned_shift (p : ℕ → EReal) (cs sn : Fin 32 → EReal) (o c : ℕ) (ho : o % 64 = 0) :
    turned (fun n => p (o + n)) cs sn c = turned p cs sn (o + c) := by
  unfold turned
  have h1 : (o + c) % 64 = c % 64 := by omega
  have h2 : (o + c) % 32 = c % 32 := by omega
  by_cases h : c % 64 < 32
  · simp only [h1, h2, h, if_true, add_assoc]
  · have h3 : o + (c - 32) = o + c - 32 := by omega
    simp only [h1, h2, h, if_false, h3]

/-- The turned column, from a block of 128 columns rolled both ways and two tables of sines that are zero where the roll leaves the head. -/
theorem turned_rolled (p : ℕ → EReal) (cs sn : Fin 32 → EReal) (q x : ℕ) (hx : x < 128) (a b : EReal)
    (ha : a = if x % 64 < 32 then -sn ⟨x % 32, Nat.mod_lt _ (by decide)⟩ else 0)
    (hb : b = if x % 64 < 32 then 0 else sn ⟨x % 32, Nat.mod_lt _ (by decide)⟩) :
    p (q * 128 + x) * cs ⟨x % 32, Nat.mod_lt _ (by decide)⟩ + p (q * 128 + (x + 32) % 128) * a + p (q * 128 + (x + 96) % 128) * b
      = turned p cs sn (q * 128 + x) := by
  unfold turned
  have h1 : (q * 128 + x) % 64 = x % 64 := by omega
  have h2 : (q * 128 + x) % 32 = x % 32 := by omega
  by_cases h : x % 64 < 32
  · have h3 : q * 128 + (x + 32) % 128 = q * 128 + x + 32 := by omega
    rw [ha, hb]
    simp only [h1, h2, h, if_true, h3, mul_zero, add_zero, mul_neg, sub_eq_add_neg]
  · have h3 : q * 128 + (x + 96) % 128 = q * 128 + x - 32 := by omega
    rw [ha, hb]
    simp only [h1, h2, h, if_false, h3, mul_zero, add_zero]

/-- The turned column, from the two halves of a head put one after the other. -/
theorem turned_halves (p : ℕ → EReal) (cs sn : Fin 32 → EReal) (c : ℕ) :
    (if h : c % 64 < 32 then p c * cs ⟨c % 64, h⟩ - p (c / 64 * 64 + (32 + c % 64)) * sn ⟨c % 64, h⟩
      else p (c / 64 * 64 + (32 + (c % 64 - 32))) * cs ⟨c % 64 - 32, by omega⟩ + p (c / 64 * 64 + (c % 64 - 32)) * sn ⟨c % 64 - 32, by omega⟩)
      = turned p cs sn c := by
  unfold turned
  by_cases h : c % 64 < 32
  · have e : (⟨c % 64, h⟩ : Fin 32) = ⟨c % 32, Nat.mod_lt _ (by decide)⟩ := Fin.ext (by show c % 64 = c % 32; omega)
    have e2 : c / 64 * 64 + (32 + c % 64) = c + 32 := by omega
    rw [dif_pos h, if_pos h, e, e2]
  · have e : (⟨c % 64 - 32, by omega⟩ : Fin 32) = ⟨c % 32, Nat.mod_lt _ (by decide)⟩ := Fin.ext (by show c % 64 - 32 = c % 32; omega)
    have e2 : c / 64 * 64 + (32 + (c % 64 - 32)) = c := by omega
    have e3 : c / 64 * 64 + (c % 64 - 32) = c - 32 := by omega
    rw [dif_neg h, if_neg h, e, e2, e3]

/-- The column of the projections' weights that the middle weights hold at a column: the two heads of one projection and of another, taken in turn. -/
def midCol (o f : ℕ) : ℕ := o + f / 64 % 2 * 256 + f / 128 * 64 + f % 64

/-- Turning the columns taken in turn is turning each projection's. -/
theorem turned_mid (p : ℕ → EReal) (cs sn : Fin 32 → EReal) (o f : ℕ) :
    turned (fun n => p (midCol o n)) cs sn f = turned (fun n => p (o + f / 64 % 2 * 256 + n)) cs sn (f / 128 * 64 + f % 64) := by
  unfold turned midCol
  have h1 : (f / 128 * 64 + f % 64) % 64 = f % 64 := by omega
  have h2 : (f / 128 * 64 + f % 64) % 32 = f % 32 := by omega
  by_cases h : f % 64 < 32
  · have h3 : (f + 32) / 64 = f / 64 := by omega
    have h4 : (f + 32) / 128 = f / 128 := by omega
    have h5 : (f + 32) % 64 = f % 64 + 32 := by omega
    simp only [h1, h2, h, if_true, h3, h4, h5, add_assoc]
  · have h3 : (f - 32) / 64 = f / 64 := by omega
    have h4 : (f - 32) / 128 = f / 128 := by omega
    have h5 : (f - 32) % 64 = f % 64 - 32 := by omega
    have h6 : f / 128 * 64 + f % 64 - 32 = f / 128 * 64 + (f % 64 - 32) := by omega
    simp only [h1, h2, h, if_false, h3, h4, h5, h6, add_assoc]

end Cert.Layer

end
-- ==== Proof.InProjTile.lean ====
module

public import proofs.«01_k».proof.Proof.Gen.InProjIdeal.Frame
public import proofs.«01_k».proof.Proof.Turned
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.Layer (rms lin turned turned_rolled turned_shift midCol)

/-- A block of 128 columns, rotated with the tables. -/
def ropeBlock (cs sa sb v : FVec Ideal S256x128 .f32) : FVec Ideal S256x128 .f32 :=
  addf (addf (mulf v cs) (mulf (dynamicRotate 1 96#32 none v rotates_S256x128_d1) sa)) (mulf (dynamicRotate 1 32#32 none v rotates_S256x128_d1) sb)

/-- Four blocks of 128 columns, each rotated with the tables. -/
def rope4 (cs sa sb : FVec Ideal S256x128 .f32) (y : FVec Ideal S256x512 .f32) : FVec Ideal S256x512 .f32 :=
  concatenate S256x512 1 [⟨S256x128, ropeBlock cs sa sb (extractStridedSlice S256x128 ![0, 0] y slices_S256x512_o0_0_S256x128)⟩,
    ⟨S256x128, ropeBlock cs sa sb (extractStridedSlice S256x128 ![0, 128] y slices_S256x512_o0_128_S256x128)⟩,
    ⟨S256x128, ropeBlock cs sa sb (extractStridedSlice S256x128 ![0, 256] y slices_S256x512_o0_256_S256x128)⟩,
    ⟨S256x128, ropeBlock cs sa sb (extractStridedSlice S256x128 ![0, 384] y slices_S256x512_o0_384_S256x128)⟩]
    concatenates_S256x128_S256x128_S256x128_S256x128_S256x512_d1

/-- The product with 512 columns of weights. -/
def prod (h : FVec Ideal S256x1024 .bf16) (w : FVec Ideal S1024x512 .bf16) : FVec Ideal S256x512 .f32 := k0_pay14 (F := Ideal) h w

/-- Rotated columns, scaled. -/
def ropeScaled (cs sa sb : FVec Ideal S256x128 .f32) (y : FVec Ideal S256x512 .f32) : FVec Ideal S1x256x512 .bf16 :=
  shapeCast S1x256x512 (truncf .bf16 (mulf (rope4 cs sa sb y) (broadcast S256x512 (Scalar.ofBits .f32 0x3E38AA3B#32))) bitsLt_bf16_f32) shapeCasts_S256x512_S1x256x512

/-- Rotated columns. -/
def ropePlain (cs sa sb : FVec Ideal S256x128 .f32) (y : FVec Ideal S256x512 .f32) : FVec Ideal S1x256x512 .bf16 :=
  shapeCast S1x256x512 (truncf .bf16 (rope4 cs sa sb y) bitsLt_bf16_f32) shapeCasts_S256x512_S1x256x512

/-- The second half of the scaled rotated queries. -/
theorem pay32_eq (h : FVec Ideal S256x1024 .bf16) (cs sa sb : FVec Ideal S256x128 .f32) (w : FVec Ideal S1024x512 .bf16) :
    k0_pay32 (F := Ideal) cs sa sb (k0_pay28 h cs sa sb w) (k0_pay29 h cs sa sb w) (k0_pay30 h cs sa sb w) (k0_pay31 h w) = ropeScaled cs sa sb (prod h w) := rfl

/-- The first half of the scaled rotated queries. -/
theorem pay13_eq (x : FVec Ideal S1x256x1024 .f32) (g : FVec Ideal S1x1024 .f32) (cs sa sb : FVec Ideal S256x128 .f32) (w : FVec Ideal S1024x512 .bf16) :
    k0_pay13 (F := Ideal) (k0_pay5 cs) (k0_pay6 sa) (k0_pay7 sb) (k0_pay8 x g w) (k0_pay9 x g cs sa sb w) (k0_pay10 x g w) (k0_pay11 x g cs w) (k0_pay12 x g sa w)
      = ropeScaled (k0_pay5 cs) (k0_pay6 sa) (k0_pay7 sb) (prod (k0_pay4 x g) w) := rfl

/-- The second half of the rotated keys. -/
theorem pay39_eq (h : FVec Ideal S256x1024 .bf16) (cs sa sb : FVec Ideal S256x128 .f32) (w : FVec Ideal S1024x512 .bf16) :
    k0_pay39 (F := Ideal) sa sb (k0_pay34 h cs sa sb w) (k0_pay35 h cs sa sb w) (k0_pay36 h cs sa sb w) (k0_pay37 h w) (k0_pay38 h cs w) 96#32 = ropePlain cs sa sb (prod h w) := rfl

/-- The first half of the rotated keys. -/
theorem pay18_eq (h : FVec Ideal S256x1024 .bf16) (cs sa sb : FVec Ideal S256x128 .f32) (w : FVec Ideal S1024x512 .bf16) :
    k0_pay18 (F := Ideal) cs sa sb (k0_pay14 h w) (k0_pay15 h cs sa sb w) (k0_pay16 h w) (k0_pay17 h cs sa w) 32#32 = ropePlain cs sa sb (prod h w) := rfl

/-- The second half of the scaled rotated sparse queries. -/
theorem pay46_eq (h : FVec Ideal S256x1024 .bf16) (cs sa sb : FVec Ideal S256x128 .f32) (w : FVec Ideal S1024x512 .bf16) :
    k0_pay46 (F := Ideal) cs sa sb (k0_pay41 h w) (k0_pay43 h cs sa sb w) (k0_pay44 h w) (k0_pay45 h cs w) 96#32 = ropeScaled cs sa sb (prod h w) := rfl

/-- The first half of the scaled rotated sparse queries. -/
theorem pay23_eq (h : FVec Ideal S256x1024 .bf16) (cs sa sb : FVec Ideal S256x128 .f32) (w : FVec Ideal S1024x512 .bf16) :
    k0_pay23 (F := Ideal) cs sa sb (k0_pay20 h w) = ropeScaled cs sa sb (prod h w) := rfl

/-- The normalised activations. -/
theorem pay4_at (x : FVec Ideal S1x256x1024 .f32) (g : FVec Ideal S1x1024 .f32) (R : Fin 256) (e : Fin 1024) :
    k0_pay4 (F := Ideal) x g (ix2 R e) = rms (fun k => x (ix3 0 R k)) (fun k => g (ix2 0 k)) e := by
  pointwise [k0_pay4, rms]

/-- The product at an index. -/
theorem prod_at (h : FVec Ideal S256x1024 .bf16) (w : FVec Ideal S1024x512 .bf16) (R : Fin 256) (j : Fin 512) :
    prod h w (ix2 R j) = lin (fun k => h (ix2 R k)) (fun k j => w (ix2 k j)) j := by
  pointwise [prod, k0_pay14, lin]

/-- A rotated block at an index. -/
theorem ropeBlock_at (cs sa sb v : FVec Ideal S256x128 .f32) (R : Fin 256) (x : Fin 128) :
    ropeBlock cs sa sb v (ix2 R x) = v (ix2 R x) * cs (ix2 R x) + v (ix2 R ⟨(x + 32) % 128, by omega⟩) * sa (ix2 R x)
      + v (ix2 R ⟨(x + 96) % 128, by omega⟩) * sb (ix2 R x) := by
  have e1 : ((x : ℕ) + 128 - 96) % 128 = (x + 32) % 128 := by omega
  have e2 : ((x : ℕ) + 128 - 32) % 128 = (x + 96) % 128 := by omega
  pointwise [ropeBlock]
  simp only [e1, e2]

/-- Two stores of 512 columns, read at an index. -/
theorem canon_two {e : EltTy} (w1 w0 : S1x256x512.Idx → Elt Ideal e) (f : ℕ → Elt Ideal e) (R : Fin 256)
    (g0 : ∀ j : Fin 512, w0 (ix3 0 R j) = f j) (g1 : ∀ j : Fin 512, w1 (ix3 0 R j) = f (512 + j)) (c : Fin 1024) :
    View.canon ([⟨r0_11, w1⟩, ⟨r0_4, w0⟩] : List (View.Piece (Elt Ideal) S1x256x1024 e)) (ix3 0 R c) = f c := by
  canon_tiles z h
  case piece0 =>
    have e : z = ix3 0 R ⟨c.val - 512, by have : c.val = 512 + (z 2).val := h2; omega⟩ := by
      funext a
      refine Fin.cases ?_ (fun a => Fin.cases ?_ (fun a => Fin.cases ?_ (fun a => a.elim0) a) a) a
      · exact Fin.ext h0.symm
      · exact Fin.ext h1.symm
      · refine Fin.ext ?_
        have : c.val = 512 + (z 2).val := h2
        show (z 2).val = c.val - 512
        omega
    have e2 : 512 + (c.val - 512) = c.val := by have : c.val = 512 + (z 2).val := h2; omega
    rw [e]
    refine (g1 _).trans ?_
    show f (512 + (c.val - 512)) = f c
    rw [e2]
  case piece1 =>
    have e : z = ix3 0 R ⟨c.val, by have : c.val = (z 2).val := h2; omega⟩ := by
      funext a
      refine Fin.cases ?_ (fun a => Fin.cases ?_ (fun a => Fin.cases ?_ (fun a => a.elim0) a) a) a
      · exact Fin.ext h0.symm
      · exact Fin.ext h1.symm
      · exact Fin.ext h2.symm
    rw [e]
    exact g0 _

section Rows

variable (cs sa sb : FVec Ideal S256x128 .f32) (R : Fin 256) (C S : Fin 32 → EReal) (p : ℕ → EReal)

/-- A rotated slice of a product at an index. -/
theorem ropeSlice_at {n o : ℕ} (y : FVec Ideal (⟨2, ![256, n]⟩ : Shape) .f32) (hs : (⟨2, ![256, n]⟩ : Shape).Slices ![0, o] S256x128) (q : ℕ) (ho : o = q * 128) (hn : o + 128 ≤ n)
    (hc : ∀ x : Fin 128, cs (ix2 R x) = C ⟨x.val % 32, Nat.mod_lt _ (by decide)⟩)
    (ha : ∀ x : Fin 128, sa (ix2 R x) = if x.val % 64 < 32 then -S ⟨x.val % 32, Nat.mod_lt _ (by decide)⟩ else 0)
    (hb : ∀ x : Fin 128, sb (ix2 R x) = if x.val % 64 < 32 then 0 else S ⟨x.val % 32, Nat.mod_lt _ (by decide)⟩)
    (hy : ∀ j : Fin n, y (ix2 R j) = p j) (x : Fin 128) :
    ropeBlock cs sa sb (extractStridedSlice S256x128 ![0, o] y hs) (ix2 R x) = turned p C S (o + x) := by
  have hv : ∀ x : Fin 128, (extractStridedSlice S256x128 ![0, o] y hs : FVec Ideal S256x128 .f32) (ix2 R x) = p (o + x) := by
    intro x
    refine (congrArg y (funext fun a => Fin.ext ?_)).trans (hy ⟨o + x, by omega⟩)
    refine Fin.cases ?_ (fun a => Fin.cases ?_ (fun a => a.elim0) a) a
    · show 0 + (R : ℕ) = R
      omega
    · rfl
  subst ho
  rw [ropeBlock_at, hv, hv, hv, hc]
  exact turned_rolled p C S q x x.isLt _ _ (ha x) (hb x)

/-- Four rotated blocks at an index. -/
theorem rope4_at (y : FVec Ideal S256x512 .f32)
    (hc : ∀ x : Fin 128, cs (ix2 R x) = C ⟨x.val % 32, Nat.mod_lt _ (by decide)⟩)
    (ha : ∀ x : Fin 128, sa (ix2 R x) = if x.val % 64 < 32 then -S ⟨x.val % 32, Nat.mod_lt _ (by decide)⟩ else 0)
    (hb : ∀ x : Fin 128, sb (ix2 R x) = if x.val % 64 < 32 then 0 else S ⟨x.val % 32, Nat.mod_lt _ (by decide)⟩)
    (hy : ∀ j : Fin 512, y (ix2 R j) = p j) (j : Fin 512) : rope4 cs sa sb y (ix2 R j) = turned p C S j := by
  have r : ∀ {o : ℕ} (hs : S256x512.Slices ![0, o] S256x128) (q : ℕ) (_ : o = q * 128) (_ : o + 128 ≤ 512) (x : Fin 128),
      ropeBlock cs sa sb (extractStridedSlice S256x128 ![0, o] y hs) (ix2 R x) = turned p C S (o + x) :=
    fun hs q ho hn x => ropeSlice_at cs sa sb R C S p y hs q ho hn hc ha hb hy x
  pointwise [rope4]
  by_cases h0 : j.val < 128
  · rw [dif_pos h0]
    refine (r (o := 0) _ 0 rfl (by decide) _).trans (congrArg _ ?_)
    show 0 + j.val = j.val
    omega
  · by_cases h1 : j.val - 128 < 128
    · rw [dif_neg h0, dif_pos h1]
      refine (r (o := 128) _ 1 rfl (by decide) _).trans (congrArg _ ?_)
      show 128 + (j.val - 128) = j.val
      omega
    · by_cases h2 : j.val - 128 - 128 < 128
      · rw [dif_neg h0, dif_neg h1, dif_pos h2]
        refine (r (o := 256) _ 2 rfl (by decide) _).trans (congrArg _ ?_)
        show 256 + (j.val - 128 - 128) = j.val
        omega
      · rw [dif_neg h0, dif_neg h1, dif_neg h2]
        refine (r (o := 384) _ 3 rfl (by decide) _).trans (congrArg _ ?_)
        show 384 + (j.val - 128 - 128 - 128) = j.val
        omega

/-- Two rotated blocks at an index. -/
theorem pay53_at (h : FVec Ideal S256x1024 .bf16) (w : FVec Ideal S1024x256 .bf16)
    (hc : ∀ x : Fin 128, cs (ix2 R x) = C ⟨x.val % 32, Nat.mod_lt _ (by decide)⟩)
    (ha : ∀ x : Fin 128, sa (ix2 R x) = if x.val % 64 < 32 then -S ⟨x.val % 32, Nat.mod_lt _ (by decide)⟩ else 0)
    (hb : ∀ x : Fin 128, sb (ix2 R x) = if x.val % 64 < 32 then 0 else S ⟨x.val % 32, Nat.mod_lt _ (by decide)⟩)
    (hy : ∀ j : Fin 256, lin (fun k => h (ix2 R k)) (fun k j => w (ix2 k j)) j = p j) (j : Fin 256) :
    k0_pay1 (F := Ideal) (k0_pay53 h cs sa sb w) (ix3 0 R j) = turned p C S j := by
  have hy' : ∀ j : Fin 256, k0_pay50 (F := Ideal) h w (ix2 R j) = p j := by
    intro j
    rw [← hy j]
    pointwise [k0_pay50, lin]
  have r : ∀ {o : ℕ} (hs : S256x256.Slices ![0, o] S256x128) (q : ℕ) (_ : o = q * 128) (_ : o + 128 ≤ 256) (x : Fin 128),
      ropeBlock cs sa sb (extractStridedSlice S256x128 ![0, o] (k0_pay50 (F := Ideal) h w) hs) (ix2 R x) = turned p C S (o + x) :=
    fun hs q ho hn x => ropeSlice_at cs sa sb R C S p _ hs q ho hn hc ha hb hy' x
  have hj : k0_pay1 (F := Ideal) (k0_pay53 h cs sa sb w) (ix3 0 R j) = (concatenate S256x256 1
      [⟨S256x128, ropeBlock cs sa sb (extractStridedSlice S256x128 ![0, 0] (k0_pay50 (F := Ideal) h w) slices_S256x256_o0_0_S256x128)⟩,
       ⟨S256x128, ropeBlock cs sa sb (extractStridedSlice S256x128 ![0, 128] (k0_pay50 (F := Ideal) h w) slices_S256x256_o0_128_S256x128)⟩]
      concatenates_S256x128_S256x128_S256x256_d1 : FVec Ideal S256x256 .f32) (ix2 R j) := by
    refine Eq.trans (b := (k0_pay53 (F := Ideal) h cs sa sb w : FVec Ideal S256x256 .bf16) (ix2 R j)) ?_ rfl
    pointwise [k0_pay1]
  rw [hj]
  pointwise
  by_cases h0 : j.val < 128
  · rw [dif_pos h0]
    refine (r (o := 0) _ 0 rfl (by decide) _).trans (congrArg _ ?_)
    show 0 + j.val = j.val
    omega
  · rw [dif_neg h0]
    refine (r (o := 128) _ 1 rfl (by decide) _).trans (congrArg _ ?_)
    show 128 + (j.val - 128) = j.val
    omega

/-- Rotated columns of a product, scaled, at an index. -/
theorem ropeScaled_at (h : FVec Ideal S256x1024 .bf16) (w : FVec Ideal S1024x512 .bf16)
    (hc : ∀ x : Fin 128, cs (ix2 R x) = C ⟨x.val % 32, Nat.mod_lt _ (by decide)⟩)
    (ha : ∀ x : Fin 128, sa (ix2 R x) = if x.val % 64 < 32 then -S ⟨x.val % 32, Nat.mod_lt _ (by decide)⟩ else 0)
    (hb : ∀ x : Fin 128, sb (ix2 R x) = if x.val % 64 < 32 then 0 else S ⟨x.val % 32, Nat.mod_lt _ (by decide)⟩)
    (hy : ∀ j : Fin 512, lin (fun k => h (ix2 R k)) (fun k j => w (ix2 k j)) j = p j) (j : Fin 512) :
    ropeScaled cs sa sb (prod h w) (ix3 0 R j) = turned p C S j * Ideal.ofBits .f32 0x3E38AA3B#32 := by
  rw [← rope4_at cs sa sb R C S p (prod h w) hc ha hb (fun j => (prod_at h w R j).trans (hy j)) j]
  pointwise [ropeScaled]

/-- Rotated columns of a product at an index. -/
theorem ropePlain_at (h : FVec Ideal S256x1024 .bf16) (w : FVec Ideal S1024x512 .bf16)
    (hc : ∀ x : Fin 128, cs (ix2 R x) = C ⟨x.val % 32, Nat.mod_lt _ (by decide)⟩)
    (ha : ∀ x : Fin 128, sa (ix2 R x) = if x.val % 64 < 32 then -S ⟨x.val % 32, Nat.mod_lt _ (by decide)⟩ else 0)
    (hb : ∀ x : Fin 128, sb (ix2 R x) = if x.val % 64 < 32 then 0 else S ⟨x.val % 32, Nat.mod_lt _ (by decide)⟩)
    (hy : ∀ j : Fin 512, lin (fun k => h (ix2 R k)) (fun k j => w (ix2 k j)) j = p j) (j : Fin 512) :
    ropePlain cs sa sb (prod h w) (ix3 0 R j) = turned p C S j := by
  rw [← rope4_at cs sa sb R C S p (prod h w) hc ha hb (fun j => (prod_at h w R j).trans (hy j)) j]
  pointwise [ropePlain]

/-- The first half of the values. -/
theorem pay19_at (h : FVec Ideal S256x1024 .bf16) (w : FVec Ideal S1024x512 .bf16) (j : Fin 512) :
    k0_pay19 (F := Ideal) h w (ix3 0 R j) = lin (fun k => h (ix2 R k)) (fun k j => w (ix2 k j)) j := by
  pointwise [k0_pay19, lin]

/-- The second half of the values. -/
theorem pay40_at (h : FVec Ideal S256x1024 .bf16) (w : FVec Ideal S1024x512 .bf16) (j : Fin 512) :
    k0_pay40 (F := Ideal) h w (ix3 0 R j) = lin (fun k => h (ix2 R k)) (fun k j => w (ix2 k j)) j := by
  pointwise [k0_pay40, lin]

/-- The first half of the scaled queries of sparse attention. -/
theorem pay22_at (h : FVec Ideal S256x1024 .bf16) (w : FVec Ideal S1024x512 .bf16) (j : Fin 512) :
    k0_pay22 (F := Ideal) (k0_pay21 h w) (ix3 0 R j) = lin (fun k => h (ix2 R k)) (fun k j => w (ix2 k j)) j * Ideal.ofBits .f32 0x3E38AA3B#32 := by
  pointwise [k0_pay22, k0_pay21, k0_pay20, lin]

/-- The second half of the scaled queries of sparse attention. -/
theorem pay42_at (h : FVec Ideal S256x1024 .bf16) (w : FVec Ideal S1024x512 .bf16) (j : Fin 512) :
    k0_pay42 (F := Ideal) h w (ix3 0 R j) = lin (fun k => h (ix2 R k)) (fun k j => w (ix2 k j)) j * Ideal.ofBits .f32 0x3E38AA3B#32 := by
  pointwise [k0_pay42, k0_pay41, lin]

/-- The first half of the gate of differential attention. -/
theorem pay25_at (h : FVec Ideal S256x1024 .bf16) (w : FVec Ideal S1024x512 .bf16) (j : Fin 512) :
    k0_pay25 (F := Ideal) h (k0_pay24 w) (constant S256x512 .f32 0x00000000#32) (ix3 0 R j) = Ideal.logistic (lin (fun k => h (ix2 R k)) (fun k j => w (ix2 k j)) j) := by
  pointwise [k0_pay25, k0_pay24, lin]

/-- The second half of the gate of differential attention. -/
theorem pay47_at (h : FVec Ideal S256x1024 .bf16) (w : FVec Ideal S1024x512 .bf16) (j : Fin 512) :
    k0_pay47 (F := Ideal) h w (ix3 0 R j) = Ideal.logistic (lin (fun k => h (ix2 R k)) (fun k j => w (ix2 k j)) j) := by
  pointwise [k0_pay47, lin]

/-- The first half of the gate of sparse attention. -/
theorem pay26_at (h : FVec Ideal S256x1024 .bf16) (w : FVec Ideal S1024x512 .bf16) (j : Fin 512) :
    k0_pay26 (F := Ideal) h w (ix3 0 R j) = Ideal.logistic (lin (fun k => h (ix2 R k)) (fun k j => w (ix2 k j)) j) := by
  pointwise [k0_pay26, lin]

/-- The second half of the gate of sparse attention. -/
theorem pay49_at (h : FVec Ideal S256x1024 .bf16) (w : FVec Ideal S1024x512 .bf16) (j : Fin 512) :
    k0_pay49 (F := Ideal) (k0_pay48 h w) (ix3 0 R j) = Ideal.logistic (lin (fun k => h (ix2 R k)) (fun k j => w (ix2 k j)) j) := by
  pointwise [k0_pay49, k0_pay48, lin]

/-- The keys to be compressed. -/
theorem pay51_at (h : FVec Ideal S256x1024 .bf16) (w : FVec Ideal S1024x256 .bf16) (j : Fin 128) :
    k0_pay51 (F := Ideal) h w (ix3 0 R j) = lin (fun k => h (ix2 R k)) (fun k j => w (ix2 k j)) ⟨j, by omega⟩ := by
  pointwise [k0_pay51, k0_pay50, lin]

/-- The values to be compressed. -/
theorem pay52_at (h : FVec Ideal S256x1024 .bf16) (w : FVec Ideal S1024x256 .bf16) (j : Fin 128) :
    k0_pay52 (F := Ideal) h w (ix3 0 R j) = lin (fun k => h (ix2 R k)) (fun k j => w (ix2 k j)) ⟨128 + j, by omega⟩ := by
  pointwise [k0_pay52, k0_pay50, lin]

/-- The values of the selected and of the near blocks. -/
theorem pay2_at (h : FVec Ideal S256x1024 .bf16) (w : FVec Ideal S1024x256 .bf16) (j : Fin 256) :
    k0_pay2 (F := Ideal) h w (ix3 0 R j) = lin (fun k => h (ix2 R k)) (fun k j => w (ix2 k j)) j := by
  pointwise [k0_pay2, lin]

/-- The gates of sparse attention. -/
theorem pay3_at (h : FVec Ideal S256x1024 .bf16) (w : FVec Ideal S1024x128 .bf16) (j : Fin 128) :
    k0_pay3 (F := Ideal) h w (ix3 0 R j) = Ideal.logistic (lin (fun k => h (ix2 R k)) (fun k j => w (ix2 k j)) j) := by
  pointwise [k0_pay3, lin]

end Rows

end Cert.InProjIdeal.Tile

end
-- ==== Proof.InProjRef.lean ====
module

public import proofs.«01_k».proof.Proof.Gen.InProjRefIdeal.Run
public import proofs.«01_k».proof.Proof.FfnRef
public import proofs.«01_k».proof.Proof.Turned

@[expose] public section

set_option maxRecDepth 16384

noncomputable section

open Idealize.ShloMosaic Idealize.ShloMosaic.TcCoe Idealize.SL.Sem Idealize.ShloMosaic.StableHlo

namespace Cert.InProjRefIdeal.Stage

open Cert.InProjRefIdeal Cert.InProjRefIdeal.Gen
open Cert.Layer (rms lin proj proj_of turned turned_shift turned_halves turned_mid midCol ofBits_one)
open Cert.FfnRefIdeal.Stage (normed normed_at)

/-- The angles by position and by column of half a head. -/
def ang : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The cosines. -/
def cosT : FVec Ideal S2048x32 .f32 := Host.cos ang

/-- The sines. -/
def sinT : FVec Ideal S2048x32 .f32 := Host.sin ang

/-- A table with an axis for the heads. -/
def table (T : FVec Ideal S2048x32 .f32) : FVec Ideal S1x2048x1x32 .f32 := broadcastInDim S1x2048x1x32 ![1, 3] bcast_S2048x32_S1x2048x1x32_1_3 T

/-- All the projections of the normalised activations. -/
def all (X : FVec Ideal S32x2048x1024 .f32) (G : FVec Ideal S1x1024 .f32) (W : FVec Ideal S1x1024x6960 .f32) : FVec Ideal S32x2048x6960 .f32 :=
  Host.dotGeneral dot_S32x2048x1024_S1024x6960_S32x2048x6960_2_0_01_1_n_n none (normed X (shapeCast _ G shapeCasts_S1x1024_S1024)) (shapeCast _ W shapeCasts_S1x1024x6960_S1024x6960)

/-- The rotation of 16 heads. -/
def rotate16 (Y : FVec Ideal S32x2048x1024 .f32) (C S : FVec Ideal S1x2048x1x32 .f32) : FVec Ideal S32x2048x1024 .f32 :=
  shapeCast _ (concatenate S32x2048x16x64 3 [⟨S32x2048x16x32, (subf (mulf (extractStridedSlice S32x2048x16x32 ![0, 0, 0, 0] (shapeCast S32x2048x16x64 Y shapeCasts_S32x2048x1024_S32x2048x16x64) slices_S32x2048x16x64_S32x2048x16x32_0_0_0_0) (broadcastInDim S32x2048x16x32 ![0, 1, 2, 3] bcast_S1x2048x1x32_S32x2048x16x32_0_1_2_3 C)) (mulf (extractStridedSlice S32x2048x16x32 ![0, 0, 0, 32] (shapeCast S32x2048x16x64 Y shapeCasts_S32x2048x1024_S32x2048x16x64) slices_S32x2048x16x64_S32x2048x16x32_0_0_0_32) (broadcastInDim S32x2048x16x32 ![0, 1, 2, 3] bcast_S1x2048x1x32_S32x2048x16x32_0_1_2_3 S)))⟩,
    ⟨S32x2048x16x32, (addf (mulf (extractStridedSlice S32x2048x16x32 ![0, 0, 0, 32] (shapeCast S32x2048x16x64 Y shapeCasts_S32x2048x1024_S32x2048x16x64) slices_S32x2048x16x64_S32x2048x16x32_0_0_0_32) (broadcastInDim S32x2048x16x32 ![0, 1, 2, 3] bcast_S1x2048x1x32_S32x2048x16x32_0_1_2_3 C)) (mulf (extractStridedSlice S32x2048x16x32 ![0, 0, 0, 0] (shapeCast S32x2048x16x64 Y shapeCasts_S32x2048x1024_S32x2048x16x64) slices_S32x2048x16x64_S32x2048x16x32_0_0_0_0) (broadcastInDim S32x2048x16x32 ![0, 1, 2, 3] bcast_S1x2048x1x32_S32x2048x16x32_0_1_2_3 S)))⟩] concatenates_S32x2048x16x32_S32x2048x16x32_S32x2048x16x64_d3) shapeCasts_S32x2048x16x64_S32x2048x1024

/-- The rotation of 2 heads. -/
def rotate2 (Y : FVec Ideal S32x2048x128 .f32) (C S : FVec Ideal S1x2048x1x32 .f32) : FVec Ideal S32x2048x128 .f32 :=
  shapeCast _ (concatenate S32x2048x2x64 3 [⟨S32x2048x2x32, (subf (mulf (extractStridedSlice S32x2048x2x32 ![0, 0, 0, 0] (shapeCast S32x2048x2x64 Y shapeCasts_S32x2048x128_S32x2048x2x64) slices_S32x2048x2x64_S32x2048x2x32_0_0_0_0) (broadcastInDim S32x2048x2x32 ![0, 1, 2, 3] bcast_S1x2048x1x32_S32x2048x2x32_0_1_2_3 C)) (mulf (extractStridedSlice S32x2048x2x32 ![0, 0, 0, 32] (shapeCast S32x2048x2x64 Y shapeCasts_S32x2048x128_S32x2048x2x64) slices_S32x2048x2x64_S32x2048x2x32_0_0_0_32) (broadcastInDim S32x2048x2x32 ![0, 1, 2, 3] bcast_S1x2048x1x32_S32x2048x2x32_0_1_2_3 S)))⟩,
    ⟨S32x2048x2x32, (addf (mulf (extractStridedSlice S32x2048x2x32 ![0, 0, 0, 32] (shapeCast S32x2048x2x64 Y shapeCasts_S32x2048x128_S32x2048x2x64) slices_S32x2048x2x64_S32x2048x2x32_0_0_0_32) (broadcastInDim S32x2048x2x32 ![0, 1, 2, 3] bcast_S1x2048x1x32_S32x2048x2x32_0_1_2_3 C)) (mulf (extractStridedSlice S32x2048x2x32 ![0, 0, 0, 0] (shapeCast S32x2048x2x64 Y shapeCasts_S32x2048x128_S32x2048x2x64) slices_S32x2048x2x64_S32x2048x2x32_0_0_0_0) (broadcastInDim S32x2048x2x32 ![0, 1, 2, 3] bcast_S1x2048x1x32_S32x2048x2x32_0_1_2_3 S)))⟩] concatenates_S32x2048x2x32_S32x2048x2x32_S32x2048x2x64_d3) shapeCasts_S32x2048x2x64_S32x2048x128

/-- Two projections' heads, taken in turn. -/
def halves (A B : FVec Ideal S32x2048x128 .f32) : FVec Ideal S32x2048x256 .f32 :=
  shapeCast _ (concatenate S32x2048x2x2x64 3 [⟨S32x2048x2x1x64, (broadcastInDim S32x2048x2x1x64 ![0, 1, 2, 4] bcast_S32x2048x2x64_S32x2048x2x1x64_0_1_2_4 (shapeCast _ A shapeCasts_S32x2048x128_S32x2048x2x64))⟩,
    ⟨S32x2048x2x1x64, (broadcastInDim S32x2048x2x1x64 ![0, 1, 2, 4] bcast_S32x2048x2x64_S32x2048x2x1x64_0_1_2_4 (shapeCast _ B shapeCasts_S32x2048x128_S32x2048x2x64))⟩] concatenates_S32x2048x2x1x64_S32x2048x2x1x64_S32x2048x2x2x64_d3) shapeCasts_S32x2048x2x2x64_S32x2048x256

/-- The logistic function of a projection of the model's width. -/
def sigmoid (Y : FVec Ideal S32x2048x1024 .f32) : FVec Ideal S32x2048x1024 .f32 :=
  Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf Y)))

/-- The logistic function of a projection of 48 columns, padded with zeros. -/
def sigmoidPad (Y : FVec Ideal S32x2048x48 .f32) : FVec Ideal S32x2048x128 .f32 :=
  Host.divf (broadcastInDim S32x2048x128 ![] bcast_S_S32x2048x128 (constant S_ .f32 0x3F800000#32)) (addf (broadcastInDim S32x2048x128 ![] bcast_S_S32x2048x128 (constant S_ .f32 0x3F800000#32)) (Host.exp (Host.negf (pad S32x2048x128 ![0, 0, 0] ![0, 0, 80] ![0, 0, 0] Y (sitofp .f32 (constantI S_ 32 0#32)) pads_S32x2048x48_S32x2048x128_000_000_0800 h_S_))))

/-- A projection scaled by the queries' factor. -/
def scaled (Y : FVec Ideal S32x2048x1024 .f32) : FVec Ideal S32x2048x1024 .f32 :=
  mulf Y (broadcastInDim S32x2048x1024 ![] bcast_S_S32x2048x1024 (constant S_ .f32 0x3E38AA3B#32))

/-- The projections at an index. -/
theorem all_at (X : FVec Ideal S32x2048x1024 .f32) (G : FVec Ideal S1x1024 .f32) (W : FVec Ideal S1x1024x6960 .f32) (b : Fin 32) (s : Fin 2048) (f : Fin 6960) :
    all X G W (ix3 b s f) = proj (rms (fun k => X (ix3 b s k)) (fun k => G (ix2 0 k))) (fun k f => W (ix3 0 k f)) f := by
  have h : all X G W (ix3 b s f) = ∑ k : Fin 1024, normed X (shapeCast _ G shapeCasts_S1x1024_S1024) (ix3 b s k) * W (ix3 0 k f) := by
    pointwise [all]
  rw [h, proj_of _ _ _ f.isLt]
  unfold lin
  refine Finset.sum_congr rfl fun k _ => ?_
  rw [normed_at]
  have hg : (fun k => (shapeCast _ G shapeCasts_S1x1024_S1024 : FVec Ideal S1024 .f32) (ix1 k)) = fun k => G (ix2 0 k) := by
    funext k
    pointwise
  rw [hg]

/-- The rotation of sixteen heads at an index. -/
theorem rotate16_at (Y : FVec Ideal S32x2048x1024 .f32) (C S : FVec Ideal S2048x32 .f32) (p : ℕ → EReal) (b : Fin 32) (s : Fin 2048)
    (hp : ∀ c : Fin 1024, Y (ix3 b s c) = p c) (c : Fin 1024) :
    rotate16 Y (table C) (table S) (ix3 b s c) = turned p (fun u => C (ix2 s u)) (fun u => S (ix2 s u)) c := by
  refine Eq.trans ?_ (turned_halves p _ _ c)
  pointwise [rotate16, table]
  simp only [hp]

/-- The rotation of two heads at an index. -/
theorem rotate2_at (Y : FVec Ideal S32x2048x128 .f32) (C S : FVec Ideal S2048x32 .f32) (p : ℕ → EReal) (b : Fin 32) (s : Fin 2048)
    (hp : ∀ c : Fin 128, Y (ix3 b s c) = p c) (c : Fin 128) :
    rotate2 Y (table C) (table S) (ix3 b s c) = turned p (fun u => C (ix2 s u)) (fun u => S (ix2 s u)) c := by
  refine Eq.trans ?_ (turned_halves p _ _ c)
  pointwise [rotate2, table]
  simp only [hp]

/-- The heads taken in turn, at an index. -/
theorem halves_at (A B : FVec Ideal S32x2048x128 .f32) (b : Fin 32) (s : Fin 2048) (f : Fin 256) :
    halves A B (ix3 b s f) = if f.val / 64 % 2 < 1 then A (ix3 b s ⟨f.val / 128 * 64 + f.val % 64, by omega⟩) else B (ix3 b s ⟨f.val / 128 * 64 + f.val % 64, by omega⟩) := by
  pointwise [halves]
  by_cases h : f.val / 64 % 2 < 1
  · rw [dif_pos h, if_pos h]
  · rw [dif_neg h, if_neg h]

/-- The logistic function at an index. -/
theorem sigmoid_at (Y : FVec Ideal S32x2048x1024 .f32) (b : Fin 32) (s : Fin 2048) (c : Fin 1024) : sigmoid Y (ix3 b s c) = Ideal.logistic (Y (ix3 b s c)) := by
  have h : sigmoid Y (ix3 b s c) = Ideal.div (Ideal.ofBits .f32 0x3F800000#32) (Ideal.ofBits .f32 0x3F800000#32 + Ideal.exp (-(Y (ix3 b s c)))) := by
    pointwise [sigmoid]
  rw [h, ofBits_one]
  rfl

/-- The padded logistic function at an index. -/
theorem sigmoidPad_at (Y : FVec Ideal S32x2048x48 .f32) (b : Fin 32) (s : Fin 2048) (c : Fin 128) :
    sigmoidPad Y (ix3 b s c) = Ideal.logistic (if h : c.val < 48 then Y (ix3 b s ⟨c, h⟩) else 0) := by
  have h : sigmoidPad Y (ix3 b s c) = Ideal.div (Ideal.ofBits .f32 0x3F800000#32) (Ideal.ofBits .f32 0x3F800000#32 + Ideal.exp (-(if h : c.val < 48 then Y (ix3 b s ⟨c, h⟩) else 0))) := by
    have h0 : (FloatOps.sitofp .f32 (0#32 : BitVec 32) : Ideal .f32) = (0 : EReal) := by
      show (((0#32 : BitVec 32).toInt : ℝ) : EReal) = 0
      simp
    pointwise [sigmoidPad]
    rw [h0]
  rw [h, ofBits_one]
  rfl

/-- The scaled projection at an index. -/
theorem scaled_at (Y : FVec Ideal S32x2048x1024 .f32) (b : Fin 32) (s : Fin 2048) (c : Fin 1024) : scaled Y (ix3 b s c) = Y (ix3 b s c) * Ideal.ofBits .f32 0x3E38AA3B#32 := by
  pointwise [scaled]

section Results

variable (X : FVec Ideal S32x2048x1024 .f32) (G : FVec Ideal S1x1024 .f32) (W : FVec Ideal S1x1024x6960 .f32)

/-- The turned, scaled queries of differential attention. -/
def q : FVec Ideal S32x2048x1024 .bf16 :=
  truncf .bf16 (scaled (rotate16 (extractStridedSlice S32x2048x1024 ![0, 0, 0] (all X G W) slices_S32x2048x6960_S32x2048x1024_0_0_0) (table cosT) (table sinT))) bitsLt_bf16_f32

/-- The turned keys of differential attention. -/
def k : FVec Ideal S32x2048x1024 .bf16 :=
  truncf .bf16 (rotate16 (extractStridedSlice S32x2048x1024 ![0, 0, 1024] (all X G W) slices_S32x2048x6960_S32x2048x1024_0_0_1024) (table cosT) (table sinT)) bitsLt_bf16_f32

/-- The values of differential attention. -/
def v : FVec Ideal S32x2048x1024 .bf16 :=
  truncf .bf16 (extractStridedSlice S32x2048x1024 ![0, 0, 2048] (all X G W) slices_S32x2048x6960_S32x2048x1024_0_0_2048) bitsLt_bf16_f32

/-- The turned, scaled queries of sparse attention. -/
def qr : FVec Ideal S32x2048x1024 .bf16 :=
  truncf .bf16 (scaled (rotate16 (extractStridedSlice S32x2048x1024 ![0, 0, 3072] (all X G W) slices_S32x2048x6960_S32x2048x1024_0_0_3072) (table cosT) (table sinT))) bitsLt_bf16_f32

/-- The scaled queries of sparse attention. -/
def qc : FVec Ideal S32x2048x1024 .bf16 :=
  truncf .bf16 (scaled (extractStridedSlice S32x2048x1024 ![0, 0, 3072] (all X G W) slices_S32x2048x6960_S32x2048x1024_0_0_3072)) bitsLt_bf16_f32

/-- The keys to be compressed. -/
def kc : FVec Ideal S32x2048x128 .f32 := extractStridedSlice S32x2048x128 ![0, 0, 4096] (all X G W) slices_S32x2048x6960_S32x2048x128_0_0_4096

/-- The values to be compressed. -/
def vc : FVec Ideal S32x2048x128 .f32 := extractStridedSlice S32x2048x128 ![0, 0, 4224] (all X G W) slices_S32x2048x6960_S32x2048x128_0_0_4224

/-- The turned keys of the selected and of the near blocks. -/
def ksw : FVec Ideal S32x2048x256 .bf16 :=
  truncf .bf16 (halves (rotate2 (extractStridedSlice S32x2048x128 ![0, 0, 4352] (all X G W) slices_S32x2048x6960_S32x2048x128_0_0_4352) (table cosT) (table sinT))
    (rotate2 (extractStridedSlice S32x2048x128 ![0, 0, 4608] (all X G W) slices_S32x2048x6960_S32x2048x128_0_0_4608) (table cosT) (table sinT))) bitsLt_bf16_f32

/-- The values of the selected and of the near blocks. -/
def vsw : FVec Ideal S32x2048x256 .bf16 :=
  truncf .bf16 (halves (extractStridedSlice S32x2048x128 ![0, 0, 4480] (all X G W) slices_S32x2048x6960_S32x2048x128_0_0_4480)
    (extractStridedSlice S32x2048x128 ![0, 0, 4736] (all X G W) slices_S32x2048x6960_S32x2048x128_0_0_4736)) bitsLt_bf16_f32

/-- The gates of sparse attention. -/
def gns : FVec Ideal S32x2048x128 .f32 := sigmoidPad (extractStridedSlice S32x2048x48 ![0, 0, 4864] (all X G W) slices_S32x2048x6960_S32x2048x48_0_0_4864)

/-- The gate of differential attention. -/
def ga : FVec Ideal S32x2048x1024 .f32 := sigmoid (extractStridedSlice S32x2048x1024 ![0, 0, 4912] (all X G W) slices_S32x2048x6960_S32x2048x1024_0_0_4912)

/-- The gate of sparse attention. -/
def gb : FVec Ideal S32x2048x1024 .f32 := sigmoid (extractStridedSlice S32x2048x1024 ![0, 0, 5936] (all X G W) slices_S32x2048x6960_S32x2048x1024_0_0_5936)

variable (b : Fin 32) (s : Fin 2048)

/-- A token's projections, by column. -/
def tok (c : ℕ) : EReal := proj (rms (fun k => X (ix3 b s k)) (fun k => G (ix2 0 k))) (fun k f => W (ix3 0 k f)) c

/-- A slice of the projections, at an index. -/
theorem slice_at {o n : ℕ} (hs : S32x2048x6960.Slices ![0, 0, o] (⟨3, ![32, 2048, n]⟩ : Shape)) (ho : o + n ≤ 6960) (c : Fin n) :
    (extractStridedSlice (⟨3, ![32, 2048, n]⟩ : Shape) ![0, 0, o] (all X G W) hs : FVec Ideal (⟨3, ![32, 2048, n]⟩ : Shape) .f32) (ix3 b s c) = tok X G W b s (o + c) := by
  refine Eq.trans ?_ (all_at X G W b s ⟨o + c, by omega⟩)
  pointwise

/-- The queries of differential attention, at an index. -/
theorem q_at (c : Fin 1024) : q X G W (ix3 b s c) = turned (fun n => tok X G W b s (0 + n)) (fun u => cosT (ix2 s u)) (fun u => sinT (ix2 s u)) c * Ideal.ofBits .f32 0x3E38AA3B#32 := by
  refine (scaled_at _ b s c).trans ?_
  rw [rotate16_at _ _ _ (fun n => tok X G W b s (0 + n)) b s (slice_at X G W b s (o := 0) (n := 1024) _ (by decide)) c]

/-- The keys of differential attention, at an index. -/
theorem k_at (c : Fin 1024) : k X G W (ix3 b s c) = turned (fun n => tok X G W b s (1024 + n)) (fun u => cosT (ix2 s u)) (fun u => sinT (ix2 s u)) c := by
  exact rotate16_at _ _ _ (fun n => tok X G W b s (1024 + n)) b s (slice_at X G W b s (o := 1024) (n := 1024) _ (by decide)) c

/-- The values of differential attention, at an index. -/
theorem v_at (c : Fin 1024) : v X G W (ix3 b s c) = tok X G W b s (2048 + c) := by
  exact slice_at X G W b s (o := 2048) (n := 1024) slices_S32x2048x6960_S32x2048x1024_0_0_2048 (by decide) c

/-- The turned queries of sparse attention, at an index. -/
theorem qr_at (c : Fin 1024) : qr X G W (ix3 b s c) = turned (fun n => tok X G W b s (3072 + n)) (fun u => cosT (ix2 s u)) (fun u => sinT (ix2 s u)) c * Ideal.ofBits .f32 0x3E38AA3B#32 := by
  refine (scaled_at _ b s c).trans ?_
  rw [rotate16_at _ _ _ (fun n => tok X G W b s (3072 + n)) b s (slice_at X G W b s (o := 3072) (n := 1024) _ (by decide)) c]

/-- The queries of sparse attention, at an index. -/
theorem qc_at (c : Fin 1024) : qc X G W (ix3 b s c) = tok X G W b s (3072 + c) * Ideal.ofBits .f32 0x3E38AA3B#32 := by
  refine (scaled_at _ b s c).trans ?_
  rw [slice_at X G W b s (o := 3072) (n := 1024) _ (by decide) c]

/-- The keys to be compressed, at an index. -/
theorem kc_at (c : Fin 128) : kc X G W (ix3 b s c) = tok X G W b s (4096 + c) := by
  exact slice_at X G W b s (o := 4096) (n := 128) slices_S32x2048x6960_S32x2048x128_0_0_4096 (by decide) c

/-- The values to be compressed, at an index. -/
theorem vc_at (c : Fin 128) : vc X G W (ix3 b s c) = tok X G W b s (4224 + c) := by
  exact slice_at X G W b s (o := 4224) (n := 128) slices_S32x2048x6960_S32x2048x128_0_0_4224 (by decide) c

/-- The keys of the selected and of the near blocks, at an index. -/
theorem ksw_at (c : Fin 256) : ksw X G W (ix3 b s c) = turned (fun n => tok X G W b s (midCol 4352 n)) (fun u => cosT (ix2 s u)) (fun u => sinT (ix2 s u)) c := by
  refine (halves_at _ _ b s c).trans ?_
  rw [turned_mid, rotate2_at _ _ _ (fun n => tok X G W b s (4352 + n)) b s (slice_at X G W b s (o := 4352) (n := 128) _ (by decide)) ⟨c.val / 128 * 64 + c.val % 64, by omega⟩, rotate2_at _ _ _ (fun n => tok X G W b s (4608 + n)) b s (slice_at X G W b s (o := 4608) (n := 128) _ (by decide)) ⟨c.val / 128 * 64 + c.val % 64, by omega⟩]
  by_cases h : c.val / 64 % 2 < 1
  · have e : c.val / 64 % 2 = 0 := by omega
    rw [if_pos h, e]
  · have e : c.val / 64 % 2 = 1 := by omega
    rw [if_neg h, e]

/-- The values of the selected and of the near blocks, at an index. -/
theorem vsw_at (c : Fin 256) : vsw X G W (ix3 b s c) = tok X G W b s (midCol 4480 c) := by
  refine (halves_at _ _ b s c).trans ?_
  rw [slice_at X G W b s (o := 4480) (n := 128) _ (by decide), slice_at X G W b s (o := 4736) (n := 128) _ (by decide)]
  unfold midCol
  by_cases h : c.val / 64 % 2 < 1
  · have e : c.val / 64 % 2 = 0 := by omega
    rw [if_pos h, e]
    simp only [zero_mul, add_zero, add_assoc]
  · have e : c.val / 64 % 2 = 1 := by omega
    rw [if_neg h, e]
    simp only [one_mul, add_assoc]
    congr 1
    omega

/-- The gates of sparse attention, at an index. -/
theorem gns_at (c : Fin 128) : gns X G W (ix3 b s c) = Ideal.logistic (if c.val < 48 then tok X G W b s (4864 + c) else 0) := by
  refine (sigmoidPad_at _ b s c).trans ?_
  by_cases h : c.val < 48
  · rw [dif_pos h, if_pos h, slice_at X G W b s (o := 4864) (n := 48) _ (by decide)]
  · rw [dif_neg h, if_neg h]

/-- The gate of differential attention, at an index. -/
theorem ga_at (c : Fin 1024) : ga X G W (ix3 b s c) = Ideal.logistic (tok X G W b s (4912 + c)) := by
  refine (sigmoid_at _ b s c).trans ?_
  rw [slice_at X G W b s (o := 4912) (n := 1024) _ (by decide)]

/-- The gate of sparse attention, at an index. -/
theorem gb_at (c : Fin 1024) : gb X G W (ix3 b s c) = Ideal.logistic (tok X G W b s (5936 + c)) := by
  refine (sigmoid_at _ b s c).trans ?_
  rw [slice_at X G W b s (o := 5936) (n := 1024) _ (by decide)]

end Results

end Cert.InProjRefIdeal.Stage

end
-- ==== Proof.InProjHost.lean ====
module

public import proofs.«01_k».proof.Proof.InProjTile
public import proofs.«01_k».proof.Proof.InProjRef
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.InProjRefIdeal.Stage (cosT sinT)
open Cert.Layer (rms lin proj proj_of turned turned_shift midCol)

variable (m : (ℓ : Loc nD τ sig) → Buf (Elt Ideal) ℓ)

/-- The weights without their leading axis. -/
def flat (W : FVec Ideal S1x1024x6960 .f32) : FVec Ideal S1024x6960 .f32 := shapeCast _ W shapeCasts_S1x1024x6960_S1024x6960

/-- The weights without their leading axis, at an index. -/
theorem flat_at (W : FVec Ideal S1x1024x6960 .f32) (k : Fin 1024) (f : Fin 6960) : flat W (ix2 k f) = W (ix3 0 k f) := by
  pointwise [flat]

/-- Four groups of 64 columns, in the order the kernel takes them. -/
def keyCols (W : FVec Ideal S1x1024x6960 .f32) : FVec Ideal S1024x256 .f32 :=
  concatenate S1024x256 1 [⟨S1024x64, extractStridedSlice S1024x64 ![0, 4352] (flat W) slices_S1024x6960_S1024x64_0_4352⟩, ⟨S1024x64, extractStridedSlice S1024x64 ![0, 4608] (flat W) slices_S1024x6960_S1024x64_0_4608⟩, ⟨S1024x64, extractStridedSlice S1024x64 ![0, 4416] (flat W) slices_S1024x6960_S1024x64_0_4416⟩, ⟨S1024x64, extractStridedSlice S1024x64 ![0, 4672] (flat W) slices_S1024x6960_S1024x64_0_4672⟩] concatenates_S1024x64_S1024x64_S1024x64_S1024x64_S1024x256_d1

/-- Four groups of 64 columns, in the order the kernel takes them. -/
def valueCols (W : FVec Ideal S1x1024x6960 .f32) : FVec Ideal S1024x256 .f32 :=
  concatenate S1024x256 1 [⟨S1024x64, extractStridedSlice S1024x64 ![0, 4480] (flat W) slices_S1024x6960_S1024x64_0_4480⟩, ⟨S1024x64, extractStridedSlice S1024x64 ![0, 4736] (flat W) slices_S1024x6960_S1024x64_0_4736⟩, ⟨S1024x64, extractStridedSlice S1024x64 ![0, 4544] (flat W) slices_S1024x6960_S1024x64_0_4544⟩, ⟨S1024x64, extractStridedSlice S1024x64 ![0, 4800] (flat W) slices_S1024x6960_S1024x64_0_4800⟩] concatenates_S1024x64_S1024x64_S1024x64_S1024x64_S1024x256_d1

/-- The branches' 48 columns, padded with zeros. -/
def branchCols (W : FVec Ideal S1x1024x6960 .f32) : FVec Ideal S1024x128 .f32 :=
  pad S1024x128 ![0, 0] ![0, 80] ![0, 0] (extractStridedSlice S1024x48 ![0, 4864] (flat W) slices_S1024x6960_S1024x48_0_4864) (sitofp .f32 (constantI S_ 32 0#32)) pads_S1024x48_S1024x128_000_0800 h_S_

/-- The middle columns. -/
def midCols (W : FVec Ideal S1x1024x6960 .f32) : FVec Ideal S1024x640 .f32 :=
  concatenate S1024x640 1 [⟨S1024x256, keyCols W⟩, ⟨S1024x256, valueCols W⟩, ⟨S1024x128, branchCols W⟩] concatenates_S1024x256_S1024x256_S1024x128_S1024x640_d1

/-- Zeros. -/
def zeros : FVec Ideal S2048x32 .f32 := broadcastInDim S2048x32 ![] bcast_S_S2048x32 (constant S_ .f32 0x00000000#32)

/-- Half a table twice over, in each of two heads. -/
def twice (T : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 T shapeCasts_S2048x64_S1x2048x1x64)) shapeCasts_S1x2048x2x64_S2048x128

/-- The table of cosines. -/
def tabC : FVec Ideal S2048x128 .f32 :=
  shapeCast S2048x128 (broadcastInDim S1x2048x4x32 ![0, 1, 2, 3] bcast_S1x2048x1x32_S1x2048x4x32_0_1_2_3 (shapeCast S1x2048x1x32 cosT shapeCasts_S2048x32_S1x2048x1x32)) shapeCasts_S1x2048x4x32_S2048x128

/-- The table of sines for one roll. -/
def tabA : FVec Ideal S2048x128 .f32 :=
  twice (concatenate S2048x64 1 [⟨S2048x32, Host.negf sinT⟩, ⟨S2048x32, zeros⟩] concatenates_S2048x32_S2048x32_S2048x64_d1)

/-- The table of sines for the other roll. -/
def tabB : FVec Ideal S2048x128 .f32 :=
  twice (concatenate S2048x64 1 [⟨S2048x32, zeros⟩, ⟨S2048x32, sinT⟩] concatenates_S2048x32_S2048x32_S2048x64_d1)

set_option maxHeartbeats 4000000 in
/-- The gain the call takes. -/
theorem V34 (c : Dev nD) : (V m c main_v34 : FVec Ideal S1x1024 .f32) = shapeCast _ (shapeCast S1024 (m ((c : Thread nD τ).loc main_arg1) : FVec Ideal S1x1024 .f32) shapeCasts_S1x1024_S1024) shapeCasts_S1024_S1x1024 := by
  simp only [V, hostOps0, hostOps0_1, hostOps0_2, List.flatten_cons, List.flatten_nil, List.append_nil, List.cons_append, List.nil_append]
  after_results_simp
  rfl

set_option maxHeartbeats 4000000 in
/-- The heads' weights the call takes. -/
theorem V49 (c : Dev nD) : (V m c main_v49 : FVec Ideal S1024x4352 .bf16) = truncf .bf16 (extractStridedSlice S1024x4352 ![0, 0] (flat (m ((c : Thread nD τ).loc main_arg2))) slices_S1024x6960_S1024x4352_0_0) bitsLt_bf16_f32 := by
  simp only [V, hostOps0, hostOps0_1, hostOps0_2, List.flatten_cons, List.flatten_nil, List.append_nil, List.cons_append, List.nil_append]
  after_results_simp
  rfl

set_option maxHeartbeats 4000000 in
/-- The gates' weights the call takes. -/
theorem V52 (c : Dev nD) : (V m c main_v52 : FVec Ideal S1024x2048 .bf16) = truncf .bf16 (extractStridedSlice S1024x2048 ![0, 4912] (flat (m ((c : Thread nD τ).loc main_arg2))) slices_S1024x6960_S1024x2048_0_4912) bitsLt_bf16_f32 := by
  simp only [V, hostOps0, hostOps0_1, hostOps0_2, List.flatten_cons, List.flatten_nil, List.append_nil, List.cons_append, List.nil_append]
  after_results_simp
  rfl

set_option maxHeartbeats 4000000 in
/-- The middle weights the call takes. -/
theorem V50 (c : Dev nD) : (V m c main_v50 : FVec Ideal S1024x640 .bf16) = truncf .bf16 (midCols (m ((c : Thread nD τ).loc main_arg2))) bitsLt_bf16_f32 := by
  simp only [V, hostOps0, hostOps0_1, hostOps0_2, List.flatten_cons, List.flatten_nil, List.append_nil, List.cons_append, List.nil_append]
  after_results_simp
  rfl

set_option maxHeartbeats 4000000 in
/-- The cosines the call takes. -/
theorem V24 (c : Dev nD) : (V m c main_v24 : FVec Ideal S2048x128 .f32) = tabC := by
  simp only [V, hostOps0, hostOps0_1, hostOps0_2, List.flatten_cons, List.flatten_nil, List.append_nil, List.cons_append, List.nil_append]
  after_results_simp
  rfl

set_option maxHeartbeats 4000000 in
/-- The sines the call takes for one roll. -/
theorem V29 (c : Dev nD) : (V m c main_v29 : FVec Ideal S2048x128 .f32) = tabA := by
  simp only [V, hostOps0, hostOps0_1, hostOps0_2, List.flatten_cons, List.flatten_nil, List.append_nil, List.cons_append, List.nil_append]
  after_results_simp
  rfl

set_option maxHeartbeats 4000000 in
/-- The sines the call takes for the other roll. -/
theorem V33 (c : Dev nD) : (V m c main_v33 : FVec Ideal S2048x128 .f32) = tabB := by
  simp only [V, hostOps0, hostOps0_1, hostOps0_2, List.flatten_cons, List.flatten_nil, List.append_nil, List.cons_append, List.nil_append]
  after_results_simp
  rfl

end Cert.InProjIdeal.Tile

end
-- ==== Proof.InProjCols.lean ====
module

public import proofs.«01_k».proof.Proof.InProjHost
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.InProjRefIdeal.Stage (cosT sinT)
open Cert.Layer (rms lin proj proj_of turned turned_shift midCol)

/-- A group of 64 columns at an index. -/
theorem group_at {o : ℕ} (W : FVec Ideal S1x1024x6960 .f32) (hs : S1024x6960.Slices ![0, o] S1024x64) (k : Fin 1024) (x : Fin 64) (c : ℕ) (hc : c < 6960) (e : c = o + x) :
    extractStridedSlice S1024x64 ![0, o] (flat W) hs (ix2 k x) = W (ix3 0 k ⟨c, hc⟩) := by
  subst e
  refine Eq.trans ?_ (flat_at W k ⟨o + x, hc⟩)
  refine congrArg (flat W) (funext fun a => Fin.ext ?_)
  refine Fin.cases ?_ (fun a => Fin.cases ?_ (fun a => a.elim0) a) a
  · show 0 + (k : ℕ) = k
    omega
  · rfl

/-- Four groups of 64 columns beside one another, at an index. -/
theorem cat4_at (a b c d : FVec Ideal S1024x64 .f32) (k : Fin 1024) (p : Fin 256 → EReal) (ha : ∀ x : Fin 64, a (ix2 k x) = p ⟨x, by omega⟩)
    (hb : ∀ x : Fin 64, b (ix2 k x) = p ⟨64 + x, by omega⟩) (hc : ∀ x : Fin 64, c (ix2 k x) = p ⟨128 + x, by omega⟩)
    (hd : ∀ x : Fin 64, d (ix2 k x) = p ⟨192 + x, by omega⟩) (f : Fin 256) :
    (concatenate S1024x256 1 [⟨S1024x64, a⟩, ⟨S1024x64, b⟩, ⟨S1024x64, c⟩, ⟨S1024x64, d⟩] concatenates_S1024x64_S1024x64_S1024x64_S1024x64_S1024x256_d1 : FVec Ideal S1024x256 .f32) (ix2 k f) = p f := by
  pointwise
  by_cases h0 : f.val < 64
  · rw [dif_pos h0]
    exact ha ⟨f, h0⟩
  · by_cases h1 : f.val - 64 < 64
    · rw [dif_neg h0, dif_pos h1]
      exact (hb ⟨f.val - 64, h1⟩).trans (congrArg p (Fin.ext (by show 64 + (f.val - 64) = f.val; omega)))
    · by_cases h2 : f.val - 64 - 64 < 64
      · rw [dif_neg h0, dif_neg h1, dif_pos h2]
        exact (hc ⟨f.val - 64 - 64, h2⟩).trans (congrArg p (Fin.ext (by show 128 + (f.val - 64 - 64) = f.val; omega)))
      · rw [dif_neg h0, dif_neg h1, dif_neg h2]
        exact (hd ⟨f.val - 64 - 64 - 64, by omega⟩).trans (congrArg p (Fin.ext (by show 192 + (f.val - 64 - 64 - 64) = f.val; omega)))

/-- The keys' columns at an index. -/
theorem keyCols_at (W : FVec Ideal S1x1024x6960 .f32) (k : Fin 1024) (f : Fin 256) :
    keyCols W (ix2 k f) = W (ix3 0 k ⟨midCol 4352 f, by unfold midCol; omega⟩) :=
  cat4_at _ _ _ _ k (fun f => W (ix3 0 k ⟨midCol 4352 f, by unfold midCol; omega⟩))
    (fun x => group_at (o := 4352) W _ k x _ _ (by show midCol 4352 x.val = 4352 + x.val; unfold midCol; omega))
    (fun x => group_at (o := 4608) W _ k x _ _ (by show midCol 4352 (64 + x.val) = 4608 + x.val; unfold midCol; omega))
    (fun x => group_at (o := 4416) W _ k x _ _ (by show midCol 4352 (128 + x.val) = 4416 + x.val; unfold midCol; omega))
    (fun x => group_at (o := 4672) W _ k x _ _ (by show midCol 4352 (192 + x.val) = 4672 + x.val; unfold midCol; omega)) f

/-- The values' columns at an index. -/
theorem valueCols_at (W : FVec Ideal S1x1024x6960 .f32) (k : Fin 1024) (f : Fin 256) :
    valueCols W (ix2 k f) = W (ix3 0 k ⟨midCol 4480 f, by unfold midCol; omega⟩) :=
  cat4_at _ _ _ _ k (fun f => W (ix3 0 k ⟨midCol 4480 f, by unfold midCol; omega⟩))
    (fun x => group_at (o := 4480) W _ k x _ _ (by show midCol 4480 x.val = 4480 + x.val; unfold midCol; omega))
    (fun x => group_at (o := 4736) W _ k x _ _ (by show midCol 4480 (64 + x.val) = 4736 + x.val; unfold midCol; omega))
    (fun x => group_at (o := 4544) W _ k x _ _ (by show midCol 4480 (128 + x.val) = 4544 + x.val; unfold midCol; omega))
    (fun x => group_at (o := 4800) W _ k x _ _ (by show midCol 4480 (192 + x.val) = 4800 + x.val; unfold midCol; omega)) f

/-- The branches' columns at an index. -/
theorem branchCols_at (W : FVec Ideal S1x1024x6960 .f32) (k : Fin 1024) (f : Fin 128) :
    branchCols W (ix2 k f) = if h : f.val < 48 then W (ix3 0 k ⟨4864 + f, by omega⟩) else 0 := by
  have h0 : (FloatOps.sitofp .f32 (0#32 : BitVec 32) : Ideal .f32) = (0 : EReal) := by
    show (((0#32 : BitVec 32).toInt : ℝ) : EReal) = 0
    simp
  pointwise [branchCols, flat]
  try rw [h0]

/-- The middle columns that are keys. -/
theorem mid_keys (W : FVec Ideal S1x1024x6960 .f32) (k : Fin 1024) (f : Fin 256) : midCols W (ix2 k ⟨f, by omega⟩) = keyCols W (ix2 k f) := by
  pointwise [midCols]

/-- The middle columns that are values. -/
theorem mid_values (W : FVec Ideal S1x1024x6960 .f32) (k : Fin 1024) (f : Fin 256) : midCols W (ix2 k ⟨256 + f, by omega⟩) = valueCols W (ix2 k f) := by
  pointwise [midCols]

/-- The middle columns that are the branches'. -/
theorem mid_branches (W : FVec Ideal S1x1024x6960 .f32) (k : Fin 1024) (f : Fin 128) : midCols W (ix2 k ⟨512 + f, by omega⟩) = branchCols W (ix2 k f) := by
  pointwise [midCols]
  rw [dif_neg (by omega), dif_neg (by omega)]
  exact congrArg (branchCols W) (congrArg (ix2 k) (Fin.ext (by show 512 + f.val - 256 - 256 = f.val; omega)))

/-- The table of cosines at an index. -/
theorem tabC_at (s : Fin 2048) (x : Fin 128) : tabC (ix2 s x) = cosT (ix2 s ⟨x.val % 32, Nat.mod_lt _ (by decide)⟩) := by
  pointwise [tabC]

/-- A half table twice over, at an index. -/
theorem twice_at (T : FVec Ideal S2048x64 .f32) (s : Fin 2048) (x : Fin 128) : twice T (ix2 s x) = T (ix2 s ⟨x.val % 64, Nat.mod_lt _ (by decide)⟩) := by
  pointwise [twice]

/-- The table of sines for one roll, at an index. -/
theorem tabA_at (s : Fin 2048) (x : Fin 128) : tabA (ix2 s x) = if x.val % 64 < 32 then -sinT (ix2 s ⟨x.val % 32, Nat.mod_lt _ (by decide)⟩) else 0 := by
  refine (twice_at _ s x).trans ?_
  pointwise [zeros]
  by_cases h : x.val % 64 < 32
  · rw [dif_pos h, if_pos h]
    exact congrArg (fun u => -sinT (ix2 s u)) (Fin.ext (by show x.val % 64 = x.val % 32; omega))
  · rw [dif_neg h, if_neg h]

/-- The table of sines for the other roll, at an index. -/
theorem tabB_at (s : Fin 2048) (x : Fin 128) : tabB (ix2 s x) = if x.val % 64 < 32 then 0 else sinT (ix2 s ⟨x.val % 32, Nat.mod_lt _ (by decide)⟩) := by
  refine (twice_at _ s x).trans ?_
  pointwise [zeros]
  by_cases h : x.val % 64 < 32
  · rw [dif_pos h, if_pos h]
  · rw [dif_neg h, if_neg h]
    exact congrArg (fun u => sinT (ix2 s u)) (Fin.ext (by show x.val % 64 - 32 = x.val % 32; omega))

end Cert.InProjIdeal.Tile

end
-- ==== Proof.InProjOut.lean ====
module

public import proofs.«01_k».proof.Proof.InProjTile
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.Layer (rms lin proj proj_of turned turned_shift midCol)

/-- Columns read from a block of weights. -/
theorem ld_cols {Val : EltTy → Type} {ty : EltTy} {o n N : ℕ} (X : (⟨2, ![1024, N]⟩ : Shape).Idx → Val ty)
    (inb : ∀ a, (![0, o] : Fin 2 → ℕ) a + (![1024, n] : Fin 2 → ℕ) a ≤ (⟨2, ![1024, N]⟩ : Shape).size a) (k : Fin 1024) (j : Fin n) (hj : o + j < N) :
    View.ld X (Rect.unit (s := ⟨2, ![1024, N]⟩) ![0, o] ![1024, n] inb) (ix2 k j) = X (ix2 k ⟨o + j, hj⟩) := by
  refine congrArg X (funext fun a => Fin.ext ?_)
  refine Fin.cases ?_ (fun a => Fin.cases ?_ (fun a => a.elim0) a) a
  · show 0 + 1 * (k : ℕ) = k
    omega
  · show o + 1 * (j : ℕ) = o + j
    omega

/-- The product with columns read from a block of weights is a column of the projections, if the block's columns are the weights' columns. -/
theorem lin_ld {o n N : ℕ} {h : Fin 1024 → EReal} {H : Fin 1024 → EReal} {Wm : Fin 1024 → Fin 6960 → EReal} (hh : ∀ k, h k = H k)
    (X : (⟨2, ![1024, N]⟩ : Shape).Idx → Elt Ideal .bf16)
    (inb : ∀ a, (![0, o] : Fin 2 → ℕ) a + (![1024, n] : Fin 2 → ℕ) a ≤ (⟨2, ![1024, N]⟩ : Shape).size a) (j : Fin n) (hj : o + j < N) (c : ℕ) (hc : c < 6960)
    (hX : ∀ k, X (ix2 k ⟨o + j, hj⟩) = Wm k ⟨c, hc⟩) :
    lin h (fun k j => (View.ld (Val := Elt Ideal) (e' := .bf16) X (Rect.unit (s := ⟨2, ![1024, N]⟩) ![0, o] ![1024, n] inb) (ix2 k j) : EReal)) j = proj H Wm c := by
  rw [proj_of _ _ c hc]
  unfold lin
  refine Finset.sum_congr rfl fun k _ => ?_
  rw [hh k]
  exact congrArg (H k * ·) ((ld_cols (Val := Elt Ideal) (ty := .bf16) X inb k j hj).trans (hX k))

/-- What a grid point's blocks hold for its row `R`: the token's normalised activations, the weights' columns, and the position's cosines and sines. -/
structure Blocks (x0 : FVec Ideal S1x256x1024 .f32) (x1 : FVec Ideal S1x1024 .f32) (x2 : FVec Ideal S1024x4352 .bf16) (x3 : FVec Ideal S1024x640 .bf16)
    (x4 : FVec Ideal S1024x2048 .bf16) (x5 x6 x7 : FVec Ideal S256x128 .f32) (R : Fin 256) (H : Fin 1024 → EReal) (Wm : Fin 1024 → Fin 6960 → EReal)
    (C S : Fin 32 → EReal) : Prop where
  act : ∀ e, rms (fun k => x0 (ix3 0 R k)) (fun k => x1 (ix2 0 k)) e = H e
  heads : ∀ (k : Fin 1024) (f : Fin 4352), x2 (ix2 k f) = Wm k ⟨f, by omega⟩
  keys : ∀ (k : Fin 1024) (f : Fin 256), x3 (ix2 k ⟨f, by omega⟩) = Wm k ⟨midCol 4352 f, by unfold midCol; omega⟩
  values : ∀ (k : Fin 1024) (f : Fin 256), x3 (ix2 k ⟨256 + f, by omega⟩) = Wm k ⟨midCol 4480 f, by unfold midCol; omega⟩
  branches : ∀ (k : Fin 1024) (f : Fin 128), x3 (ix2 k ⟨512 + f, by omega⟩) = if h : f.val < 48 then Wm k ⟨4864 + f, by omega⟩ else 0
  gates : ∀ (k : Fin 1024) (f : Fin 2048), x4 (ix2 k f) = Wm k ⟨4912 + f, by omega⟩
  cos : ∀ x : Fin 128, x5 (ix2 R x) = C ⟨x.val % 32, Nat.mod_lt _ (by decide)⟩
  sinA : ∀ x : Fin 128, x6 (ix2 R x) = if x.val % 64 < 32 then -S ⟨x.val % 32, Nat.mod_lt _ (by decide)⟩ else 0
  sinB : ∀ x : Fin 128, x7 (ix2 R x) = if x.val % 64 < 32 then 0 else S ⟨x.val % 32, Nat.mod_lt _ (by decide)⟩

variable {x0 : FVec Ideal S1x256x1024 .f32} {x1 : FVec Ideal S1x1024 .f32} {x2 : FVec Ideal S1024x4352 .bf16} {x3 : FVec Ideal S1024x640 .bf16}
  {x4 : FVec Ideal S1024x2048 .bf16} {x5 x6 x7 : FVec Ideal S256x128 .f32} {R : Fin 256} {H : Fin 1024 → EReal} {Wm : Fin 1024 → Fin 6960 → EReal}
  {C S : Fin 32 → EReal} (B : Blocks x0 x1 x2 x3 x4 x5 x6 x7 R H Wm C S)
include B

/-- The normalised activations of the row. -/
theorem Blocks.hid (k : Fin 1024) : k0_pay4 (F := Ideal) x0 x1 (ix2 R k) = H k := (pay4_at x0 x1 R k).trans (B.act k)

/-- The cosines the body uses. -/
theorem Blocks.cos' (x : Fin 128) : k0_pay5 (F := Ideal) x5 (ix2 R x) = C ⟨x.val % 32, Nat.mod_lt _ (by decide)⟩ := by
  rw [← B.cos x]
  pointwise [k0_pay5]

/-- The sines the body uses where it rolls one way. -/
theorem Blocks.sinA' (x : Fin 128) : k0_pay6 (F := Ideal) x6 (ix2 R x) = if x.val % 64 < 32 then -S ⟨x.val % 32, Nat.mod_lt _ (by decide)⟩ else 0 := by
  rw [← B.sinA x]
  pointwise [k0_pay6]

/-- The sines the body uses where it rolls the other way. -/
theorem Blocks.sinB' (x : Fin 128) : k0_pay7 (F := Ideal) x7 (ix2 R x) = if x.val % 64 < 32 then 0 else S ⟨x.val % 32, Nat.mod_lt _ (by decide)⟩ := by
  rw [← B.sinB x]
  pointwise [k0_pay7]

/-- A product with the heads' columns. -/
theorem Blocks.head {o n : ℕ} (inb : ∀ a, (![0, o] : Fin 2 → ℕ) a + (![1024, n] : Fin 2 → ℕ) a ≤ S1024x4352.size a) (j : Fin n) (c : ℕ) (hc : c = o + j) (hj : o + j < 4352) :
    lin (fun k => k0_pay4 (F := Ideal) x0 x1 (ix2 R k)) (fun k j => (View.ld (Val := Elt Ideal) (e' := .bf16) x2 (Rect.unit (s := S1024x4352) ![0, o] ![1024, n] inb) (ix2 k j) : EReal)) j
      = proj H Wm c := by
  subst hc
  exact lin_ld B.hid x2 inb j hj (o + j) (by omega) fun k => B.heads k ⟨o + j, hj⟩

/-- A product with the gates' columns. -/
theorem Blocks.gate {o n : ℕ} (inb : ∀ a, (![0, o] : Fin 2 → ℕ) a + (![1024, n] : Fin 2 → ℕ) a ≤ S1024x2048.size a) (j : Fin n) (c : ℕ) (hc : c = 4912 + (o + j)) (hj : o + j < 2048) :
    lin (fun k => k0_pay4 (F := Ideal) x0 x1 (ix2 R k)) (fun k j => (View.ld (Val := Elt Ideal) (e' := .bf16) x4 (Rect.unit (s := S1024x2048) ![0, o] ![1024, n] inb) (ix2 k j) : EReal)) j
      = proj H Wm c := by
  subst hc
  exact lin_ld B.hid x4 inb j hj (4912 + (o + j)) (by omega) fun k => B.gates k ⟨o + j, hj⟩

/-- The scaled rotated queries. -/
theorem Blocks.out8 (c : Fin 1024) : (out0_8 (F := Ideal) x0 x1 x2 x3 x4 x5 x6 x7 : FVec Ideal S1x256x1024 .bf16) (ix3 0 R c) = turned (fun n => proj H Wm (0 + n)) C S c * Ideal.ofBits .f32 0x3E38AA3B#32 := by
  unfold out0_8 k0_pay54 k0_pay55 k0_pay56 k0_pay57
  simp (disch := decide) only [View.ld_unit_lit']
  refine canon_two (e := .bf16) _ _ (fun n => turned (fun n => proj H Wm (0 + n)) C S n * Ideal.ofBits .f32 0x3E38AA3B#32) R (fun j => ?_) (fun j => ?_) c
  · rw [pay13_eq]
    exact ropeScaled_at _ _ _ R C S (fun n => proj H Wm (0 + n)) _ _ B.cos' B.sinA' B.sinB' (fun j => B.head (o := 0) _ j _ (by show 0 + j.val = 0 + j.val; omega) (by omega)) j
  · rw [pay32_eq]
    refine (ropeScaled_at _ _ _ R C S (fun n => proj H Wm (0 + (512 + n))) _ _ B.cos' B.sinA' B.sinB' (fun j => B.head (o := 512) _ j _ (by show 0 + (512 + j.val) = 512 + j.val; omega) (by omega)) j).trans ?_
    rw [turned_shift (fun n => proj H Wm (0 + n)) C S 512 j (by decide)]

/-- The rotated keys. -/
theorem Blocks.out9 (c : Fin 1024) : (out0_9 (F := Ideal) x0 x1 x2 x3 x4 x5 x6 x7 : FVec Ideal S1x256x1024 .bf16) (ix3 0 R c) = turned (fun n => proj H Wm (1024 + n)) C S c := by
  unfold out0_9 k0_pay54 k0_pay55 k0_pay56 k0_pay57
  simp (disch := decide) only [View.ld_unit_lit']
  refine canon_two (e := .bf16) _ _ (fun n => turned (fun n => proj H Wm (1024 + n)) C S n) R (fun j => ?_) (fun j => ?_) c
  · rw [pay18_eq]
    exact ropePlain_at _ _ _ R C S (fun n => proj H Wm (1024 + n)) _ _ B.cos' B.sinA' B.sinB' (fun j => B.head (o := 1024) _ j _ (by show 1024 + j.val = 1024 + j.val; omega) (by omega)) j
  · rw [pay39_eq]
    refine (ropePlain_at _ _ _ R C S (fun n => proj H Wm (1024 + (512 + n))) _ _ B.cos' B.sinA' B.sinB' (fun j => B.head (o := 1536) _ j _ (by show 1024 + (512 + j.val) = 1536 + j.val; omega) (by omega)) j).trans ?_
    rw [turned_shift (fun n => proj H Wm (1024 + n)) C S 512 j (by decide)]

/-- The values. -/
theorem Blocks.out10 (c : Fin 1024) : (out0_10 (F := Ideal) x0 x1 x2 x3 x4 x5 x6 x7 : FVec Ideal S1x256x1024 .bf16) (ix3 0 R c) = proj H Wm (2048 + c) := by
  unfold out0_10 k0_pay54
  simp (disch := decide) only [View.ld_unit_lit']
  refine canon_two (e := .bf16) _ _ (fun n => proj H Wm (2048 + n)) R (fun j => ?_) (fun j => ?_) c
  · exact (pay19_at R _ _ j).trans (B.head (o := 2048) _ j _ (by omega) (by omega))
  · exact (pay40_at R _ _ j).trans (B.head (o := 2560) _ j _ (by omega) (by omega))

/-- The scaled rotated queries of sparse attention. -/
theorem Blocks.out11 (c : Fin 1024) : (out0_11 (F := Ideal) x0 x1 x2 x3 x4 x5 x6 x7 : FVec Ideal S1x256x1024 .bf16) (ix3 0 R c) = turned (fun n => proj H Wm (3072 + n)) C S c * Ideal.ofBits .f32 0x3E38AA3B#32 := by
  unfold out0_11 k0_pay54 k0_pay55 k0_pay56 k0_pay57
  simp (disch := decide) only [View.ld_unit_lit']
  refine canon_two (e := .bf16) _ _ (fun n => turned (fun n => proj H Wm (3072 + n)) C S n * Ideal.ofBits .f32 0x3E38AA3B#32) R (fun j => ?_) (fun j => ?_) c
  · rw [pay23_eq]
    exact ropeScaled_at _ _ _ R C S (fun n => proj H Wm (3072 + n)) _ _ B.cos' B.sinA' B.sinB' (fun j => B.head (o := 3072) _ j _ (by show 3072 + j.val = 3072 + j.val; omega) (by omega)) j
  · rw [pay46_eq]
    refine (ropeScaled_at _ _ _ R C S (fun n => proj H Wm (3072 + (512 + n))) _ _ B.cos' B.sinA' B.sinB' (fun j => B.head (o := 3584) _ j _ (by show 3072 + (512 + j.val) = 3584 + j.val; omega) (by omega)) j).trans ?_
    rw [turned_shift (fun n => proj H Wm (3072 + n)) C S 512 j (by decide)]

/-- The scaled queries of sparse attention. -/
theorem Blocks.out12 (c : Fin 1024) : (out0_12 (F := Ideal) x0 x1 x2 x3 x4 x5 x6 x7 : FVec Ideal S1x256x1024 .bf16) (ix3 0 R c) = proj H Wm (3072 + c) * Ideal.ofBits .f32 0x3E38AA3B#32 := by
  unfold out0_12 k0_pay54
  simp (disch := decide) only [View.ld_unit_lit']
  refine canon_two (e := .bf16) _ _ (fun n => proj H Wm (3072 + n) * Ideal.ofBits .f32 0x3E38AA3B#32) R (fun j => ?_) (fun j => ?_) c
  · exact (pay22_at R _ _ j).trans (congrArg (· * _) (B.head (o := 3072) _ j _ (by omega) (by omega)))
  · exact (pay42_at R _ _ j).trans (congrArg (· * _) (B.head (o := 3584) _ j _ (by omega) (by omega)))

/-- The keys to be compressed. -/
theorem Blocks.out13 (c : Fin 128) : (out0_13 (F := Ideal) x0 x1 x2 x3 x4 x5 x6 x7 : FVec Ideal S1x256x128 .f32) (ix3 0 R c) = proj H Wm (4096 + c) := by
  unfold out0_13 k0_pay54
  simp (disch := decide) only [View.canon_cons_unit_lit', View.ld_unit_lit']
  exact (pay51_at R _ _ c).trans (B.head (o := 4096) _ ⟨c, by omega⟩ _ rfl (by show 4096 + c.val < 4352; omega))
/-- The values to be compressed. -/
theorem Blocks.out14 (c : Fin 128) : (out0_14 (F := Ideal) x0 x1 x2 x3 x4 x5 x6 x7 : FVec Ideal S1x256x128 .f32) (ix3 0 R c) = proj H Wm (4224 + c) := by
  unfold out0_14 k0_pay54
  simp (disch := decide) only [View.canon_cons_unit_lit', View.ld_unit_lit']
  exact (pay52_at R _ _ c).trans (B.head (o := 4096) _ ⟨128 + c, by omega⟩ _ (by show 4224 + c.val = 4096 + (128 + c.val); omega) (by show 4096 + (128 + c.val) < 4352; omega))
/-- The rotated keys of the selected and of the near blocks. -/
theorem Blocks.out15 (c : Fin 256) : (out0_15 (F := Ideal) x0 x1 x2 x3 x4 x5 x6 x7 : FVec Ideal S1x256x256 .bf16) (ix3 0 R c) = turned (fun n => proj H Wm (midCol 4352 n)) C S c := by
  unfold out0_15 k0_pay54 k0_pay55 k0_pay56 k0_pay57
  simp (disch := decide) only [View.canon_cons_unit_lit', View.ld_unit_lit']
  exact pay53_at _ _ _ R C S (fun n => proj H Wm (midCol 4352 n)) _ _ B.cos' B.sinA' B.sinB' (fun j =>
    lin_ld (o := 0) B.hid x3 _ j (by omega) (midCol 4352 j) (by unfold midCol; omega) fun k =>
      (congrArg (fun f => x3 (ix2 k f)) (Fin.ext (by show 0 + j.val = j.val; omega))).trans (B.keys k j)) c
/-- The values of the selected and of the near blocks. -/
theorem Blocks.out16 (c : Fin 256) : (out0_16 (F := Ideal) x0 x1 x2 x3 x4 x5 x6 x7 : FVec Ideal S1x256x256 .bf16) (ix3 0 R c) = proj H Wm (midCol 4480 c) := by
  unfold out0_16 k0_pay54
  simp (disch := decide) only [View.canon_cons_unit_lit', View.ld_unit_lit']
  exact (pay2_at R _ _ c).trans (lin_ld (o := 256) B.hid x3 _ c (by omega) (midCol 4480 c) (by unfold midCol; omega) fun k => B.values k c)
/-- The gates of the three branches. -/
theorem Blocks.out17 (c : Fin 128) : (out0_17 (F := Ideal) x0 x1 x2 x3 x4 x5 x6 x7 : FVec Ideal S1x256x128 .f32) (ix3 0 R c) = Ideal.logistic (if c.val < 48 then proj H Wm (4864 + c) else 0) := by
  unfold out0_17 k0_pay54
  simp (disch := decide) only [View.canon_cons_unit_lit', View.ld_unit_lit']
  refine (pay3_at R _ _ c).trans (congrArg Ideal.logistic ?_)
  by_cases h : c.val < 48
  · rw [if_pos h]
    exact lin_ld (o := 512) B.hid x3 _ c (by omega) (4864 + c) (by omega) fun k => (B.branches k c).trans (dif_pos h)
  · rw [if_neg h]
    refine Finset.sum_eq_zero fun k _ => ?_
    refine (congrArg (_ * ·) ((ld_cols (Val := Elt Ideal) (ty := .bf16) (o := 512) x3 _ k c (by omega)).trans ((B.branches k c).trans (dif_neg h)))).trans ?_
    exact mul_zero _
/-- The gate of differential attention. -/
theorem Blocks.out18 (c : Fin 1024) : (out0_18 (F := Ideal) x0 x1 x2 x3 x4 x5 x6 x7 : FVec Ideal S1x256x1024 .f32) (ix3 0 R c) = Ideal.logistic (proj H Wm (4912 + c)) := by
  unfold out0_18 k0_pay54
  simp (disch := decide) only [View.ld_unit_lit']
  refine canon_two (e := .f32) _ _ (fun n => Ideal.logistic (proj H Wm (4912 + n))) R (fun j => ?_) (fun j => ?_) c
  · exact (pay25_at R _ _ j).trans (congrArg Ideal.logistic (B.gate (o := 0) _ j _ (by omega) (by omega)))
  · exact (pay47_at R _ _ j).trans (congrArg Ideal.logistic (B.gate (o := 512) _ j _ (by omega) (by omega)))

/-- The gate of sparse attention. -/
theorem Blocks.out19 (c : Fin 1024) : (out0_19 (F := Ideal) x0 x1 x2 x3 x4 x5 x6 x7 : FVec Ideal S1x256x1024 .f32) (ix3 0 R c) = Ideal.logistic (proj H Wm (5936 + c)) := by
  unfold out0_19 k0_pay54
  simp (disch := decide) only [View.ld_unit_lit']
  refine canon_two (e := .f32) _ _ (fun n => Ideal.logistic (proj H Wm (5936 + n))) R (fun j => ?_) (fun j => ?_) c
  · exact (pay26_at R _ _ j).trans (congrArg Ideal.logistic (B.gate (o := 1024) _ j _ (by omega) (by omega)))
  · exact (pay49_at R _ _ j).trans (congrArg Ideal.logistic (B.gate (o := 1536) _ j _ (by omega) (by omega)))

end Cert.InProjIdeal.Tile

end
-- ==== Proof.InProjBlocks.lean ====
module

public import proofs.«01_k».proof.Proof.InProjCols
public import proofs.«01_k».proof.Proof.InProjOut
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.InProjRefIdeal.Stage (cosT sinT)
open Cert.Layer (rms lin proj proj_of turned turned_shift midCol)

variable (m : (ℓ : Loc nD τ sig) → Buf (Elt Ideal) ℓ)

/-- The windows' block indices at every grid point. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![t.val % 8, 0] ∧ win0_6.index t = ![t.val % 8, 0]
    ∧ win0_7.index t = ![t.val % 8, 0] ∧ win0_8.index t = ![t.val / 8, t.val % 8, 0] ∧ win0_9.index t = ![t.val / 8, t.val % 8, 0] ∧ win0_10.index t = ![t.val / 8, t.val % 8, 0] ∧ win0_11.index t = ![t.val / 8, t.val % 8, 0] ∧ win0_12.index t = ![t.val / 8, t.val % 8, 0] ∧ win0_13.index t = ![t.val / 8, t.val % 8, 0] ∧ win0_14.index t = ![t.val / 8, t.val % 8, 0] ∧ win0_15.index t = ![t.val / 8, t.val % 8, 0] ∧ win0_16.index t = ![t.val / 8, t.val % 8, 0] ∧ win0_17.index t = ![t.val / 8, t.val % 8, 0] ∧ win0_18.index t = ![t.val / 8, t.val % 8, 0] ∧ win0_19.index t = ![t.val / 8, t.val % 8, 0] :=
  (by decide +kernel : ∀ t : Fin grid0.N, _)

/-- The grid has eight points per sequence. -/
theorem points (t : Fin cfg0.N) : t.val < 256 := t.isLt

/-- A token's activations at a grid point. -/
theorem blk0 (c : Dev nD) (t : Fin cfg0.N) (R : Fin 256) (k : Fin 1024) :
    (iblk m c 0 t : FVec Ideal S1x256x1024 .f32) (ix3 0 R k) = (m ((c : Thread nD τ).loc main_arg0) : FVec Ideal S32x2048x1024 .f32)
      (ix3 ⟨t.val / 8, by have := points t; omega⟩ ⟨t.val % 8 * 256 + R, by omega⟩ k) := by
  blk_point [iblk, V, idx t]

/-- The gain at a grid point. -/
theorem blk1 (c : Dev nD) (t : Fin cfg0.N) (k : Fin 1024) : (iblk m c 1 t : FVec Ideal S1x1024 .f32) (ix2 0 k) = (V m c main_v34 : FVec Ideal S1x1024 .f32) (ix2 0 k) := by
  refine congrArg (V m c main_v34 : FVec Ideal S1x1024 .f32) ?_
  blk_ext [idx t]

/-- The heads' weights at a grid point. -/
theorem blk2 (c : Dev nD) (t : Fin cfg0.N) (k : Fin 1024) (f : Fin 4352) : (iblk m c 2 t : FVec Ideal S1024x4352 .bf16) (ix2 k f) = (V m c main_v49 : FVec Ideal S1024x4352 .bf16) (ix2 k f) := by
  refine congrArg (V m c main_v49 : FVec Ideal S1024x4352 .bf16) ?_
  blk_ext [idx t]

/-- The middle weights at a grid point. -/
theorem blk3 (c : Dev nD) (t : Fin cfg0.N) (k : Fin 1024) (f : Fin 640) : (iblk m c 3 t : FVec Ideal S1024x640 .bf16) (ix2 k f) = (V m c main_v50 : FVec Ideal S1024x640 .bf16) (ix2 k f) := by
  refine congrArg (V m c main_v50 : FVec Ideal S1024x640 .bf16) ?_
  blk_ext [idx t]

/-- The gates' weights at a grid point. -/
theorem blk4 (c : Dev nD) (t : Fin cfg0.N) (k : Fin 1024) (f : Fin 2048) : (iblk m c 4 t : FVec Ideal S1024x2048 .bf16) (ix2 k f) = (V m c main_v52 : FVec Ideal S1024x2048 .bf16) (ix2 k f) := by
  refine congrArg (V m c main_v52 : FVec Ideal S1024x2048 .bf16) ?_
  blk_ext [idx t]

/-- The cosines at a grid point. -/
theorem blk5 (c : Dev nD) (t : Fin cfg0.N) (R : Fin 256) (x : Fin 128) : (iblk m c 5 t : FVec Ideal S256x128 .f32) (ix2 R x) = (V m c main_v24 : FVec Ideal S2048x128 .f32) (ix2 ⟨t.val % 8 * 256 + R, by omega⟩ x) := by
  refine congrArg (V m c main_v24 : FVec Ideal S2048x128 .f32) ?_
  blk_ext [idx t]

/-- The sines for one roll at a grid point. -/
theorem blk6 (c : Dev nD) (t : Fin cfg0.N) (R : Fin 256) (x : Fin 128) : (iblk m c 6 t : FVec Ideal S256x128 .f32) (ix2 R x) = (V m c main_v29 : FVec Ideal S2048x128 .f32) (ix2 ⟨t.val % 8 * 256 + R, by omega⟩ x) := by
  refine congrArg (V m c main_v29 : FVec Ideal S2048x128 .f32) ?_
  blk_ext [idx t]

/-- The sines for the other roll at a grid point. -/
theorem blk7 (c : Dev nD) (t : Fin cfg0.N) (R : Fin 256) (x : Fin 128) : (iblk m c 7 t : FVec Ideal S256x128 .f32) (ix2 R x) = (V m c main_v33 : FVec Ideal S2048x128 .f32) (ix2 ⟨t.val % 8 * 256 + R, by omega⟩ x) := by
  refine congrArg (V m c main_v33 : FVec Ideal S2048x128 .f32) ?_
  blk_ext [idx t]

/-- What the blocks of a grid point hold. -/
theorem blocks (c : Dev nD) (t : Fin cfg0.N) (R : Fin 256) :
    Blocks (iblk m c 0 t) (iblk m c 1 t) (iblk m c 2 t) (iblk m c 3 t) (iblk m c 4 t) (iblk m c 5 t) (iblk m c 6 t) (iblk m c 7 t) R
      (rms (fun k => (m ((c : Thread nD τ).loc main_arg0) : FVec Ideal S32x2048x1024 .f32) (ix3 ⟨t.val / 8, by have := points t; omega⟩ ⟨t.val % 8 * 256 + R, by omega⟩ k)) (fun k => (m ((c : Thread nD τ).loc main_arg1) : FVec Ideal S1x1024 .f32) (ix2 0 k))) (fun k f => (m ((c : Thread nD τ).loc main_arg2) : FVec Ideal S1x1024x6960 .f32) (ix3 0 k f))
      (fun u => cosT (ix2 ⟨t.val % 8 * 256 + R, by omega⟩ u)) (fun u => sinT (ix2 ⟨t.val % 8 * 256 + R, by omega⟩ u)) where
  act e := by
    have hg : ∀ k : Fin 1024, (iblk m c 1 t : FVec Ideal S1x1024 .f32) (ix2 0 k) = (m ((c : Thread nD τ).loc main_arg1) : FVec Ideal S1x1024 .f32) (ix2 0 k) := by
      intro k
      rw [blk1, V34]
      pointwise
    simp only [blk0, hg]
  heads k f := by
    rw [blk2, V49]
    refine Eq.trans ?_ (flat_at _ k ⟨f, by omega⟩)
    pointwise
  keys k f := by
    rw [blk3, V50]
    exact (mid_keys _ k f).trans (keyCols_at _ k f)
  values k f := by
    rw [blk3, V50]
    exact (mid_values _ k f).trans (valueCols_at _ k f)
  branches k f := by
    rw [blk3, V50]
    exact (mid_branches _ k f).trans (branchCols_at _ k f)
  gates k f := by
    rw [blk4, V52]
    refine Eq.trans ?_ (flat_at _ k ⟨4912 + f, by omega⟩)
    pointwise
  cos x := by
    rw [blk5, V24]
    exact tabC_at _ x
  sinA x := by
    rw [blk6, V29]
    exact tabA_at _ x
  sinB x := by
    rw [blk7, V33]
    exact tabB_at _ x

end Cert.InProjIdeal.Tile

end
-- ==== Proof.InProjFinal.lean ====
module

public import proofs.«01_k».proof.Proof.InProjBlocks
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen
open Cert.InProjRefIdeal.Stage (cosT sinT)
open Cert.Layer (rms lin proj proj_of turned turned_shift midCol)

variable (m : (ℓ : Loc nD τ sig) → Buf (Elt Ideal) ℓ)

/-- Where a grid point's block of the scaled rotated queries lies. -/
theorem emb8 (t : Fin cfg0.N) (y : S1x256x1024.Idx) : (((View.whole main_v53_0).slice (win0_8.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The scaled rotated queries after the run. -/
theorem final8 (c : Dev nD) : (dats m 0 c).arrAt 8 (cfgs 0).N = Cert.InProjRefIdeal.Stage.q (m ((c : Thread nD τ).loc main_arg0)) (m ((c : Thread nD τ).loc main_arg1)) (m ((c : Thread nD τ).loc main_arg2)) := by
  refine (dats m 0 c).arrAt_eq_of_covers 8 _ (by decide +kernel) fun t _ z => ?_
  blk_simp
  rw [after0_8]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out8 e).trans ?_
  refine Eq.trans ?_ (congrArg (Cert.InProjRefIdeal.Stage.q (m ((c : Thread nD τ).loc main_arg0)) (m ((c : Thread nD τ).loc main_arg1)) (m ((c : Thread nD τ).loc main_arg2))) (emb8 t (ix3 0 R e)).symm)
  exact (Cert.InProjRefIdeal.Stage.q_at _ _ _ _ _ e).symm

/-- Where a grid point's block of the rotated keys lies. -/
theorem emb9 (t : Fin cfg0.N) (y : S1x256x1024.Idx) : (((View.whole main_v53_1).slice (win0_9.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The rotated keys after the run. -/
theorem final9 (c : Dev nD) : (dats m 0 c).arrAt 9 (cfgs 0).N = Cert.InProjRefIdeal.Stage.k (m ((c : Thread nD τ).loc main_arg0)) (m ((c : Thread nD τ).loc main_arg1)) (m ((c : Thread nD τ).loc main_arg2)) := by
  refine (dats m 0 c).arrAt_eq_of_covers 9 _ (by decide +kernel) fun t _ z => ?_
  blk_simp
  rw [after0_9]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out9 e).trans ?_
  refine Eq.trans ?_ (congrArg (Cert.InProjRefIdeal.Stage.k (m ((c : Thread nD τ).loc main_arg0)) (m ((c : Thread nD τ).loc main_arg1)) (m ((c : Thread nD τ).loc main_arg2))) (emb9 t (ix3 0 R e)).symm)
  exact (Cert.InProjRefIdeal.Stage.k_at _ _ _ _ _ e).symm

/-- Where a grid point's block of the values lies. -/
theorem emb10 (t : Fin cfg0.N) (y : S1x256x1024.Idx) : (((View.whole main_v53_2).slice (win0_10.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The values after the run. -/
theorem final10 (c : Dev nD) : (dats m 0 c).arrAt 10 (cfgs 0).N = Cert.InProjRefIdeal.Stage.v (m ((c : Thread nD τ).loc main_arg0)) (m ((c : Thread nD τ).loc main_arg1)) (m ((c : Thread nD τ).loc main_arg2)) := by
  refine (dats m 0 c).arrAt_eq_of_covers 10 _ (by decide +kernel) fun t _ z => ?_
  blk_simp
  rw [after0_10]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out10 e).trans ?_
  refine Eq.trans ?_ (congrArg (Cert.InProjRefIdeal.Stage.v (m ((c : Thread nD τ).loc main_arg0)) (m ((c : Thread nD τ).loc main_arg1)) (m ((c : Thread nD τ).loc main_arg2))) (emb10 t (ix3 0 R e)).symm)
  exact (Cert.InProjRefIdeal.Stage.v_at _ _ _ _ _ e).symm

/-- Where a grid point's block of the scaled rotated queries of sparse attention lies. -/
theorem emb11 (t : Fin cfg0.N) (y : S1x256x1024.Idx) : (((View.whole main_v53_3).slice (win0_11.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The scaled rotated queries of sparse attention after the run. -/
theorem final11 (c : Dev nD) : (dats m 0 c).arrAt 11 (cfgs 0).N = Cert.InProjRefIdeal.Stage.qr (m ((c : Thread nD τ).loc main_arg0)) (m ((c : Thread nD τ).loc main_arg1)) (m ((c : Thread nD τ).loc main_arg2)) := by
  refine (dats m 0 c).arrAt_eq_of_covers 11 _ (by decide +kernel) fun t _ z => ?_
  blk_simp
  rw [after0_11]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out11 e).trans ?_
  refine Eq.trans ?_ (congrArg (Cert.InProjRefIdeal.Stage.qr (m ((c : Thread nD τ).loc main_arg0)) (m ((c : Thread nD τ).loc main_arg1)) (m ((c : Thread nD τ).loc main_arg2))) (emb11 t (ix3 0 R e)).symm)
  exact (Cert.InProjRefIdeal.Stage.qr_at _ _ _ _ _ e).symm

/-- Where a grid point's block of the scaled queries of sparse attention lies. -/
theorem emb12 (t : Fin cfg0.N) (y : S1x256x1024.Idx) : (((View.whole main_v53_4).slice (win0_12.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The scaled queries of sparse attention after the run. -/
theorem final12 (c : Dev nD) : (dats m 0 c).arrAt 12 (cfgs 0).N = Cert.InProjRefIdeal.Stage.qc (m ((c : Thread nD τ).loc main_arg0)) (m ((c : Thread nD τ).loc main_arg1)) (m ((c : Thread nD τ).loc main_arg2)) := by
  refine (dats m 0 c).arrAt_eq_of_covers 12 _ (by decide +kernel) fun t _ z => ?_
  blk_simp
  rw [after0_12]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out12 e).trans ?_
  refine Eq.trans ?_ (congrArg (Cert.InProjRefIdeal.Stage.qc (m ((c : Thread nD τ).loc main_arg0)) (m ((c : Thread nD τ).loc main_arg1)) (m ((c : Thread nD τ).loc main_arg2))) (emb12 t (ix3 0 R e)).symm)
  exact (Cert.InProjRefIdeal.Stage.qc_at _ _ _ _ _ e).symm

/-- Where a grid point's block of the keys to be compressed lies. -/
theorem emb13 (t : Fin cfg0.N) (y : S1x256x128.Idx) : (((View.whole main_v53_5).slice (win0_13.rect t)).emb y : S32x2048x128.Idx) =
    ix3 ⟨t.val / 8, by have := points t; omega⟩ ⟨t.val % 8 * 256 + (y 1).val, by have : (y 1).val < 256 := (y 1).isLt; omega⟩ (y 2) := by
  blk_ext [idx t]

/-- The keys to be compressed after the run. -/
theorem final13 (c : Dev nD) : (dats m 0 c).arrAt 13 (cfgs 0).N = Cert.InProjRefIdeal.Stage.kc (m ((c : Thread nD τ).loc main_arg0)) (m ((c : Thread nD τ).loc main_arg1)) (m ((c : Thread nD τ).loc main_arg2)) := by
  refine (dats m 0 c).arrAt_eq_of_covers 13 _ (by decide +kernel) fun t _ z => ?_
  blk_simp
  rw [after0_13]
  obtain ⟨R, e, rfl⟩ : ∃ (R : Fin 256) (e : Fin 128), z = ix3 0 R e := ⟨z 1, z 2, by
    refine (eq_ix3 z).trans ?_
    congr 1
    exact Fin.ext (by have : (z 0).val < 1 := (z 0).isLt; show (z 0).val = 0; omega)⟩
  refine ((blocks m c t R).out13 e).trans ?_
  refine Eq.trans ?_ (congrArg (Cert.InProjRefIdeal.Stage.kc (m ((c : Thread nD τ).loc main_arg0)) (m ((c : Thread nD τ).loc main_arg1)) (m ((c : Thread nD τ).loc main_arg2))) (emb13 t (ix3 0 R e)).symm)
  exact (Cert.InProjRefIdeal.Stage.kc_at _ _ _ _ _ e).symm

/-- Where a grid point's block of the values to be compressed lies. -/
theorem emb14 (t : Fin cfg0.N) (y : S1x256x128.Idx) : (((View.whole main_v53_6).slice (win0_14.rect t)).emb y : S32x2048x128.Idx) =
    ix3 ⟨t.val / 8, by have := points t; omega⟩ ⟨t.val % 8 * 256 + (y 1).val, by have : (y 1).val < 256 := (y 1).isLt; omega⟩ (y 2) := by
  blk_ext [idx t]

/-- The values to be compressed after the run. -/
theorem final14 (c : Dev nD) : (dats m 0 c).arrAt 14 (cfgs 0).N = Cert.InProjRefIdeal.Stage.vc (m ((c : Thread nD τ).loc main_arg0)) (m ((c : Thread nD τ).loc main_arg1)) (m ((c : Thread nD τ).loc main_arg2)) := by
  refine (dats m 0 c).arrAt_eq_of_covers 14 _ (by decide +kernel) fun t _ z => ?_
  blk_simp
  rw [after0_14]
  obtain ⟨R, e, rfl⟩ : ∃ (R : Fin 256) (e : Fin 128), z = ix3 0 R e := ⟨z 1, z 2, by
    refine (eq_ix3 z).trans ?_
    congr 1
    exact Fin.ext (by have : (z 0).val < 1 := (z 0).isLt; show (z 0).val = 0; omega)⟩
  refine ((blocks m c t R).out14 e).trans ?_
  refine Eq.trans ?_ (congrArg (Cert.InProjRefIdeal.Stage.vc (m ((c : Thread nD τ).loc main_arg0)) (m ((c : Thread nD τ).loc main_arg1)) (m ((c : Thread nD τ).loc main_arg2))) (emb14 t (ix3 0 R e)).symm)
  exact (Cert.InProjRefIdeal.Stage.vc_at _ _ _ _ _ e).symm

/-- Where a grid point's block of the rotated keys of the selected and of the near blocks lies. -/
theorem emb15 (t : Fin cfg0.N) (y : S1x256x256.Idx) : (((View.whole main_v53_7).slice (win0_15.rect t)).emb y : S32x2048x256.Idx) =
    ix3 ⟨t.val / 8, by have := points t; omega⟩ ⟨t.val % 8 * 256 + (y 1).val, by have : (y 1).val < 256 := (y 1).isLt; omega⟩ (y 2) := by
  blk_ext [idx t]

/-- The rotated keys of the selected and of the near blocks after the run. -/
theorem final15 (c : Dev nD) : (dats m 0 c).arrAt 15 (cfgs 0).N = Cert.InProjRefIdeal.Stage.ksw (m ((c : Thread nD τ).loc main_arg0)) (m ((c : Thread nD τ).loc main_arg1)) (m ((c : Thread nD τ).loc main_arg2)) := by
  refine (dats m 0 c).arrAt_eq_of_covers 15 _ (by decide +kernel) fun t _ z => ?_
  blk_simp
  rw [after0_15]
  obtain ⟨R, e, rfl⟩ : ∃ (R : Fin 256) (e : Fin 256), z = ix3 0 R e := ⟨z 1, z 2, by
    refine (eq_ix3 z).trans ?_
    congr 1
    exact Fin.ext (by have : (z 0).val < 1 := (z 0).isLt; show (z 0).val = 0; omega)⟩
  refine ((blocks m c t R).out15 e).trans ?_
  refine Eq.trans ?_ (congrArg (Cert.InProjRefIdeal.Stage.ksw (m ((c : Thread nD τ).loc main_arg0)) (m ((c : Thread nD τ).loc main_arg1)) (m ((c : Thread nD τ).loc main_arg2))) (emb15 t (ix3 0 R e)).symm)
  exact (Cert.InProjRefIdeal.Stage.ksw_at _ _ _ _ _ e).symm

/-- Where a grid point's block of the values of the selected and of the near blocks lies. -/
theorem emb16 (t : Fin cfg0.N) (y : S1x256x256.Idx) : (((View.whole main_v53_8).slice (win0_16.rect t)).emb y : S32x2048x256.Idx) =
    ix3 ⟨t.val / 8, by have := points t; omega⟩ ⟨t.val % 8 * 256 + (y 1).val, by have : (y 1).val < 256 := (y 1).isLt; omega⟩ (y 2) := by
  blk_ext [idx t]

/-- The values of the selected and of the near blocks after the run. -/
theorem final16 (c : Dev nD) : (dats m 0 c).arrAt 16 (cfgs 0).N = Cert.InProjRefIdeal.Stage.vsw (m ((c : Thread nD τ).loc main_arg0)) (m ((c : Thread nD τ).loc main_arg1)) (m ((c : Thread nD τ).loc main_arg2)) := by
  refine (dats m 0 c).arrAt_eq_of_covers 16 _ (by decide +kernel) fun t _ z => ?_
  blk_simp
  rw [after0_16]
  obtain ⟨R, e, rfl⟩ : ∃ (R : Fin 256) (e : Fin 256), z = ix3 0 R e := ⟨z 1, z 2, by
    refine (eq_ix3 z).trans ?_
    congr 1
    exact Fin.ext (by have : (z 0).val < 1 := (z 0).isLt; show (z 0).val = 0; omega)⟩
  refine ((blocks m c t R).out16 e).trans ?_
  refine Eq.trans ?_ (congrArg (Cert.InProjRefIdeal.Stage.vsw (m ((c : Thread nD τ).loc main_arg0)) (m ((c : Thread nD τ).loc main_arg1)) (m ((c : Thread nD τ).loc main_arg2))) (emb16 t (ix3 0 R e)).symm)
  exact (Cert.InProjRefIdeal.Stage.vsw_at _ _ _ _ _ e).symm

/-- Where a grid point's block of the gates of the branches lies. -/
theorem emb17 (t : Fin cfg0.N) (y : S1x256x128.Idx) : (((View.whole main_v53_9).slice (win0_17.rect t)).emb y : S32x2048x128.Idx) =
    ix3 ⟨t.val / 8, by have := points t; omega⟩ ⟨t.val % 8 * 256 + (y 1).val, by have : (y 1).val < 256 := (y 1).isLt; omega⟩ (y 2) := by
  blk_ext [idx t]

/-- The gates of the branches after the run. -/
theorem final17 (c : Dev nD) : (dats m 0 c).arrAt 17 (cfgs 0).N = Cert.InProjRefIdeal.Stage.gns (m ((c : Thread nD τ).loc main_arg0)) (m ((c : Thread nD τ).loc main_arg1)) (m ((c : Thread nD τ).loc main_arg2)) := by
  refine (dats m 0 c).arrAt_eq_of_covers 17 _ (by decide +kernel) fun t _ z => ?_
  blk_simp
  rw [after0_17]
  obtain ⟨R, e, rfl⟩ : ∃ (R : Fin 256) (e : Fin 128), z = ix3 0 R e := ⟨z 1, z 2, by
    refine (eq_ix3 z).trans ?_
    congr 1
    exact Fin.ext (by have : (z 0).val < 1 := (z 0).isLt; show (z 0).val = 0; omega)⟩
  refine ((blocks m c t R).out17 e).trans ?_
  refine Eq.trans ?_ (congrArg (Cert.InProjRefIdeal.Stage.gns (m ((c : Thread nD τ).loc main_arg0)) (m ((c : Thread nD τ).loc main_arg1)) (m ((c : Thread nD τ).loc main_arg2))) (emb17 t (ix3 0 R e)).symm)
  exact (Cert.InProjRefIdeal.Stage.gns_at _ _ _ _ _ e).symm

/-- Where a grid point's block of the gate of differential attention lies. -/
theorem emb18 (t : Fin cfg0.N) (y : S1x256x1024.Idx) : (((View.whole main_v53_10).slice (win0_18.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The gate of differential attention after the run. -/
theorem final18 (c : Dev nD) : (dats m 0 c).arrAt 18 (cfgs 0).N = Cert.InProjRefIdeal.Stage.ga (m ((c : Thread nD τ).loc main_arg0)) (m ((c : Thread nD τ).loc main_arg1)) (m ((c : Thread nD τ).loc main_arg2)) := by
  refine (dats m 0 c).arrAt_eq_of_covers 18 _ (by decide +kernel) fun t _ z => ?_
  blk_simp
  rw [after0_18]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out18 e).trans ?_
  refine Eq.trans ?_ (congrArg (Cert.InProjRefIdeal.Stage.ga (m ((c : Thread nD τ).loc main_arg0)) (m ((c : Thread nD τ).loc main_arg1)) (m ((c : Thread nD τ).loc main_arg2))) (emb18 t (ix3 0 R e)).symm)
  exact (Cert.InProjRefIdeal.Stage.ga_at _ _ _ _ _ e).symm

/-- Where a grid point's block of the gate of sparse attention lies. -/
theorem emb19 (t : Fin cfg0.N) (y : S1x256x1024.Idx) : (((View.whole main_v53_11).slice (win0_19.rect t)).emb y : S32x2048x1024.Idx) =
    ix3 ⟨t.val / 8, by have := points t; omega⟩ ⟨t.val % 8 * 256 + (y 1).val, by have : (y 1).val < 256 := (y 1).isLt; omega⟩ (y 2) := by
  blk_ext [idx t]

/-- The gate of sparse attention after the run. -/
theorem final19 (c : Dev nD) : (dats m 0 c).arrAt 19 (cfgs 0).N = Cert.InProjRefIdeal.Stage.gb (m ((c : Thread nD τ).loc main_arg0)) (m ((c : Thread nD τ).loc main_arg1)) (m ((c : Thread nD τ).loc main_arg2)) := by
  refine (dats m 0 c).arrAt_eq_of_covers 19 _ (by decide +kernel) fun t _ z => ?_
  blk_simp
  rw [after0_19]
  obtain ⟨R, e, rfl⟩ : ∃ (R : Fin 256) (e : Fin 1024), z = ix3 0 R e := ⟨z 1, z 2, by
    refine (eq_ix3 z).trans ?_
    congr 1
    exact Fin.ext (by have : (z 0).val < 1 := (z 0).isLt; show (z 0).val = 0; omega)⟩
  refine ((blocks m c t R).out19 e).trans ?_
  refine Eq.trans ?_ (congrArg (Cert.InProjRefIdeal.Stage.gb (m ((c : Thread nD τ).loc main_arg0)) (m ((c : Thread nD τ).loc main_arg1)) (m ((c : Thread nD τ).loc main_arg2))) (emb19 t (ix3 0 R e)).symm)
  exact (Cert.InProjRefIdeal.Stage.gb_at _ _ _ _ _ e).symm

end Cert.InProjIdeal.Tile

end
-- ==== Proof.InProjKernelRun.lean ====
module

public import proofs.«01_k».proof.Proof.InProjFinal
public import proofs.«01_k».proof.Proof.Gen.InProjIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen Cert.InProjIdeal.Value
open Cert.InProjRefIdeal.Stage (cosT sinT)
open Cert.Layer (rms lin proj proj_of turned turned_shift midCol)

/-- The kernel's run ends with the reference's stages' results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53_0) = Cert.InProjRefIdeal.Stage.q (m ((c.tc : Thread nD τ).loc main_arg0)) (m ((c.tc : Thread nD τ).loc main_arg1)) (m ((c.tc : Thread nD τ).loc main_arg2))
      ∧ r.2.mem ((c.tc : Thread nD τ).loc main_v53_1) = Cert.InProjRefIdeal.Stage.k (m ((c.tc : Thread nD τ).loc main_arg0)) (m ((c.tc : Thread nD τ).loc main_arg1)) (m ((c.tc : Thread nD τ).loc main_arg2))
      ∧ r.2.mem ((c.tc : Thread nD τ).loc main_v53_2) = Cert.InProjRefIdeal.Stage.v (m ((c.tc : Thread nD τ).loc main_arg0)) (m ((c.tc : Thread nD τ).loc main_arg1)) (m ((c.tc : Thread nD τ).loc main_arg2))
      ∧ r.2.mem ((c.tc : Thread nD τ).loc main_v53_3) = Cert.InProjRefIdeal.Stage.qr (m ((c.tc : Thread nD τ).loc main_arg0)) (m ((c.tc : Thread nD τ).loc main_arg1)) (m ((c.tc : Thread nD τ).loc main_arg2))
      ∧ r.2.mem ((c.tc : Thread nD τ).loc main_v53_4) = Cert.InProjRefIdeal.Stage.qc (m ((c.tc : Thread nD τ).loc main_arg0)) (m ((c.tc : Thread nD τ).loc main_arg1)) (m ((c.tc : Thread nD τ).loc main_arg2))
      ∧ r.2.mem ((c.tc : Thread nD τ).loc main_v53_5) = Cert.InProjRefIdeal.Stage.kc (m ((c.tc : Thread nD τ).loc main_arg0)) (m ((c.tc : Thread nD τ).loc main_arg1)) (m ((c.tc : Thread nD τ).loc main_arg2))
      ∧ r.2.mem ((c.tc : Thread nD τ).loc main_v53_6) = Cert.InProjRefIdeal.Stage.vc (m ((c.tc : Thread nD τ).loc main_arg0)) (m ((c.tc : Thread nD τ).loc main_arg1)) (m ((c.tc : Thread nD τ).loc main_arg2))
      ∧ r.2.mem ((c.tc : Thread nD τ).loc main_v53_7) = Cert.InProjRefIdeal.Stage.ksw (m ((c.tc : Thread nD τ).loc main_arg0)) (m ((c.tc : Thread nD τ).loc main_arg1)) (m ((c.tc : Thread nD τ).loc main_arg2))
      ∧ r.2.mem ((c.tc : Thread nD τ).loc main_v53_8) = Cert.InProjRefIdeal.Stage.vsw (m ((c.tc : Thread nD τ).loc main_arg0)) (m ((c.tc : Thread nD τ).loc main_arg1)) (m ((c.tc : Thread nD τ).loc main_arg2))
      ∧ r.2.mem ((c.tc : Thread nD τ).loc main_v53_9) = Cert.InProjRefIdeal.Stage.gns (m ((c.tc : Thread nD τ).loc main_arg0)) (m ((c.tc : Thread nD τ).loc main_arg1)) (m ((c.tc : Thread nD τ).loc main_arg2))
      ∧ r.2.mem ((c.tc : Thread nD τ).loc main_v53_10) = Cert.InProjRefIdeal.Stage.ga (m ((c.tc : Thread nD τ).loc main_arg0)) (m ((c.tc : Thread nD τ).loc main_arg1)) (m ((c.tc : Thread nD τ).loc main_arg2))
      ∧ r.2.mem ((c.tc : Thread nD τ).loc main_v53_11) = Cert.InProjRefIdeal.Stage.gb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(post8 m r h c).trans (final8 m c), (post9 m r h c).trans (final9 m c), (post10 m r h c).trans (final10 m c), (post11 m r h c).trans (final11 m c), (post12 m r h c).trans (final12 m c), (post13 m r h c).trans (final13 m c), (post14 m r h c).trans (final14 m c), (post15 m r h c).trans (final15 m c), (post16 m r h c).trans (final16 m c), (post17 m r h c).trans (final17 m c), (post18 m r h c).trans (final18 m c), (post19 m r h c).trans (final19 m c), kept_main_arg0 m r h c, kept_main_arg1 m r h c, kept_main_arg2 m r h c⟩) (run_main m ρ)

end Cert.InProjIdeal.Tile

end
-- ==== Proof.InProjRun.lean ====
module

public import proofs.«01_k».proof.Proof.Gen.InProjRefIdeal.Run
public import proofs.«01_k».proof.Proof.InProjRef

@[expose] public section

set_option maxRecDepth 16384

noncomputable section

open Idealize.ShloMosaic Idealize.ShloMosaic.TcCoe Idealize.SL.Sem Idealize.ShloMosaic.StableHlo

namespace Cert.InProjRefIdeal.Stage

open Cert.InProjRefIdeal Cert.InProjRefIdeal.Gen
open Cert.Layer (rms lin proj proj_of turned turned_shift turned_halves turned_mid midCol ofBits_one)
open Cert.FfnRefIdeal.Stage (normed normed_at)

/-- The reference's run ends with its stages' results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = q (m ((c.tc : Thread nD τ).loc main_arg0)) (m ((c.tc : Thread nD τ).loc main_arg1)) (m ((c.tc : Thread nD τ).loc main_arg2))
      ∧ r.2.mem ((c.tc : Thread nD τ).loc main_v83) = k (m ((c.tc : Thread nD τ).loc main_arg0)) (m ((c.tc : Thread nD τ).loc main_arg1)) (m ((c.tc : Thread nD τ).loc main_arg2))
      ∧ r.2.mem ((c.tc : Thread nD τ).loc main_v84) = v (m ((c.tc : Thread nD τ).loc main_arg0)) (m ((c.tc : Thread nD τ).loc main_arg1)) (m ((c.tc : Thread nD τ).loc main_arg2))
      ∧ r.2.mem ((c.tc : Thread nD τ).loc main_v102) = qr (m ((c.tc : Thread nD τ).loc main_arg0)) (m ((c.tc : Thread nD τ).loc main_arg1)) (m ((c.tc : Thread nD τ).loc main_arg2))
      ∧ r.2.mem ((c.tc : Thread nD τ).loc main_v105) = qc (m ((c.tc : Thread nD τ).loc main_arg0)) (m ((c.tc : Thread nD τ).loc main_arg1)) (m ((c.tc : Thread nD τ).loc main_arg2))
      ∧ r.2.mem ((c.tc : Thread nD τ).loc main_v41) = kc (m ((c.tc : Thread nD τ).loc main_arg0)) (m ((c.tc : Thread nD τ).loc main_arg1)) (m ((c.tc : Thread nD τ).loc main_arg2))
      ∧ r.2.mem ((c.tc : Thread nD τ).loc main_v42) = vc (m ((c.tc : Thread nD τ).loc main_arg0)) (m ((c.tc : Thread nD τ).loc main_arg1)) (m ((c.tc : Thread nD τ).loc main_arg2))
      ∧ r.2.mem ((c.tc : Thread nD τ).loc main_v142) = ksw (m ((c.tc : Thread nD τ).loc main_arg0)) (m ((c.tc : Thread nD τ).loc main_arg1)) (m ((c.tc : Thread nD τ).loc main_arg2))
      ∧ r.2.mem ((c.tc : Thread nD τ).loc main_v149) = vsw (m ((c.tc : Thread nD τ).loc main_arg0)) (m ((c.tc : Thread nD τ).loc main_arg1)) (m ((c.tc : Thread nD τ).loc main_arg2))
      ∧ r.2.mem ((c.tc : Thread nD τ).loc main_v156) = gns (m ((c.tc : Thread nD τ).loc main_arg0)) (m ((c.tc : Thread nD τ).loc main_arg1)) (m ((c.tc : Thread nD τ).loc main_arg2))
      ∧ r.2.mem ((c.tc : Thread nD τ).loc main_v162) = ga (m ((c.tc : Thread nD τ).loc main_arg0)) (m ((c.tc : Thread nD τ).loc main_arg1)) (m ((c.tc : Thread nD τ).loc main_arg2))
      ∧ r.2.mem ((c.tc : Thread nD τ).loc main_v168) = gb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => by
    obtain ⟨h1, h2, h3, h4, h5, h6, h7, h8, h9, h10, h11, h12, ha⟩ := h c
    exact ⟨h1.trans rfl, h2.trans rfl, h3.trans rfl, h4.trans rfl, h5.trans rfl, h6.trans rfl, h7.trans rfl, h8.trans rfl, h9.trans rfl, h10.trans rfl, h11.trans rfl, h12.trans rfl, ha⟩) (Value.run m ρ)

end Cert.InProjRefIdeal.Stage

end
-- ==== Proof.Pooled.lean ====
module

public import proofs.«01_k».proof.Proof.Swiglu

@[expose] public section

set_option maxRecDepth 16384

noncomputable section

open Idealize.ShloMosaic Idealize.ShloMosaic.TcCoe Idealize.SL.Sem

namespace Cert.Layer

/-- The activation of the compression's hidden units, by the hyperbolic tangent. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * h * h)))))

/-- Entry `p` of block `n` of a group: dimension `p % 64` of the block's token `p / 64`, with the position's vector added. Block `n` begins at token `16 n`; the last one goes on with the first tokens. -/
def blockEntry (X : Fin 2048 → Fin 128 → EReal) (pos : Fin 32 → Fin 64 → EReal) (n : Fin 128) (g : Fin 2) (p : Fin 2048) : EReal :=
  X ⟨(n.val * 16 + p.val / 64) % 2048, Nat.mod_lt _ (by decide)⟩ ⟨g.val * 64 + p.val % 64, by omega⟩ + pos ⟨p.val / 64, by omega⟩ ⟨p.val % 64, Nat.mod_lt _ (by decide)⟩

/-- A hidden unit of a block. -/
def pooledHid (X : Fin 2048 → Fin 128 → EReal) (pos : Fin 32 → Fin 64 → EReal) (w : Fin 2048 → Fin 256 → EReal) (n : Fin 128) (g : Fin 2) (k : Fin 256) : EReal :=
  ∑ p : Fin 2048, blockEntry X pos n g p * w p k

/-- A block's compressed token. -/
def pooled (X : Fin 2048 → Fin 128 → EReal) (pos : Fin 32 → Fin 64 → EReal) (w1 : Fin 2048 → Fin 256 → EReal) (w2 : Fin 256 → Fin 64 → EReal)
    (n : Fin 128) (g : Fin 2) (j : Fin 64) : EReal :=
  ∑ k : Fin 256, gelu (pooledHid X pos w1 n g k) * w2 k j

/-- A sum over a block's 2048 entries is the sum over its first half and over its second half. -/
theorem sum_halves (F : Fin 2048 → EReal) : ∑ p, F p = ∑ p : Fin 1024, F ⟨p, by omega⟩ + ∑ p : Fin 1024, F ⟨1024 + p, by omega⟩ :=
  Fin.sum_univ_add (a := 1024) (b := 1024) F

/-- A hidden unit from a table whose row `n` holds the 16 tokens from `16 n` on: row `n` with the first half of the weights, and the row after it with the second half. -/
theorem pooledHid_rows (X : Fin 2048 → Fin 128 → EReal) (pos : Fin 32 → Fin 64 → EReal) (w : Fin 2048 → Fin 256 → EReal) (n : Fin 128) (g : Fin 2) (k : Fin 256)
    (T : Fin 128 → Fin 1024 → EReal)
    (hT : ∀ (r : Fin 128) (p : Fin 1024), T r p = X ⟨r.val * 16 + p.val / 64, by omega⟩ ⟨g.val * 64 + p.val % 64, by omega⟩) :
    (∑ p : Fin 1024, (T n p + pos ⟨p.val / 64, by omega⟩ ⟨p.val % 64, Nat.mod_lt _ (by decide)⟩) * w ⟨p, by omega⟩ k)
      + ∑ p : Fin 1024, (T ⟨(n.val + 1) % 128, Nat.mod_lt _ (by decide)⟩ p + pos ⟨16 + p.val / 64, by omega⟩ ⟨p.val % 64, Nat.mod_lt _ (by decide)⟩) * w ⟨1024 + p, by omega⟩ k
      = pooledHid X pos w n g k := by
  unfold pooledHid blockEntry
  rw [sum_halves]
  congr 1
  · refine Finset.sum_congr rfl fun p _ => ?_
    rw [hT]
    have e : (⟨n.val * 16 + p.val / 64, by omega⟩ : Fin 2048) = ⟨(n.val * 16 + p.val / 64) % 2048, Nat.mod_lt _ (by decide)⟩ := Fin.ext (by show n.val * 16 + p.val / 64 = (n.val * 16 + p.val / 64) % 2048; omega)
    rw [e]
  · refine Finset.sum_congr rfl fun p _ => ?_
    rw [hT]
    have e : (⟨(n.val + 1) % 128 * 16 + p.val / 64, by omega⟩ : Fin 2048) = ⟨(n.val * 16 + (1024 + p.val) / 64) % 2048, Nat.mod_lt _ (by decide)⟩ :=
      Fin.ext (by show (n.val + 1) % 128 * 16 + p.val / 64 = (n.val * 16 + (1024 + p.val) / 64) % 2048; omega)
    have e1 : (⟨16 + p.val / 64, by omega⟩ : Fin 32) = ⟨(1024 + p.val) / 64, by omega⟩ := Fin.ext (by show 16 + p.val / 64 = (1024 + p.val) / 64; omega)
    have e2 : (⟨p.val % 64, Nat.mod_lt _ (by decide)⟩ : Fin 64) = ⟨(1024 + p.val) % 64, Nat.mod_lt _ (by decide)⟩ := Fin.ext (by show p.val % 64 = (1024 + p.val) % 64; omega)
    have e3 : (⟨g.val * 64 + p.val % 64, by omega⟩ : Fin 128) = ⟨g.val * 64 + (1024 + p.val) % 64, by omega⟩ := Fin.ext (by show g.val * 64 + p.val % 64 = g.val * 64 + (1024 + p.val) % 64; omega)
    rw [e, e1, e2, e3]

end Cert.Layer

end
-- ==== Proof.CompressTile.lean ====
module

public import proofs.«01_k».proof.Proof.Gen.CompressIdeal.Frame
public import proofs.«01_k».proof.Proof.Pooled
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CompressIdeal.Tile

open Cert.CompressIdeal Cert.CompressIdeal.Gen
open Cert.Layer (gelu blockEntry pooledHid pooled pooledHid_rows)

/-- The first group's lanes of two tokens, side by side. -/
def low (a b : FVec Ideal S128x128 .f32) : FVec Ideal S128x128 .f32 :=
  select k0_pay2 a (dynamicRotate 1 64#32 none b rotates_S128x128_d1)

/-- The second group's lanes of two tokens, side by side. -/
def high (a b : FVec Ideal S128x128 .f32) : FVec Ideal S128x128 .f32 :=
  select k0_pay2 (dynamicRotate 1 64#32 none a rotates_S128x128_d1) b

/-- Eight pairs side by side. -/
def table (A : Fin 8 → FVec Ideal S128x128 .f32) : FVec Ideal S128x1024 .f32 :=
  concatenate S128x1024 1 [⟨S128x128, A 0⟩, ⟨S128x128, A 1⟩, ⟨S128x128, A 2⟩, ⟨S128x128, A 3⟩, ⟨S128x128, A 4⟩, ⟨S128x128, A 5⟩, ⟨S128x128, A 6⟩, ⟨S128x128, A 7⟩] concatenates_S128x128_S128x128_S128x128_S128x128_S128x128_S128x128_S128x128_S128x128_S128x1024_d1

/-- A load's rows. -/
def tok (v : FVec Ideal S1x128x128 .f32) : FVec Ideal S128x128 .f32 := shapeCast S128x128 v shapeCasts_S1x128x128_S128x128

/-- A table with the first half of the positions, times the first half of the weights. -/
def halfA (T : FVec Ideal S128x1024 .f32) (p : FVec Ideal S1x1x2048 .f32) (w : FVec Ideal S1x1024x256 .bf16) : FVec Ideal S128x256 .f32 :=
  matmul dot_S128x1024_S1024x256_S128x256_1_0_0_1_n_n none (truncf .bf16 (addf T (broadcastTo S128x1024 (extractStridedSlice S1x1024 ![0, 0] (shapeCast S1x2048 p shapeCasts_S1x1x2048_S1x2048) slices_S1x2048_o0_0_S1x1024) broadcasts_S1x1024_S128x1024)) bitsLt_bf16_f32)
    (shapeCast S1024x256 w shapeCasts_S1x1024x256_S1024x256) (constant S128x256 .f32 0x00000000#32)

/-- A table with the second half of the positions, times the second half of the weights. -/
def halfB (T : FVec Ideal S128x1024 .f32) (p : FVec Ideal S1x1x2048 .f32) (w : FVec Ideal S1x1024x256 .bf16) : FVec Ideal S128x256 .f32 :=
  matmul dot_S128x1024_S1024x256_S128x256_1_0_0_1_n_n none (truncf .bf16 (addf T (broadcastTo S128x1024 (extractStridedSlice S1x1024 ![0, 1024] (shapeCast S1x2048 p shapeCasts_S1x1x2048_S1x2048) slices_S1x2048_o0_1024_S1x1024) broadcasts_S1x1024_S128x1024)) bitsLt_bf16_f32)
    (shapeCast S1024x256 w shapeCasts_S1x1024x256_S1024x256) (constant S128x256 .f32 0x00000000#32)

/-- The hidden units: the second half's product one row on. -/
def hid (T : FVec Ideal S128x1024 .f32) (p : FVec Ideal S1x1x2048 .f32) (wa wb : FVec Ideal S1x1024x256 .bf16) : FVec Ideal S128x256 .f32 :=
  addf (halfA T p wa) (dynamicRotate 0 127#32 none (halfB T p wb) rotates_S128x256_d0)

/-- The activation. -/
def act (H : FVec Ideal S128x256 .f32) : FVec Ideal S128x256 .f32 :=
  mulf H (mulf (broadcast S128x256 (Scalar.ofBits .f32 0x3F000000#32)) (addf (broadcast S128x256 (Scalar.ofBits .f32 0x3F800000#32)) (tanh (mulf (broadcast S128x256 (Scalar.ofBits .f32 0x3F4C422A#32)) (addf H (mulf (broadcast S128x256 (Scalar.ofBits .f32 0x3D372713#32)) (mulf H (mulf H H))))))))

/-- The compressed tokens of one store. -/
def outK (A : FVec Ideal S128x256 .f32) (w2 : FVec Ideal S1x256x128 .bf16) : FVec Ideal S1x1x128x128 .bf16 :=
  shapeCast S1x1x128x128 (truncf .bf16 (matmul dot_S128x256_S256x128_S128x128_1_0_0_1_n_n none (truncf .bf16 A bitsLt_bf16_f32) (shapeCast S256x128 w2 shapeCasts_S1x256x128_S256x128) (constant S128x128 .f32 0x00000000#32)) bitsLt_bf16_f32) shapeCasts_S128x128_S1x1x128x128

/-- The comparison that tells the first half of the lanes. -/
theorem half_lane (e : Fin 128) : IntOp.cmpi CmpIPredicate.slt (BitVec.ofNat 32 ↑e) 64#32 = if e.val < 64 then 1#1 else 0#1 :=
  (by decide : ∀ e : Fin 128, IntOp.cmpi CmpIPredicate.slt (BitVec.ofNat 32 ↑e) 64#32 = if e.val < 64 then 1#1 else 0#1) e

/-- The first group's pairs at an index. -/
theorem low_at (a b : FVec Ideal S128x128 .f32) (n e : Fin 128) :
    low a b (ix2 n e) = if e.val < 64 then a (ix2 n e) else b (ix2 n ⟨(e.val + 128 - 64) % 128, Nat.mod_lt _ (by decide)⟩) := by
  have h : low a b (ix2 n e) = Scalar.select (IntOp.cmpi CmpIPredicate.slt (BitVec.ofNat 32 ↑e) 64#32) (a (ix2 n e)) (b (ix2 n ⟨(e.val + 128 - 64) % 128, Nat.mod_lt _ (by decide)⟩)) := by
    pointwise [low, k0_pay2]
  rw [h, half_lane]
  split_ifs <;> rfl

/-- The second group's pairs at an index. -/
theorem high_at (a b : FVec Ideal S128x128 .f32) (n e : Fin 128) :
    high a b (ix2 n e) = if e.val < 64 then a (ix2 n ⟨(e.val + 128 - 64) % 128, Nat.mod_lt _ (by decide)⟩) else b (ix2 n e) := by
  have h : high a b (ix2 n e) = Scalar.select (IntOp.cmpi CmpIPredicate.slt (BitVec.ofNat 32 ↑e) 64#32) (a (ix2 n ⟨(e.val + 128 - 64) % 128, Nat.mod_lt _ (by decide)⟩)) (b (ix2 n e)) := by
    pointwise [high, k0_pay2]
  rw [h, half_lane]
  split_ifs <;> rfl

/-- A pair's value, by its place in the table. -/
theorem pick (A : Fin 8 → FVec Ideal S128x128 .f32) (n : Fin 128) (p : Fin 1024) (c : Fin 8) (x : ℕ) (hx : x < 128) (h : c.val * 128 + x = p.val) :
    A c (ix2 n ⟨x, hx⟩) = A ⟨p.val / 128, by omega⟩ (ix2 n ⟨p.val % 128, Nat.mod_lt _ (by decide)⟩) := by
  have e : c = ⟨p.val / 128, by omega⟩ := Fin.ext (by show c.val = p.val / 128; omega)
  have e' : (⟨x, hx⟩ : Fin 128) = ⟨p.val % 128, Nat.mod_lt _ (by decide)⟩ := Fin.ext (by show x = p.val % 128; omega)
  rw [e, e']

/-- The table at an index. -/
theorem table_at (A : Fin 8 → FVec Ideal S128x128 .f32) (n : Fin 128) (p : Fin 1024) :
    table A (ix2 n p) = A ⟨p.val / 128, by omega⟩ (ix2 n ⟨p.val % 128, Nat.mod_lt _ (by decide)⟩) := by
  pointwise [table]
  by_cases h0 : p.val < 128
  · rw [dif_pos h0]
    exact pick A n p 0 _ _ (by show 0 * 128 + (p.val) = _; omega)
  rw [dif_neg h0]
  by_cases h1 : p.val - 128 < 128
  · rw [dif_pos h1]
    exact pick A n p 1 _ _ (by show 1 * 128 + (p.val - 128) = _; omega)
  rw [dif_neg h1]
  by_cases h2 : p.val - 128 - 128 < 128
  · rw [dif_pos h2]
    exact pick A n p 2 _ _ (by show 2 * 128 + (p.val - 128 - 128) = _; omega)
  rw [dif_neg h2]
  by_cases h3 : p.val - 128 - 128 - 128 < 128
  · rw [dif_pos h3]
    exact pick A n p 3 _ _ (by show 3 * 128 + (p.val - 128 - 128 - 128) = _; omega)
  rw [dif_neg h3]
  by_cases h4 : p.val - 128 - 128 - 128 - 128 < 128
  · rw [dif_pos h4]
    exact pick A n p 4 _ _ (by show 4 * 128 + (p.val - 128 - 128 - 128 - 128) = _; omega)
  rw [dif_neg h4]
  by_cases h5 : p.val - 128 - 128 - 128 - 128 - 128 < 128
  · rw [dif_pos h5]
    exact pick A n p 5 _ _ (by show 5 * 128 + (p.val - 128 - 128 - 128 - 128 - 128) = _; omega)
  rw [dif_neg h5]
  by_cases h6 : p.val - 128 - 128 - 128 - 128 - 128 - 128 < 128
  · rw [dif_pos h6]
    exact pick A n p 6 _ _ (by show 6 * 128 + (p.val - 128 - 128 - 128 - 128 - 128 - 128) = _; omega)
  rw [dif_neg h6]
  exact pick A n p 7 _ _ (by show 7 * 128 + (p.val - 128 - 128 - 128 - 128 - 128 - 128 - 128) = _; omega)

/-- A load's rows at an index. -/
theorem tok_at (v : FVec Ideal S1x128x128 .f32) (n e : Fin 128) : tok v (ix2 n e) = v (ix3 0 n e) := by
  pointwise [tok]

/-- Equal places of equal loads. -/
theorem load_congr (L : Fin 16 → FVec Ideal S1x128x128 .f32) (n : Fin 128) {a b x y : ℕ} (h : a = b) (h' : x = y) (ha : a < 16) (hb : b < 16) (hx : x < 128) (hy : y < 128) :
    L ⟨a, ha⟩ (ix3 0 n ⟨x, hx⟩) = L ⟨b, hb⟩ (ix3 0 n ⟨y, hy⟩) := by
  subst h
  subst h'
  rfl

/-- The first group's table from the sixteen loads. -/
theorem tableLow_at (L : Fin 16 → FVec Ideal S1x128x128 .f32) (n : Fin 128) (q : Fin 1024) :
    table (fun c => low (tok (L ⟨2 * c.val, by omega⟩)) (tok (L ⟨2 * c.val + 1, by omega⟩))) (ix2 n q)
      = L ⟨q.val / 64, by omega⟩ (ix3 0 n ⟨(0 : Fin 2).val * 64 + q.val % 64, by show 0 * 64 + _ < _; omega⟩) := by
  rw [table_at, low_at, tok_at, tok_at]
  dsimp only
  split_ifs with h
  · exact load_congr L n (by omega) (by show q.val % 128 = 0 * 64 + q.val % 64; omega) _ _ _ _
  · exact load_congr L n (by omega) (by show (q.val % 128 + 128 - 64) % 128 = 0 * 64 + q.val % 64; omega) _ _ _ _

/-- The second group's table from the sixteen loads. -/
theorem tableHigh_at (L : Fin 16 → FVec Ideal S1x128x128 .f32) (n : Fin 128) (q : Fin 1024) :
    table (fun c => high (tok (L ⟨2 * c.val, by omega⟩)) (tok (L ⟨2 * c.val + 1, by omega⟩))) (ix2 n q)
      = L ⟨q.val / 64, by omega⟩ (ix3 0 n ⟨(1 : Fin 2).val * 64 + q.val % 64, by show 1 * 64 + _ < _; omega⟩) := by
  rw [table_at, high_at, tok_at, tok_at]
  dsimp only
  split_ifs with h
  · exact load_congr L n (by omega) (by show (q.val % 128 + 128 - 64) % 128 = 1 * 64 + q.val % 64; omega) _ _ _ _
  · exact load_congr L n (by omega) (by show q.val % 128 = 1 * 64 + q.val % 64; omega) _ _ _ _

/-- The first half's product at an index. -/
theorem halfA_at (T : FVec Ideal S128x1024 .f32) (p : FVec Ideal S1x1x2048 .f32) (w : FVec Ideal S1x1024x256 .bf16) (n : Fin 128) (k : Fin 256) :
    halfA T p w (ix2 n k) = ∑ q : Fin 1024, (T (ix2 n q) + p (ix3 0 0 ⟨q.val, by omega⟩)) * w (ix3 0 q k) := by
  pointwise [halfA]

/-- The second half's product at an index. -/
theorem halfB_at (T : FVec Ideal S128x1024 .f32) (p : FVec Ideal S1x1x2048 .f32) (w : FVec Ideal S1x1024x256 .bf16) (n : Fin 128) (k : Fin 256) :
    halfB T p w (ix2 n k) = ∑ q : Fin 1024, (T (ix2 n q) + p (ix3 0 0 ⟨1024 + q.val, by omega⟩)) * w (ix3 0 q k) := by
  pointwise [halfB]

/-- The hidden units at an index. -/
theorem hid_at (T : FVec Ideal S128x1024 .f32) (p : FVec Ideal S1x1x2048 .f32) (wa wb : FVec Ideal S1x1024x256 .bf16) (n : Fin 128) (k : Fin 256) :
    hid T p wa wb (ix2 n k) = halfA T p wa (ix2 n k) + halfB T p wb (ix2 ⟨(n.val + 1) % 128, Nat.mod_lt _ (by decide)⟩ k) := by
  have h : hid T p wa wb (ix2 n k) = halfA T p wa (ix2 n k) + halfB T p wb (ix2 ⟨(n.val + 128 - 127) % 128, Nat.mod_lt _ (by decide)⟩ k) := by
    pointwise [hid]
  rw [h]
  have e : (n.val + 128 - 127) % 128 = (n.val + 1) % 128 := by omega
  simp only [e]

/-- The activation at an index. -/
theorem act_at (H : FVec Ideal S128x256 .f32) (n : Fin 128) (k : Fin 256) : act H (ix2 n k) = gelu (H (ix2 n k)) := by
  have h : act H (ix2 n k) = H (ix2 n k) * (Ideal.ofBits .f32 0x3F000000#32 * (Ideal.ofBits .f32 0x3F800000#32
    + Ideal.tanh (Ideal.ofBits .f32 0x3F4C422A#32 * (H (ix2 n k) + Ideal.ofBits .f32 0x3D372713#32 * (H (ix2 n k) * (H (ix2 n k) * H (ix2 n k))))))) := by
    pointwise [act]
  rw [h, mul_comm (H (ix2 n k)) (H (ix2 n k) * H (ix2 n k))]
  rfl

/-- A store's compressed tokens at an index. -/
theorem outK_at (A : FVec Ideal S128x256 .f32) (w2 : FVec Ideal S1x256x128 .bf16) (n j : Fin 128) :
    outK A w2 (ix4 0 0 n j) = ∑ k : Fin 256, A (ix2 n k) * w2 (ix3 0 k j) := by
  pointwise [outK]

/-- A store's value, from what its table, positions and weights hold. -/
theorem store_at (X : Fin 2048 → Fin 128 → EReal) (pos : Fin 32 → Fin 64 → EReal) (w1 : Fin 2048 → Fin 256 → EReal) (w2 : Fin 256 → Fin 64 → EReal) (g : Fin 2)
    (T : FVec Ideal S128x1024 .f32) (p : FVec Ideal S1x1x2048 .f32) (wa wb : FVec Ideal S1x1024x256 .bf16) (w : FVec Ideal S1x256x128 .bf16)
    (hT : ∀ (n : Fin 128) (q : Fin 1024), T (ix2 n q) = X ⟨n.val * 16 + q.val / 64, by omega⟩ ⟨g.val * 64 + q.val % 64, by omega⟩)
    (hp : ∀ q : Fin 2048, p (ix3 0 0 q) = pos ⟨q.val / 64, by omega⟩ ⟨q.val % 64, Nat.mod_lt _ (by decide)⟩)
    (ha : ∀ (q : Fin 1024) k, wa (ix3 0 q k) = w1 ⟨q.val, by omega⟩ k) (hb : ∀ (q : Fin 1024) k, wb (ix3 0 q k) = w1 ⟨1024 + q.val, by omega⟩ k)
    (hw : ∀ k (j : Fin 128), w (ix3 0 k j) = w2 k ⟨j.val % 64, Nat.mod_lt _ (by decide)⟩) (n j : Fin 128) :
    outK (act (hid T p wa wb)) w (ix4 0 0 n j) = pooled X pos w1 w2 n g ⟨j.val % 64, Nat.mod_lt _ (by decide)⟩ := by
  rw [outK_at]
  unfold pooled
  refine Finset.sum_congr rfl fun k _ => ?_
  rw [act_at, hid_at, halfA_at, halfB_at, hw]
  congr 2
  refine Eq.trans ?_ (pooledHid_rows X pos w1 n g k (fun r q => T (ix2 r q)) hT)
  congr 1
  · refine Finset.sum_congr rfl fun q _ => ?_
    rw [hp, ha]
  · refine Finset.sum_congr rfl fun q _ => ?_
    rw [hp, hb]
    have e : (1024 + q.val) / 64 = 16 + q.val / 64 := by omega
    have e' : (1024 + q.val) % 64 = q.val % 64 := by omega
    simp only [e, e']

/-- The sixteen loads of a block: load `l` takes every sixteenth token from `l` on. -/
def loads (M : Memref sig .tc .vmem S1x2048x128 .f32) (hM : M.IsWhole) (X : FVec Ideal S1x2048x128 .f32) (l : Fin 16) : FVec Ideal S1x128x128 .f32 :=
  View.readAt (Elt Ideal) M.view { off := ![0, l.val, 0], size := ![1, 128, 128], stride := ![1, 16, 1], inb := (by decide : ∀ l : Fin 16, ∀ a : Fin 3, (![1, 128, 128] : Fin 3 → ℕ) a = 0 ∨ (![0, l.val, 0] : Fin 3 → ℕ) a + (![1, 16, 1] : Fin 3 → ℕ) a * ((![1, 128, 128] : Fin 3 → ℕ) a - 1) < (![1, 2048, 128] : Fin 3 → ℕ) a) l } (hM.unread X)

/-- A load at an index. -/
theorem loads_at (M : Memref sig .tc .vmem S1x2048x128 .f32) (hM : M.IsWhole) (X : FVec Ideal S1x2048x128 .f32) (l : Fin 16) (n e : Fin 128) :
    loads M hM X l (ix3 0 n e) = X (ix3 0 ⟨n.val * 16 + l.val, by omega⟩ e) := by
  unfold loads
  rw [View.readAt_apply, Memref.IsWhole.read_unread]
  refine congrArg X (funext fun a => Fin.ext ?_)
  refine Fin.cases ?_ (fun a => Fin.cases ?_ (fun a => Fin.cases ?_ (fun a => a.elim0) a) a) a
  · rfl
  · show l.val + 16 * n.val = n.val * 16 + l.val
    omega
  · show 0 + 1 * e.val = e.val
    omega

/-- A load of a box at an index. -/
theorem ld_box {Val : EltTy → Type} {ty : EltTy} {A B C a b c o u v : ℕ} (X : (⟨3, ![A, B, C]⟩ : Shape).Idx → Val ty)
    (inb : ∀ x, (![o, u, v] : Fin 3 → ℕ) x + (![a, b, c] : Fin 3 → ℕ) x ≤ (⟨3, ![A, B, C]⟩ : Shape).size x) (i : Fin a) (j : Fin b) (k : Fin c)
    (hi : o + i < A) (hj : u + j < B) (hk : v + k < C) :
    View.ld X (Rect.unit (s := ⟨3, ![A, B, C]⟩) ![o, u, v] ![a, b, c] inb) (ix3 i j k) = X (ix3 ⟨o + i, hi⟩ ⟨u + j, hj⟩ ⟨v + k, hk⟩) := by
  refine congrArg X (funext fun x => Fin.ext ?_)
  refine Fin.cases ?_ (fun x => Fin.cases ?_ (fun x => Fin.cases ?_ (fun x => x.elim0) x) x) x
  · show o + 1 * i.val = o + i.val
    omega
  · show u + 1 * j.val = u + j.val
    omega
  · show v + 1 * k.val = v + k.val
    omega

/-- What the blocks hold for a projection: its tokens, positions and weights. -/
structure Holds (x : FVec Ideal S1x2048x128 .f32) (p : FVec Ideal S1x1x2048 .f32) (wa wb : FVec Ideal S1x1024x256 .bf16) (w : FVec Ideal S1x256x128 .bf16)
    (X : Fin 2048 → Fin 128 → EReal) (pos : Fin 32 → Fin 64 → EReal) (w1 : Fin 2048 → Fin 256 → EReal) (w2 : Fin 256 → Fin 64 → EReal) : Prop where
  tokens : ∀ s f, x (ix3 0 s f) = X s f
  positions : ∀ q : Fin 2048, p (ix3 0 0 q) = pos ⟨q.val / 64, by omega⟩ ⟨q.val % 64, Nat.mod_lt _ (by decide)⟩
  first : ∀ (q : Fin 1024) k, wa (ix3 0 q k) = w1 ⟨q.val, by omega⟩ k
  second : ∀ (q : Fin 1024) k, wb (ix3 0 q k) = w1 ⟨1024 + q.val, by omega⟩ k
  out : ∀ k (j : Fin 128), w (ix3 0 k j) = w2 k ⟨j.val % 64, Nat.mod_lt _ (by decide)⟩

variable {x : FVec Ideal S1x2048x128 .f32} {p : FVec Ideal S1x1x2048 .f32} {wa wb : FVec Ideal S1x1024x256 .bf16} {w : FVec Ideal S1x256x128 .bf16}
  {X : Fin 2048 → Fin 128 → EReal} {pos : Fin 32 → Fin 64 → EReal} {w1 : Fin 2048 → Fin 256 → EReal} {w2 : Fin 256 → Fin 64 → EReal}

/-- The first group's store. -/
theorem Holds.low (H : Holds x p wa wb w X pos w1 w2) (M : Memref sig .tc .vmem S1x2048x128 .f32) (hM : M.IsWhole) (n j : Fin 128) :
    outK (act (hid (table (fun c => Tile.low (tok (loads M hM x ⟨2 * c.val, by omega⟩)) (tok (loads M hM x ⟨2 * c.val + 1, by omega⟩)))) p wa wb)) w (ix4 0 0 n j)
      = pooled X pos w1 w2 n 0 ⟨j.val % 64, Nat.mod_lt _ (by decide)⟩ :=
  store_at X pos w1 w2 0 _ p wa wb w (fun n q => (tableLow_at _ n q).trans ((loads_at _ _ _ _ _ _).trans (H.tokens _ _))) H.positions H.first H.second H.out n j

/-- The second group's store. -/
theorem Holds.high (H : Holds x p wa wb w X pos w1 w2) (M : Memref sig .tc .vmem S1x2048x128 .f32) (hM : M.IsWhole) (n j : Fin 128) :
    outK (act (hid (table (fun c => Tile.high (tok (loads M hM x ⟨2 * c.val, by omega⟩)) (tok (loads M hM x ⟨2 * c.val + 1, by omega⟩)))) p wa wb)) w (ix4 0 0 n j)
      = pooled X pos w1 w2 n 1 ⟨j.val % 64, Nat.mod_lt _ (by decide)⟩ :=
  store_at X pos w1 w2 1 _ p wa wb w (fun n q => (tableHigh_at _ n q).trans ((loads_at _ _ _ _ _ _).trans (H.tokens _ _))) H.positions H.first H.second H.out n j

end Cert.CompressIdeal.Tile

end
-- ==== Proof.CompressRef.lean ====
module

public import proofs.«01_k».proof.Proof.Gen.CompressRefIdeal.Run
public import proofs.«01_k».proof.Proof.Pooled
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.CompressRefIdeal.Stage

open Cert.CompressRefIdeal Cert.CompressRefIdeal.Gen
open Cert.Layer (gelu blockEntry pooledHid pooled)

/-- The tokens by chunks of 16, the first chunk once more at the end. -/
def chunks (X : FVec Ideal S32x2048x128 .f32) : FVec Ideal S32x129x16x2x64 .f32 :=
  shapeCast _ (concatenate S32x2064x128 1 [⟨S32x2048x128, X⟩, ⟨S32x16x128, (extractStridedSlice S32x16x128 ![0, 0, 0] X slices_S32x2048x128_S32x16x128_0_0_0)⟩] concatenates_S32x2048x128_S32x16x128_S32x2064x128_d1) shapeCasts_S32x2064x128_S32x129x16x2x64

/-- The blocks of 32 tokens, with the position's vector added. -/
def blocks (X : FVec Ideal S32x2048x128 .f32) (P : FVec Ideal S32x64 .f32) : FVec Ideal S32x128x32x2x64 .f32 :=
  addf (concatenate S32x128x32x2x64 2 [⟨S32x128x16x2x64, (extractStridedSlice S32x128x16x2x64 ![0, 0, 0, 0, 0] (chunks X) slices_S32x129x16x2x64_S32x128x16x2x64_0_0_0_0_0)⟩, ⟨S32x128x16x2x64, (extractStridedSlice S32x128x16x2x64 ![0, 1, 0, 0, 0] (chunks X) slices_S32x129x16x2x64_S32x128x16x2x64_0_1_0_0_0)⟩] concatenates_S32x128x16x2x64_S32x128x16x2x64_S32x128x32x2x64_d2)
    (broadcastInDim S32x128x32x2x64 ![0, 1, 2, 3, 4] bcast_S1x1x32x1x64_S32x128x32x2x64_0_1_2_3_4 (broadcastInDim S1x1x32x1x64 ![2, 3, 4] bcast_S32x1x64_S1x1x32x1x64_2_3_4 (broadcastInDim S32x1x64 ![0, 2] bcast_S32x64_S32x1x64_0_2 P)))

/-- A group's blocks, each as one row. -/
def rows (B : FVec Ideal S32x128x32x2x64 .f32) : FVec Ideal S32x128x2x2048 .f32 :=
  shapeCast _ (transpose S32x128x2x32x64 [0, 1, 3, 2, 4] B transposes_S32x128x32x2x64_S32x128x2x32x64_0_1_3_2_4) shapeCasts_S32x128x2x32x64_S32x128x2x2048

/-- The hidden units. -/
def hidden (R : FVec Ideal S32x128x2x2048 .f32) (W : FVec Ideal S2048x256 .f32) : FVec Ideal S32x128x2x256 .f32 :=
  Host.dotGeneral dot_S32x128x2x2048_S2048x256_S32x128x2x256_3_0_012_1_n_n none R W

/-- The activation. -/
def act (H : FVec Ideal S32x128x2x256 .f32) : FVec Ideal S32x128x2x256 .f32 :=
  mulf H (mulf (broadcastInDim S32x128x2x256 ![] bcast_S_S32x128x2x256 (constant S_ .f32 0x3F000000#32)) (addf (broadcastInDim S32x128x2x256 ![] bcast_S_S32x128x2x256 (constant S_ .f32 0x3F800000#32)) (Host.tanh (mulf (broadcastInDim S32x128x2x256 ![] bcast_S_S32x128x2x256 (constant S_ .f32 0x3F4C422A#32)) (addf H (mulf (broadcastInDim S32x128x2x256 ![] bcast_S_S32x128x2x256 (constant S_ .f32 0x3D372713#32)) (mulf (mulf H H) H)))))))

/-- The compressed tokens by group. -/
def tokens (A : FVec Ideal S32x128x2x256 .f32) (W : FVec Ideal S256x64 .f32) : FVec Ideal S32x2x128x64 .f32 :=
  transpose S32x2x128x64 [0, 2, 1, 3] (Host.dotGeneral dot_S32x128x2x256_S256x64_S32x128x2x64_3_0_012_1_n_n none A W) transposes_S32x128x2x64_S32x2x128x64_0_2_1_3

/-- The compression of one projection. -/
def compressed (X : FVec Ideal S32x2048x128 .f32) (P : FVec Ideal S32x64 .f32) (W1 : FVec Ideal S2048x256 .f32) (W2 : FVec Ideal S256x64 .f32) : FVec Ideal S32x2x128x64 .f32 :=
  tokens (act (hidden (rows (blocks X P)) W1)) W2

/-- The compression of the keys and of the values, one after the other. -/
def both (A B : FVec Ideal S32x2x128x64 .f32) : FVec Ideal S32x4x128x64 .f32 :=
  concatenate S32x4x128x64 1 [⟨S32x2x128x64, A⟩, ⟨S32x2x128x64, B⟩] concatenates_S32x2x128x64_S32x2x128x64_S32x4x128x64_d1

/-- The 64 dimensions twice over, as the call gives them. -/
def twice (Y : FVec Ideal S32x4x128x64 .f32) : FVec Ideal S32x4x128x128 .bf16 :=
  truncf .bf16 (concatenate S32x4x128x128 3 [⟨S32x4x128x64, Y⟩, ⟨S32x4x128x64, Y⟩] concatenates_S32x4x128x64_S32x4x128x64_S32x4x128x128_d3) bitsLt_bf16_f32

/-- The reference's result. -/
def whole (K V : FVec Ideal S32x2048x128 .f32) (P : FVec Ideal S1x2x32x64 .f32) (W1 : FVec Ideal S1x2x2048x256 .f32) (W2 : FVec Ideal S1x2x256x64 .f32) : FVec Ideal S32x4x128x128 .bf16 :=
  twice (both
    (compressed K (shapeCast _ (extractStridedSlice S1x1x32x64 ![0, 0, 0, 0] P slices_S1x2x32x64_S1x1x32x64_0_0_0_0) shapeCasts_S1x1x32x64_S32x64)
      (shapeCast _ (extractStridedSlice S1x1x2048x256 ![0, 0, 0, 0] W1 slices_S1x2x2048x256_S1x1x2048x256_0_0_0_0) shapeCasts_S1x1x2048x256_S2048x256)
      (shapeCast _ (extractStridedSlice S1x1x256x64 ![0, 0, 0, 0] W2 slices_S1x2x256x64_S1x1x256x64_0_0_0_0) shapeCasts_S1x1x256x64_S256x64))
    (compressed V (shapeCast _ (extractStridedSlice S1x1x32x64 ![0, 1, 0, 0] P slices_S1x2x32x64_S1x1x32x64_0_1_0_0) shapeCasts_S1x1x32x64_S32x64)
      (shapeCast _ (extractStridedSlice S1x1x2048x256 ![0, 1, 0, 0] W1 slices_S1x2x2048x256_S1x1x2048x256_0_1_0_0) shapeCasts_S1x1x2048x256_S2048x256)
      (shapeCast _ (extractStridedSlice S1x1x256x64 ![0, 1, 0, 0] W2 slices_S1x2x256x64_S1x1x256x64_0_1_0_0) shapeCasts_S1x1x256x64_S256x64)))

/-- The chunks at an index. -/
theorem chunks_at (X : FVec Ideal S32x2048x128 .f32) (b : Fin 32) (n : Fin 129) (l : Fin 16) (g : Fin 2) (d : Fin 64) :
    chunks X (ix5 b n l g d) = X (ix3 b ⟨(n.val * 16 + l.val) % 2048, Nat.mod_lt _ (by decide)⟩ ⟨g.val * 64 + d.val, by omega⟩) := by
  pointwise [chunks]
  by_cases h : n.val * 16 + l.val < 2048
  · rw [dif_pos h]
    have e : (n.val * 16 + l.val) % 2048 = n.val * 16 + l.val := by omega
    simp only [e]
  · rw [dif_neg h]
    have e : (n.val * 16 + l.val) % 2048 = n.val * 16 + l.val - 2048 := by omega
    simp only [e]

/-- The blocks at an index. -/
theorem blocks_at (X : FVec Ideal S32x2048x128 .f32) (P : FVec Ideal S32x64 .f32) (b : Fin 32) (n : Fin 128) (l : Fin 32) (g : Fin 2) (d : Fin 64) :
    blocks X P (ix5 b n l g d) = X (ix3 b ⟨(n.val * 16 + l.val) % 2048, Nat.mod_lt _ (by decide)⟩ ⟨g.val * 64 + d.val, by omega⟩) + P (ix2 l d) := by
  have h : blocks X P (ix5 b n l g d) = (if h : l.val < 16 then chunks X (ix5 b ⟨n.val, by omega⟩ ⟨l.val, h⟩ g d) else chunks X (ix5 b ⟨1 + n.val, by omega⟩ ⟨l.val - 16, by omega⟩ g d)) + P (ix2 l d) := by
    pointwise [blocks]
  rw [h]
  congr 1
  split_ifs with hl
  · rw [chunks_at]
  · rw [chunks_at]
    have e : ((1 + n.val) * 16 + (l.val - 16)) % 2048 = (n.val * 16 + l.val) % 2048 := by omega
    simp only [e]

/-- A group's blocks at an index. -/
theorem rows_at (B : FVec Ideal S32x128x32x2x64 .f32) (b : Fin 32) (n : Fin 128) (g : Fin 2) (p : Fin 2048) :
    rows B (ix4 b n g p) = B (ix5 b n ⟨p.val / 64, by omega⟩ g ⟨p.val % 64, Nat.mod_lt _ (by decide)⟩) := by
  pointwise [rows]

/-- The hidden units at an index. -/
theorem hidden_at (R : FVec Ideal S32x128x2x2048 .f32) (W : FVec Ideal S2048x256 .f32) (b : Fin 32) (n : Fin 128) (g : Fin 2) (k : Fin 256) :
    hidden R W (ix4 b n g k) = ∑ p : Fin 2048, R (ix4 b n g p) * W (ix2 p k) := by
  pointwise [hidden]

/-- The activation at an index. -/
theorem act_at (H : FVec Ideal S32x128x2x256 .f32) (b : Fin 32) (n : Fin 128) (g : Fin 2) (k : Fin 256) :
    act H (ix4 b n g k) = gelu (H (ix4 b n g k)) := by
  pointwise [act, gelu]

/-- The compressed tokens at an index. -/
theorem tokens_at (A : FVec Ideal S32x128x2x256 .f32) (W : FVec Ideal S256x64 .f32) (b : Fin 32) (g : Fin 2) (n : Fin 128) (j : Fin 64) :
    tokens A W (ix4 b g n j) = ∑ k : Fin 256, A (ix4 b n g k) * W (ix2 k j) := by
  pointwise [tokens]

/-- The compression at an index. -/
theorem compressed_at (X : FVec Ideal S32x2048x128 .f32) (P : FVec Ideal S32x64 .f32) (W1 : FVec Ideal S2048x256 .f32) (W2 : FVec Ideal S256x64 .f32)
    (b : Fin 32) (g : Fin 2) (n : Fin 128) (j : Fin 64) :
    compressed X P W1 W2 (ix4 b g n j) = pooled (fun s f => X (ix3 b s f)) (fun l d => P (ix2 l d)) (fun p k => W1 (ix2 p k)) (fun k j => W2 (ix2 k j)) n g j := by
  unfold compressed
  rw [tokens_at]
  unfold pooled
  refine Finset.sum_congr rfl fun k _ => ?_
  rw [act_at, hidden_at]
  unfold pooledHid
  congr 2
  refine Finset.sum_congr rfl fun p _ => ?_
  rw [rows_at, blocks_at]
  rfl

/-- Keys and values one after the other, at an index. -/
theorem both_at (A B : FVec Ideal S32x2x128x64 .f32) (b : Fin 32) (s : Fin 4) (n : Fin 128) (j : Fin 64) :
    both A B (ix4 b s n j) = if h : s.val < 2 then A (ix4 b ⟨s.val, h⟩ n j) else B (ix4 b ⟨s.val - 2, by omega⟩ n j) := by
  pointwise [both]

/-- The dimensions twice over, at an index. -/
theorem twice_at (Y : FVec Ideal S32x4x128x64 .f32) (b : Fin 32) (s : Fin 4) (n : Fin 128) (j : Fin 128) :
    twice Y (ix4 b s n j) = Y (ix4 b s n ⟨j.val % 64, Nat.mod_lt _ (by decide)⟩) := by
  pointwise [twice]
  by_cases h : j.val < 64
  · rw [dif_pos h]
    have e : j.val % 64 = j.val := by omega
    simp only [e]
  · rw [dif_neg h]
    have e : j.val % 64 = j.val - 64 := by omega
    simp only [e]

/-- A projection's positions at an index. -/
theorem pos_at (P : FVec Ideal S1x2x32x64 .f32) (l : Fin 32) (d : Fin 64) :
    (shapeCast S32x64 (extractStridedSlice S1x1x32x64 ![0, 0, 0, 0] P slices_S1x2x32x64_S1x1x32x64_0_0_0_0) shapeCasts_S1x1x32x64_S32x64 : FVec Ideal S32x64 .f32) (ix2 l d) = P (ix4 0 0 l d)
    ∧ (shapeCast S32x64 (extractStridedSlice S1x1x32x64 ![0, 1, 0, 0] P slices_S1x2x32x64_S1x1x32x64_0_1_0_0) shapeCasts_S1x1x32x64_S32x64 : FVec Ideal S32x64 .f32) (ix2 l d) = P (ix4 0 1 l d) := by
  constructor <;> pointwise

/-- A projection's first weights at an index. -/
theorem w1_at (W : FVec Ideal S1x2x2048x256 .f32) (p : Fin 2048) (k : Fin 256) :
    (shapeCast S2048x256 (extractStridedSlice S1x1x2048x256 ![0, 0, 0, 0] W slices_S1x2x2048x256_S1x1x2048x256_0_0_0_0) shapeCasts_S1x1x2048x256_S2048x256 : FVec Ideal S2048x256 .f32) (ix2 p k) = W (ix4 0 0 p k)
    ∧ (shapeCast S2048x256 (extractStridedSlice S1x1x2048x256 ![0, 1, 0, 0] W slices_S1x2x2048x256_S1x1x2048x256_0_1_0_0) shapeCasts_S1x1x2048x256_S2048x256 : FVec Ideal S2048x256 .f32) (ix2 p k) = W (ix4 0 1 p k) := by
  constructor <;> pointwise

/-- A projection's second weights at an index. -/
theorem w2_at (W : FVec Ideal S1x2x256x64 .f32) (k : Fin 256) (j : Fin 64) :
    (shapeCast S256x64 (extractStridedSlice S1x1x256x64 ![0, 0, 0, 0] W slices_S1x2x256x64_S1x1x256x64_0_0_0_0) shapeCasts_S1x1x256x64_S256x64 : FVec Ideal S256x64 .f32) (ix2 k j) = W (ix4 0 0 k j)
    ∧ (shapeCast S256x64 (extractStridedSlice S1x1x256x64 ![0, 1, 0, 0] W slices_S1x2x256x64_S1x1x256x64_0_1_0_0) shapeCasts_S1x1x256x64_S256x64 : FVec Ideal S256x64 .f32) (ix2 k j) = W (ix4 0 1 k j) := by
  constructor <;> pointwise

/-- A slot's compressed tokens, from a projection's entries. -/
def slot (X : FVec Ideal S32x2048x128 .f32) (P : FVec Ideal S1x2x32x64 .f32) (W1 : FVec Ideal S1x2x2048x256 .f32) (W2 : FVec Ideal S1x2x256x64 .f32) (kv : Fin 2) (b : Fin 32) (g : Fin 2) (n j : Fin 128) : EReal :=
  pooled (fun s f => X (ix3 b s f)) (fun l d => P (ix4 0 kv l d)) (fun p k => W1 (ix4 0 kv p k)) (fun k j => W2 (ix4 0 kv k j)) n g ⟨j.val % 64, Nat.mod_lt _ (by decide)⟩

/-- The reference's result at an index. -/
theorem whole_at (K V : FVec Ideal S32x2048x128 .f32) (P : FVec Ideal S1x2x32x64 .f32) (W1 : FVec Ideal S1x2x2048x256 .f32) (W2 : FVec Ideal S1x2x256x64 .f32)
    (b : Fin 32) (s : Fin 4) (n j : Fin 128) :
    whole K V P W1 W2 (ix4 b s n j) = if h : s.val < 2 then slot K P W1 W2 0 b ⟨s.val, h⟩ n j else slot V P W1 W2 1 b ⟨s.val - 2, by omega⟩ n j := by
  unfold whole
  rw [twice_at, both_at]
  by_cases h : s.val < 2
  · rw [dif_pos h, dif_pos h, compressed_at]
    unfold slot
    simp only [(pos_at P _ _).1, (w1_at W1 _ _).1, (w2_at W2 _ _).1]
  · rw [dif_neg h, dif_neg h, compressed_at]
    unfold slot
    simp only [(pos_at P _ _).2, (w1_at W1 _ _).2, (w2_at W2 _ _).2]

/-- The reference's run ends with its stages' result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans rfl, (h c).2⟩) (Value.run m ρ)

end Cert.CompressRefIdeal.Stage

end
-- ==== Proof.CompressFinal.lean ====
module

public import proofs.«01_k».proof.Proof.CompressTile
public import proofs.«01_k».proof.Proof.CompressRef
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CompressIdeal.Tile

open Cert.CompressIdeal Cert.CompressIdeal.Gen
open Cert.Layer (pooled)
open Cert.CompressRefIdeal.Stage (slot whole whole_at)

variable (m : (ℓ : Loc nD τ sig) → Buf (Elt Ideal) ℓ)

/-- The blocks the windows take at a grid point. -/
theorem idx : ∀ t : Fin cfg0.N, win0_0.index t = ![t.val, 0, 0] ∧ win0_1.index t = ![t.val, 0, 0] ∧ win0_2.index t = ![0, 0, 0]
    ∧ win0_3.index t = ![0, 0, 0] ∧ win0_4.index t = ![0, 0, 0] ∧ win0_5.index t = ![t.val, 0, 0, 0] :=
  (by decide +kernel : ∀ t : Fin grid0.N, _)

/-- The grid has a point per batch entry. -/
theorem points (t : Fin cfg0.N) : t.val < 32 := t.isLt

/-- The positions the call takes, each projection's in one row. -/
def posK (P : FVec Ideal S1x2x32x64 .f32) : FVec Ideal S2x1x2048 .f32 :=
  shapeCast S2x1x2048 (shapeCast S2x32x64 P shapeCasts_S1x2x32x64_S2x32x64) shapeCasts_S2x32x64_S2x1x2048

/-- The first weights the call takes. -/
def firstK (W : FVec Ideal S1x2x2048x256 .f32) : FVec Ideal S2x2048x256 .bf16 :=
  truncf .bf16 (shapeCast S2x2048x256 W shapeCasts_S1x2x2048x256_S2x2048x256) bitsLt_bf16_f32

/-- The second weights the call takes, their columns twice. -/
def secondK (W : FVec Ideal S1x2x256x64 .f32) : FVec Ideal S2x256x128 .bf16 :=
  truncf .bf16 (concatenate S2x256x128 2 [⟨S2x256x64, shapeCast S2x256x64 W shapeCasts_S1x2x256x64_S2x256x64⟩, ⟨S2x256x64, shapeCast S2x256x64 W shapeCasts_S1x2x256x64_S2x256x64⟩] concatenates_S2x256x64_S2x256x64_S2x256x128_d2) bitsLt_bf16_f32

/-- The positions at an index. -/
theorem posK_at (P : FVec Ideal S1x2x32x64 .f32) (kv : Fin 2) (q : Fin 2048) :
    posK P (ix3 kv 0 q) = P (ix4 0 kv ⟨q.val / 64, by omega⟩ ⟨q.val % 64, Nat.mod_lt _ (by decide)⟩) := by
  pointwise [posK]

/-- The first weights at an index. -/
theorem firstK_at (W : FVec Ideal S1x2x2048x256 .f32) (kv : Fin 2) (q : Fin 2048) (k : Fin 256) : firstK W (ix3 kv q k) = W (ix4 0 kv q k) := by
  pointwise [firstK]

/-- The second weights at an index. -/
theorem secondK_at (W : FVec Ideal S1x2x256x64 .f32) (kv : Fin 2) (k : Fin 256) (j : Fin 128) :
    secondK W (ix3 kv k j) = W (ix4 0 kv k ⟨j.val % 64, Nat.mod_lt _ (by decide)⟩) := by
  pointwise [secondK]
  by_cases h : j.val < 64
  · rw [dif_pos h]
    have e : j.val % 64 = j.val := by omega
    simp only [e]
  · rw [dif_neg h]
    have e : j.val % 64 = j.val - 64 := by omega
    simp only [e]

set_option maxHeartbeats 4000000 in
/-- The call's positions. -/
theorem V5 (c : Dev nD) : (V m c main_v5 : FVec Ideal S2x1x2048 .f32) = posK (m ((c : Thread nD τ).loc main_arg2)) := by
  simp only [V, hostOps0, List.flatten_cons, List.flatten_nil, List.append_nil, List.cons_append, List.nil_append]
  after_results_simp
  rfl

set_option maxHeartbeats 4000000 in
/-- The call's first weights. -/
theorem V6 (c : Dev nD) : (V m c main_v6 : FVec Ideal S2x2048x256 .bf16) = firstK (m ((c : Thread nD τ).loc main_arg3)) := by
  simp only [V, hostOps0, List.flatten_cons, List.flatten_nil, List.append_nil, List.cons_append, List.nil_append]
  after_results_simp
  rfl

set_option maxHeartbeats 4000000 in
/-- The call's second weights. -/
theorem V4 (c : Dev nD) : (V m c main_v4 : FVec Ideal S2x256x128 .bf16) = secondK (m ((c : Thread nD τ).loc main_arg4)) := by
  simp only [V, hostOps0, List.flatten_cons, List.flatten_nil, List.append_nil, List.cons_append, List.nil_append]
  after_results_simp
  rfl

/-- The keys at a grid point. -/
theorem k_block (c : Dev nD) (t : Fin cfg0.N) (s : Fin 2048) (f : Fin 128) :
    (iblk m c 0 t : FVec Ideal S1x2048x128 .f32) (ix3 0 s f) = (m ((c : Thread nD τ).loc main_arg0) : FVec Ideal S32x2048x128 .f32) (ix3 ⟨t.val, points t⟩ s f) := by
  blk_point [iblk, V, idx t]

/-- The values at a grid point. -/
theorem v_block (c : Dev nD) (t : Fin cfg0.N) (s : Fin 2048) (f : Fin 128) :
    (iblk m c 1 t : FVec Ideal S1x2048x128 .f32) (ix3 0 s f) = (m ((c : Thread nD τ).loc main_arg1) : FVec Ideal S32x2048x128 .f32) (ix3 ⟨t.val, points t⟩ s f) := by
  blk_point [iblk, V, idx t]

/-- The positions at a grid point. -/
theorem p_block (c : Dev nD) (t : Fin cfg0.N) (kv : Fin 2) (q : Fin 2048) :
    (iblk m c 2 t : FVec Ideal S2x1x2048 .f32) (ix3 kv 0 q) = (m ((c : Thread nD τ).loc main_arg2) : FVec Ideal S1x2x32x64 .f32) (ix4 0 kv ⟨q.val / 64, by omega⟩ ⟨q.val % 64, Nat.mod_lt _ (by decide)⟩) := by
  have e : (iblk m c 2 t : FVec Ideal S2x1x2048 .f32) (ix3 kv 0 q) = (V m c main_v5 : FVec Ideal S2x1x2048 .f32) (ix3 kv 0 q) := by
    refine congrArg (V m c main_v5 : FVec Ideal S2x1x2048 .f32) ?_
    blk_ext [idx t]
  rw [e, V5]
  exact posK_at _ kv q

/-- The first weights at a grid point. -/
theorem w1_block (c : Dev nD) (t : Fin cfg0.N) (kv : Fin 2) (q : Fin 2048) (k : Fin 256) :
    (iblk m c 3 t : FVec Ideal S2x2048x256 .bf16) (ix3 kv q k) = (m ((c : Thread nD τ).loc main_arg3) : FVec Ideal S1x2x2048x256 .f32) (ix4 0 kv q k) := by
  have e : (iblk m c 3 t : FVec Ideal S2x2048x256 .bf16) (ix3 kv q k) = (V m c main_v6 : FVec Ideal S2x2048x256 .bf16) (ix3 kv q k) := by
    refine congrArg (V m c main_v6 : FVec Ideal S2x2048x256 .bf16) ?_
    blk_ext [idx t]
  rw [e, V6]
  exact firstK_at _ kv q k

/-- The second weights at a grid point. -/
theorem w2_block (c : Dev nD) (t : Fin cfg0.N) (kv : Fin 2) (k : Fin 256) (j : Fin 128) :
    (iblk m c 4 t : FVec Ideal S2x256x128 .bf16) (ix3 kv k j) = (m ((c : Thread nD τ).loc main_arg4) : FVec Ideal S1x2x256x64 .f32) (ix4 0 kv k ⟨j.val % 64, Nat.mod_lt _ (by decide)⟩) := by
  have e : (iblk m c 4 t : FVec Ideal S2x256x128 .bf16) (ix3 kv k j) = (V m c main_v4 : FVec Ideal S2x256x128 .bf16) (ix3 kv k j) := by
    refine congrArg (V m c main_v4 : FVec Ideal S2x256x128 .bf16) ?_
    blk_ext [idx t]
  rw [e, V4]
  exact secondK_at _ kv k j

/-- Where a grid point's block lies in the result. -/
theorem emb5 (t : Fin cfg0.N) (y : S1x4x128x128.Idx) : (((View.whole main_v7).slice (win0_5.rect t)).emb y : S32x4x128x128.Idx) = ix4 ⟨t.val, points t⟩ (y 1) (y 2) (y 3) := by
  blk_ext [idx t]

/-- An index of a store, by its coordinates. -/
theorem tile_ix (y : S1x1x128x128.Idx) : y = ix4 0 0 (y 2) (y 3) := by
  funext a
  refine Fin.ext ?_
  fin_cases a <;> (try rfl)
  · exact Nat.lt_one_iff.1 (y 0).isLt
  · exact Nat.lt_one_iff.1 (y 1).isLt

/-- The reference's result at a place of a grid point's block. -/
theorem whole_block (c : Dev nD) (t : Fin cfg0.N) (y : S1x4x128x128.Idx) (s : Fin 4) (n j : Fin 128) (hs : (y 1).val = s.val) (hn : (y 2).val = n.val) (hj : (y 3).val = j.val) :
    whole (m ((c : Thread nD τ).loc main_arg0)) (m ((c : Thread nD τ).loc main_arg1)) (m ((c : Thread nD τ).loc main_arg2)) (m ((c : Thread nD τ).loc main_arg3)) (m ((c : Thread nD τ).loc main_arg4)) (((View.whole main_v7).slice (win0_5.rect t)).emb y)
      = if h : s.val < 2 then slot (m ((c : Thread nD τ).loc main_arg0)) (m ((c : Thread nD τ).loc main_arg2)) (m ((c : Thread nD τ).loc main_arg3)) (m ((c : Thread nD τ).loc main_arg4)) 0 ⟨t.val, points t⟩ ⟨s.val, h⟩ n j
        else slot (m ((c : Thread nD τ).loc main_arg1)) (m ((c : Thread nD τ).loc main_arg2)) (m ((c : Thread nD τ).loc main_arg3)) (m ((c : Thread nD τ).loc main_arg4)) 1 ⟨t.val, points t⟩ ⟨s.val - 2, by omega⟩ n j := by
  have e : (((View.whole main_v7).slice (win0_5.rect t)).emb y : S32x4x128x128.Idx) = ix4 ⟨t.val, points t⟩ s n j := by
    obtain rfl : y 1 = s := Fin.ext hs
    obtain rfl : y 2 = n := Fin.ext hn
    obtain rfl : y 3 = j := Fin.ext hj
    exact emb5 t y
  exact (congrArg (whole (m ((c : Thread nD τ).loc main_arg0)) (m ((c : Thread nD τ).loc main_arg1)) (m ((c : Thread nD τ).loc main_arg2)) (m ((c : Thread nD τ).loc main_arg3)) (m ((c : Thread nD τ).loc main_arg4))) e).trans (whole_at _ _ _ _ _ _ s n j)

/-- What a grid point's blocks hold for the keys. -/
theorem holdsK (c : Dev nD) (t : Fin cfg0.N) (ip ia ib iw) :
    Holds (iblk m c 0 t) (View.ld (iblk m c 2 t : FVec Ideal S2x1x2048 .f32) (Rect.unit (s := S2x1x2048) ![0, 0, 0] ![1, 1, 2048] ip))
      (View.ld (iblk m c 3 t : FVec Ideal S2x2048x256 .bf16) (Rect.unit (s := S2x2048x256) ![0, 0, 0] ![1, 1024, 256] ia))
      (View.ld (iblk m c 3 t : FVec Ideal S2x2048x256 .bf16) (Rect.unit (s := S2x2048x256) ![0, 1024, 0] ![1, 1024, 256] ib))
      (View.ld (iblk m c 4 t : FVec Ideal S2x256x128 .bf16) (Rect.unit (s := S2x256x128) ![0, 0, 0] ![1, 256, 128] iw))
      (fun s f => (m ((c : Thread nD τ).loc main_arg0) : FVec Ideal S32x2048x128 .f32) (ix3 ⟨t.val, points t⟩ s f))
      (fun l d => (m ((c : Thread nD τ).loc main_arg2) : FVec Ideal S1x2x32x64 .f32) (ix4 0 0 l d))
      (fun q k => (m ((c : Thread nD τ).loc main_arg3) : FVec Ideal S1x2x2048x256 .f32) (ix4 0 0 q k))
      (fun k j => (m ((c : Thread nD τ).loc main_arg4) : FVec Ideal S1x2x256x64 .f32) (ix4 0 0 k j)) where
  tokens := k_block m c t
  positions q := (ld_box (Val := Elt Ideal) (ty := .f32) (iblk m c 2 t : FVec Ideal S2x1x2048 .f32) ip 0 0 q (by decide) (by decide) (by omega)).trans
    ((congrArg (fun x : Fin 2048 => (iblk m c 2 t : FVec Ideal S2x1x2048 .f32) (ix3 0 0 x)) (Fin.ext (Nat.zero_add _))).trans (p_block m c t 0 q))
  first q k := (ld_box (Val := Elt Ideal) (ty := .bf16) (iblk m c 3 t : FVec Ideal S2x2048x256 .bf16) ia 0 q k (by decide) (by omega) (by omega)).trans
    ((congrArg₂ (fun (x : Fin 2048) (y : Fin 256) => (iblk m c 3 t : FVec Ideal S2x2048x256 .bf16) (ix3 0 x y)) (Fin.ext (Nat.zero_add _)) (Fin.ext (Nat.zero_add _))).trans (w1_block m c t 0 ⟨q.val, by omega⟩ k))
  second q k := (ld_box (Val := Elt Ideal) (ty := .bf16) (iblk m c 3 t : FVec Ideal S2x2048x256 .bf16) ib 0 q k (by decide) (by omega) (by omega)).trans
    ((congrArg₂ (fun (x : Fin 2048) (y : Fin 256) => (iblk m c 3 t : FVec Ideal S2x2048x256 .bf16) (ix3 0 x y)) rfl (Fin.ext (Nat.zero_add _))).trans (w1_block m c t 0 ⟨1024 + q.val, by omega⟩ k))
  out k j := (ld_box (Val := Elt Ideal) (ty := .bf16) (iblk m c 4 t : FVec Ideal S2x256x128 .bf16) iw 0 k j (by decide) (by omega) (by omega)).trans
    ((congrArg₂ (fun (x : Fin 256) (y : Fin 128) => (iblk m c 4 t : FVec Ideal S2x256x128 .bf16) (ix3 0 x y)) (Fin.ext (Nat.zero_add _)) (Fin.ext (Nat.zero_add _))).trans (w2_block m c t 0 k j))

/-- What a grid point's blocks hold for the values. -/
theorem holdsV (c : Dev nD) (t : Fin cfg0.N) (ip ia ib iw) :
    Holds (iblk m c 1 t) (View.ld (iblk m c 2 t : FVec Ideal S2x1x2048 .f32) (Rect.unit (s := S2x1x2048) ![1, 0, 0] ![1, 1, 2048] ip))
      (View.ld (iblk m c 3 t : FVec Ideal S2x2048x256 .bf16) (Rect.unit (s := S2x2048x256) ![1, 0, 0] ![1, 1024, 256] ia))
      (View.ld (iblk m c 3 t : FVec Ideal S2x2048x256 .bf16) (Rect.unit (s := S2x2048x256) ![1, 1024, 0] ![1, 1024, 256] ib))
      (View.ld (iblk m c 4 t : FVec Ideal S2x256x128 .bf16) (Rect.unit (s := S2x256x128) ![1, 0, 0] ![1, 256, 128] iw))
      (fun s f => (m ((c : Thread nD τ).loc main_arg1) : FVec Ideal S32x2048x128 .f32) (ix3 ⟨t.val, points t⟩ s f))
      (fun l d => (m ((c : Thread nD τ).loc main_arg2) : FVec Ideal S1x2x32x64 .f32) (ix4 0 1 l d))
      (fun q k => (m ((c : Thread nD τ).loc main_arg3) : FVec Ideal S1x2x2048x256 .f32) (ix4 0 1 q k))
      (fun k j => (m ((c : Thread nD τ).loc main_arg4) : FVec Ideal S1x2x256x64 .f32) (ix4 0 1 k j)) where
  tokens := v_block m c t
  positions q := (ld_box (Val := Elt Ideal) (ty := .f32) (iblk m c 2 t : FVec Ideal S2x1x2048 .f32) ip 0 0 q (by decide) (by decide) (by omega)).trans
    ((congrArg (fun x : Fin 2048 => (iblk m c 2 t : FVec Ideal S2x1x2048 .f32) (ix3 1 0 x)) (Fin.ext (Nat.zero_add _))).trans (p_block m c t 1 q))
  first q k := (ld_box (Val := Elt Ideal) (ty := .bf16) (iblk m c 3 t : FVec Ideal S2x2048x256 .bf16) ia 0 q k (by decide) (by omega) (by omega)).trans
    ((congrArg₂ (fun (x : Fin 2048) (y : Fin 256) => (iblk m c 3 t : FVec Ideal S2x2048x256 .bf16) (ix3 1 x y)) (Fin.ext (Nat.zero_add _)) (Fin.ext (Nat.zero_add _))).trans (w1_block m c t 1 ⟨q.val, by omega⟩ k))
  second q k := (ld_box (Val := Elt Ideal) (ty := .bf16) (iblk m c 3 t : FVec Ideal S2x2048x256 .bf16) ib 0 q k (by decide) (by omega) (by omega)).trans
    ((congrArg₂ (fun (x : Fin 2048) (y : Fin 256) => (iblk m c 3 t : FVec Ideal S2x2048x256 .bf16) (ix3 1 x y)) rfl (Fin.ext (Nat.zero_add _))).trans (w1_block m c t 1 ⟨1024 + q.val, by omega⟩ k))
  out k j := (ld_box (Val := Elt Ideal) (ty := .bf16) (iblk m c 4 t : FVec Ideal S2x256x128 .bf16) iw 0 k j (by decide) (by omega) (by omega)).trans
    ((congrArg₂ (fun (x : Fin 256) (y : Fin 128) => (iblk m c 4 t : FVec Ideal S2x256x128 .bf16) (ix3 1 x y)) (Fin.ext (Nat.zero_add _)) (Fin.ext (Nat.zero_add _))).trans (w2_block m c t 1 k j))

/-- The kernel's result array after the run is the reference's. -/
theorem final (c : Dev nD) :
    (dats m 0 c).arrAt 5 (cfgs 0).N = whole (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ z => ?_
  blk_simp
  rw [after0_5]
  unfold Gen.outsAt0
  frame_out
  canon_tiles z h
  case piece0 =>
    rw [tile_ix z]
    refine ((holdsV m c t _ _ _ _).high (ms0_1 t) (hs0_1 t) (z 2) (z 3)).trans ?_
    exact (whole_block m c t _ 3 (z 2) (z 3) (by show _ = 3; omega) (by omega) (by omega)).symm
  case piece1 =>
    rw [tile_ix z]
    refine ((holdsV m c t _ _ _ _).low (ms0_1 t) (hs0_1 t) (z 2) (z 3)).trans ?_
    exact (whole_block m c t _ 2 (z 2) (z 3) (by show _ = 2; omega) (by omega) (by omega)).symm
  case piece2 =>
    rw [tile_ix z]
    refine ((holdsK m c t _ _ _ _).high (ms0_0 t) (hs0_0 t) (z 2) (z 3)).trans ?_
    exact (whole_block m c t _ 1 (z 2) (z 3) (by show _ = 1; omega) (by omega) (by omega)).symm
  case piece3 =>
    rw [tile_ix z]
    refine ((holdsK m c t _ _ _ _).low (ms0_0 t) (hs0_0 t) (z 2) (z 3)).trans ?_
    exact (whole_block m c t _ 0 (z 2) (z 3) (by show _ = 0; omega) (by omega) (by omega)).symm

end Cert.CompressIdeal.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.FfnRefIdeal
public import proofs.«01_k».proof.Proof.Gen.FfnRefIdeal.Run
public import proofs.«01_k».proof.Proof.Gen.MergeRefIdeal
public import proofs.«01_k».proof.Proof.Gen.MergeRefIdeal.Run
public import proofs.«01_k».proof.Proof.Gen.InProjRefIdeal
public import proofs.«01_k».proof.Proof.Gen.InProjRefIdeal.Run
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressRefIdeal
public import proofs.«01_k».proof.Proof.Gen.CompressRefIdeal.Run
public import Idealize.ShloMosaic.Adequacy
public import Idealize.ShloMosaic.Init
public import Idealize.ShloMosaic.Lib.Claim
public import proofs.«01_k».proof.Proof.Agree
public import proofs.«01_k».proof.Proof.Equal
public import proofs.«01_k».proof.Proof.InProjKernelRun
public import proofs.«01_k».proof.Proof.InProjRun
public import proofs.«01_k».proof.Proof.CompressFinal

@[expose] public section

noncomputable section

namespace Cert.Proof

open Idealize.ShloMosaic Idealize.SL.Sem Cert.Kernel

/-- The reference returns, leaves its arguments as they were, and every semaphore counter at zero. -/
theorem reference_frame : Cert.quiescent_ReferenceIdeal := by
  intro m g _
  refine (θ_run _ _ _).mono (fun r h => ⟨fun c => (h c).2, ?_⟩) (Cert.ReferenceIdeal.Value.run m g)
  exact sem_eq_zero_of_no_sems (by decide) r.2

/-- From finite arguments the kernel and the reference end holding the same result. -/
theorem differential : Cert.algebraic_KernelIdeal_ReferenceIdeal_pre_finite := by
  pair_intro
  · run_from Cert.KernelIdeal.Gen.run_main m g
  · run_from Cert.ReferenceIdeal.Value.run m' g'
    obtain ⟨h0, h1, h2, h3⟩ := hpre c
    have hq := fun i => Cert.Agree.real_of_lt _ (congrFun h0 i)
    have hk := fun i => Cert.Agree.real_of_lt _ (congrFun h1 i)
    have hv := fun i => Cert.Agree.real_of_lt _ (congrFun h2 i)
    have hL := fun i => Cert.Agree.real_of_lt _ (congrFun h3 i)
    obtain ⟨lam, hl⟩ := Cert.Agree.lam_real _ hL
    obtain ⟨a0, a1, a2, a3, a4⟩ := hagree c
    refine (Cert.ReferenceIdeal.Diff.staged m' c).trans ?_
    rw [a0, a1, a2, a3, a4]
    refine (Cert.Agree.ref_out _ _ _ lam _ _ _ _ _ (Cert.Agree.entry_eq _ hq) (Cert.Agree.entry_eq _ hk) (Cert.Agree.entry_eq _ hv) hl).trans ?_
    exact (Cert.KernelIdeal.Diff.final m _ _ _ lam c (Cert.Agree.entry_eq _ hq) (Cert.Agree.entry_eq _ hk) (Cert.Agree.entry_eq _ hv) hl).symm

/-- The feed-forward reference returns, leaves its arguments as they were, and every semaphore counter at zero. -/
theorem ffn_reference_frame : Cert.quiescent_FfnRefIdeal := by
  intro m g _
  refine (θ_run _ _ _).mono (fun r h => ⟨fun c => (h c).2, ?_⟩) (Cert.FfnRefIdeal.Value.run m g)
  exact sem_eq_zero_of_no_sems (by decide) r.2

/-- The feed-forward kernel and its reference end holding the same result. -/
theorem ffn_equal : Cert.algebraic_FfnIdeal_FfnRefIdeal := by
  pair_intro
  · run_from Cert.FfnIdeal.Gen.run_main m g
  · run_from Cert.FfnRefIdeal.Stage.run m' g'
    refine Eq.trans ?_ (Cert.FfnIdeal.Tile.final m c).symm
    exact Cert.Layer.ffn_whole _ _ _ _ _

/-- The merge's reference returns, leaves its arguments as they were, and every semaphore counter at zero. -/
theorem merge_reference_frame : Cert.quiescent_MergeRefIdeal := by
  intro m g _
  refine (θ_run _ _ _).mono (fun r h => ⟨fun c => (h c).2, ?_⟩) (Cert.MergeRefIdeal.Value.run m g)
  exact sem_eq_zero_of_no_sems (by decide) r.2

/-- The merge's kernel and its reference end holding the same result. -/
theorem merge_equal : Cert.algebraic_MergeIdeal_MergeRefIdeal := by
  pair_intro
  · run_from Cert.MergeIdeal.Gen.run_main m g
  · run_from Cert.MergeRefIdeal.Stage.run m' g'
    refine Eq.trans ?_ (Cert.MergeIdeal.Tile.final m c).symm
    exact Cert.Layer.merge_whole _ _ _ _ _ _ _ _ _ _ _ _ _

/-- The projections' reference returns, leaves its arguments as they were, and every semaphore counter at zero. -/
theorem inproj_reference_frame : Cert.quiescent_InProjRefIdeal := by
  intro m g _
  refine (θ_run _ _ _).mono (fun r h => ⟨fun c => (h c).2.2.2.2.2.2.2.2.2.2.2.2, ?_⟩) (Cert.InProjRefIdeal.Value.run m g)
  exact sem_eq_zero_of_no_sems (by decide) r.2

/-- The projections' kernel and its reference end holding the same twelve results. -/
theorem inproj_equal : Cert.algebraic_InProjIdeal_InProjRefIdeal := by
  pair_intro
  · run_from Cert.InProjIdeal.Tile.run m g
  · refine (θ_run _ _ _).mono (fun r h c => ?_) (Cert.InProjRefIdeal.Stage.run m' g')
    obtain ⟨a0, a1, a2⟩ := hagree c
    obtain ⟨h1, h2, h3, h4, h5, h6, h7, h8, h9, h10, h11, h12, hk⟩ := h c
    rw [a0, a1, a2] at h1 h2 h3 h4 h5 h6 h7 h8 h9 h10 h11 h12
    exact ⟨h1, h2, h3, h4, h5, h6, h7, h8, h9, h10, h11, h12, hk⟩

/-- The compression's reference returns, leaves its arguments as they were, and every semaphore counter at zero. -/
theorem compress_reference_frame : Cert.quiescent_CompressRefIdeal := by
  intro m g _
  refine (θ_run _ _ _).mono (fun r h => ⟨fun c => (h c).2, ?_⟩) (Cert.CompressRefIdeal.Value.run m g)
  exact sem_eq_zero_of_no_sems (by decide) r.2

/-- The compression's kernel and its reference end holding the same result. -/
theorem compress_equal : Cert.algebraic_CompressIdeal_CompressRefIdeal := by
  pair_intro
  · run_from Cert.CompressIdeal.Gen.run_main m g
  · run_from Cert.CompressRefIdeal.Stage.run m' g'
    exact (Cert.CompressIdeal.Tile.final m c).symm

/-- The certificate. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts,
  Cert.Merge.Gen.facts, Cert.MergeIdeal.Gen.facts, Cert.MergeRefIdeal.Gen.facts, Cert.InProj.Gen.facts, Cert.InProjIdeal.Gen.facts, Cert.InProjRefIdeal.Gen.facts,
  Cert.Compress.Gen.facts, Cert.CompressIdeal.Gen.facts, Cert.CompressRefIdeal.Gen.facts, Cert.Pre_finite.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Ffn.Gen.frame m g,
  fun m g _ => Cert.FfnIdeal.Gen.frame m g,
  ffn_reference_frame,
  fun m g _ => Cert.Merge.Gen.frame m g,
  fun m g _ => Cert.MergeIdeal.Gen.frame m g,
  merge_reference_frame,
  fun m g _ => Cert.InProj.Gen.frame m g,
  fun m g _ => Cert.InProjIdeal.Gen.frame m g,
  inproj_reference_frame,
  fun m g _ => Cert.Compress.Gen.frame m g,
  fun m g _ => Cert.CompressIdeal.Gen.frame m g,
  compress_reference_frame,
  ⟨IdealRules.named_const.statement Cert.KernelIdeal.κ "mask" .f32 0xF149F2CA#32 ⊥ rfl,
   IdealRules.named_const.statement Cert.KernelIdeal.κ "qscale" .f32 0x3E38AA3B#32 (((1 / 8) * (Real.log 2)⁻¹ : ℝ) : EReal) rfl⟩,
  differential,
  trivial,
  ffn_equal,
  trivial,
  merge_equal,
  trivial,
  inproj_equal,
  trivial,
  compress_equal⟩

end Cert.Proof

end
